-- ==== Defs.lean ====
def Pre_Gather [hPre_idx_in_rows : Cert.Pre_idx_in_rows.Facts] (m : (ℓ : Loc Cert.Gather.nD Cert.Gather.τ Cert.Gather.sig) → Buf (Elt Bits) ℓ) : Prop :=
  ∀ c : Dev Cert.Gather.nD,
    (Cert.Pre_idx_in_rows.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2))) = (fun _ => 1#1)

def Pre_GatherIdeal [hPre_idx_in_rows : Cert.Pre_idx_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_idx_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2))) = (fun _ => 1#1)

def Pre_GatherRefIdeal [hPre_idx_in_rows : Cert.Pre_idx_in_rows.Facts] (m : (ℓ : Loc Cert.GatherRefIdeal.nD Cert.GatherRefIdeal.τ Cert.GatherRefIdeal.sig) → Buf (Elt Ideal) ℓ) : Prop :=
  ∀ c : Dev Cert.GatherRefIdeal.nD,
    (Cert.Pre_idx_in_rows.fn (F := Ideal) (m ((c.tc : Thread Cert.GatherRefIdeal.nD Cert.GatherRefIdeal.τ).loc Cert.GatherRefIdeal.main_arg0)) (m ((c.tc : Thread Cert.GatherRefIdeal.nD Cert.GatherRefIdeal.τ).loc Cert.GatherRefIdeal.main_arg1)) (m ((c.tc : Thread Cert.GatherRefIdeal.nD Cert.GatherRefIdeal.τ).loc Cert.GatherRefIdeal.main_arg2))) = (fun _ => 1#1)

def Pre_KernelIdeal [hPre_coords_in_range : Cert.Pre_coords_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_coords_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_coords_in_range : Cert.Pre_coords_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_coords_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Gather [hGather : Cert.Gather.Facts] [hPre_idx_in_rows : Cert.Pre_idx_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2))
      ∧ r.2.sem = fun _ => 0)

def quiescent_GatherIdeal [hGatherIdeal : Cert.GatherIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ r.2.sem = fun _ => 0)

def quiescent_GatherRefIdeal [hGatherRefIdeal : Cert.GatherRefIdeal.Facts] [hPre_idx_in_rows : Cert.Pre_idx_in_rows.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2))
      ∧ r.2.sem = fun _ => 0)

def quiescent_KernelIdeal [hKernelIdeal : Cert.KernelIdeal.Facts] [hPre_coords_in_range : Cert.Pre_coords_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_coords_in_range : Cert.Pre_coords_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] [hPre_idx_in_rows : Cert.Pre_idx_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m' ((c.tc : Thread Cert.GatherRefIdeal.nD Cert.GatherRefIdeal.τ).loc Cert.GatherRefIdeal.main_arg0) = m ((c.tc : Thread Cert.GatherIdeal.nD Cert.GatherIdeal.τ).loc Cert.GatherIdeal.main_arg0)
      ∧ m' ((c.tc : Thread Cert.GatherRefIdeal.nD Cert.GatherRefIdeal.τ).loc Cert.GatherRefIdeal.main_arg1) = m ((c.tc : Thread Cert.GatherIdeal.nD Cert.GatherIdeal.τ).loc Cert.GatherIdeal.main_arg1)
      ∧ m' ((c.tc : Thread Cert.GatherRefIdeal.nD Cert.GatherRefIdeal.τ).loc Cert.GatherRefIdeal.main_arg2) = m ((c.tc : Thread Cert.GatherIdeal.nD Cert.GatherIdeal.τ).loc Cert.GatherIdeal.main_arg2)) →
    ∃ (v0 : (c : Dev Cert.GatherIdeal.nD) → Buf (Elt Ideal) ((c.tc : Thread Cert.GatherIdeal.nD Cert.GatherIdeal.τ).loc Cert.GatherIdeal.main_v3)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v3) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2))
      ∧ θ_run (Cert.GatherRefIdeal.defs (F := Ideal)) (onTc (τ := Cert.GatherRefIdeal.τ) (Cert.GatherRefIdeal.main (F := Ideal))) ⟨m', fun _ => 0, g'⟩ (fun r => ∀ c : Dev Cert.GatherRefIdeal.nD,
          r.2.mem ((c.tc : Thread Cert.GatherRefIdeal.nD Cert.GatherRefIdeal.τ).loc Cert.GatherRefIdeal.main_v10) = v0 c
          ∧ r.2.mem ((c.tc : Thread Cert.GatherRefIdeal.nD Cert.GatherRefIdeal.τ).loc Cert.GatherRefIdeal.main_arg0) = m' ((c.tc : Thread Cert.GatherRefIdeal.nD Cert.GatherRefIdeal.τ).loc Cert.GatherRefIdeal.main_arg0)
          ∧ r.2.mem ((c.tc : Thread Cert.GatherRefIdeal.nD Cert.GatherRefIdeal.τ).loc Cert.GatherRefIdeal.main_arg1) = m' ((c.tc : Thread Cert.GatherRefIdeal.nD Cert.GatherRefIdeal.τ).loc Cert.GatherRefIdeal.main_arg1)
          ∧ r.2.mem ((c.tc : Thread Cert.GatherRefIdeal.nD Cert.GatherRefIdeal.τ).loc Cert.GatherRefIdeal.main_arg2) = m' ((c.tc : Thread Cert.GatherRefIdeal.nD Cert.GatherRefIdeal.τ).loc Cert.GatherRefIdeal.main_arg2))

def algebraic_KernelIdeal_ReferenceIdeal [hKernelIdeal : Cert.KernelIdeal.Facts] [hReferenceIdeal : Cert.ReferenceIdeal.Facts] [hPre_coords_in_range : Cert.Pre_coords_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hGather : Cert.Gather.Facts) (hGatherIdeal : Cert.GatherIdeal.Facts) (hGatherRefIdeal : Cert.GatherRefIdeal.Facts) (hKernelIdeal : Cert.KernelIdeal.Facts) (hReferenceIdeal : Cert.ReferenceIdeal.Facts) (hPre_idx_in_rows : Cert.Pre_idx_in_rows.Facts) (hPre_coords_in_range : Cert.Pre_coords_in_range.Facts),
    quiescent_Gather (hGather := hGather) (hPre_idx_in_rows := hPre_idx_in_rows)
    ∧ quiescent_GatherIdeal (hGatherIdeal := hGatherIdeal) (hPre_idx_in_rows := hPre_idx_in_rows)
    ∧ quiescent_GatherRefIdeal (hGatherRefIdeal := hGatherRefIdeal) (hPre_idx_in_rows := hPre_idx_in_rows)
    ∧ quiescent_KernelIdeal (hKernelIdeal := hKernelIdeal) (hPre_coords_in_range := hPre_coords_in_range)
    ∧ quiescent_ReferenceIdeal (hReferenceIdeal := hReferenceIdeal) (hPre_coords_in_range := hPre_coords_in_range)
    ∧ preserves_Gather_GatherIdeal
    ∧ algebraic_GatherIdeal_GatherRefIdeal (hGatherIdeal := hGatherIdeal) (hGatherRefIdeal := hGatherRefIdeal) (hPre_idx_in_rows := hPre_idx_in_rows)
    ∧ algebraic_KernelIdeal_ReferenceIdeal (hKernelIdeal := hKernelIdeal) (hReferenceIdeal := hReferenceIdeal) (hPre_coords_in_range := hPre_coords_in_range)
-- ==== Pre_coords_in_range.lean ====
abbrev S4096x64 : Shape := ⟨2, ![4096, 64]⟩
abbrev S100000x64 : Shape := ⟨2, ![100000, 64]⟩
abbrev S100000 : Shape := ⟨1, ![100000]⟩
abbrev S100000x128 : Shape := ⟨2, ![100000, 128]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S4096x64 .f32) (main_arg1 : FVec F S100000x64 .f32) (main_arg2 : FVec F S100000 .f32) (main_arg3 : FVec F S100000x128 .f32) : IVec S_ 1 :=
  let main_v0 : FVec F S4096x64 .f32 := Host.absf main_arg0
  let main_cst : FVec F S_ .f32 := constant S_ .f32 0x47C35000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S100000x64 .f32 := Host.absf main_arg1
  let main_cst_0 : FVec F S_ .f32 := constant S_ .f32 0x47C35000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Pre_idx_in_rows.lean ====
abbrev S100000x128 : Shape := ⟨2, ![100000, 128]⟩
abbrev S4096x8 : Shape := ⟨2, ![4096, 8]⟩
abbrev S_ : Shape := ⟨0, ![]⟩

class Facts : Prop where
  bcast_S_S4096x8 : S_.BroadcastsInDim S4096x8 (![] : Fin 0 → Fin S4096x8.rank)

variable [Facts]

def fn {F : FTy → Type} [FloatOps F] (main_arg0 : FVec F S100000x128 .f32) (main_arg1 : IVec S4096x8 32) (main_arg2 : FVec F S4096x8 .f32) : IVec S4096x8 1 :=
  let main_c : IVec S_ 32 := constantI S_ 32 0#32
  let main_v0 : IVec S4096x8 32 := broadcastInDim S4096x8 ![] bcast_S_S4096x8 main_c
  let main_v1 : IVec S4096x8 1 := cmpi .sge main_arg1 main_v0
  let main_c_0 : IVec S_ 32 := constantI S_ 32 100000#32
  let main_v2 : IVec S4096x8 32 := broadcastInDim S4096x8 ![] bcast_S_S4096x8 main_c_0
  let main_v3 : IVec S4096x8 1 := cmpi .slt main_arg1 main_v2
  let main_v4 : IVec S4096x8 1 := andi main_v1 main_v3
  main_v4
-- ==== Gather.lean ====
abbrev S100000x128 : Shape := ⟨2, ![100000, 128]⟩
abbrev S4096x8 : Shape := ⟨2, ![4096, 8]⟩
abbrev S32768 : Shape := ⟨1, ![32768]⟩
abbrev S32768x128 : Shape := ⟨2, ![32768, 128]⟩
abbrev S128 : Shape := ⟨1, ![128]⟩
abbrev S128x128 : Shape := ⟨2, ![128, 128]⟩
abbrev S_ : Shape := ⟨0, ![]⟩
abbrev S4096x8x128 : Shape := ⟨3, ![4096, 8, 128]⟩
abbrev S4096x128 : Shape := ⟨2, ![4096, 128]⟩
abbrev S512x8x128 : Shape := ⟨3, ![512, 8, 128]⟩
abbrev S512x8 : Shape := ⟨2, ![512, 8]⟩
abbrev S512x128 : Shape := ⟨2, ![512, 128]⟩
abbrev S512x8x1 : Shape := ⟨3, ![512, 8, 1]⟩

abbrev nBuf : Table → Nat
  | .hbm => 7
  | .local .tc .vmem => 6
  | .local .scVector .vmem => 2
  | _ => 0

abbrev bufTy : (tb : Table) → Fin (nBuf tb) → BufTy
  | .hbm, ⟨0, _⟩ => ⟨S100000x128, .f32⟩
  | .hbm, ⟨1, _⟩ => ⟨S4096x8, .i32⟩
  | .hbm, ⟨2, _⟩ => ⟨S4096x8, .f32⟩
  | .hbm, ⟨3, _⟩ => ⟨S32768, .i32⟩
  | .hbm, ⟨4, _⟩ => ⟨S32768x128, .f32⟩
  | .hbm, ⟨5, _⟩ => ⟨S4096x8x128, .f32⟩
  | .hbm, ⟨6, _⟩ => ⟨S4096x128, .f32⟩
  | .local .tc .vmem, ⟨0, _⟩ => ⟨S512x8x128, .f32⟩
  | .local .tc .vmem, ⟨1, _⟩ => ⟨S512x8x128, .f32⟩
  | .local .tc .vmem, ⟨2, _⟩ => ⟨S512x8, .f32⟩
  | .local .tc .vmem, ⟨3, _⟩ => ⟨S512x8, .f32⟩
  | .local .tc .vmem, ⟨4, _⟩ => ⟨S512x128, .f32⟩
  | .local .tc .vmem, ⟨5, _⟩ => ⟨S512x128, .f32⟩
  | .local .scVector .vmem, ⟨0, _⟩ => ⟨S128, .i32⟩
  | .local .scVector .vmem, ⟨1, _⟩ => ⟨S128x128, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v0_scv : Ref sig .scVector := ⟨.hbm, 3, rfl⟩
abbrev main_v1_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_32_r1 : BitVec 32 := 0#32
  ![v3.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherRefIdeal.lean ====
abbrev S100000x128 : Shape := ⟨2, ![100000, 128]⟩
abbrev S4096x8 : Shape := ⟨2, ![4096, 8]⟩
abbrev S4096x8x1 : Shape := ⟨3, ![4096, 8, 1]⟩
abbrev S_ : Shape := ⟨0, ![]⟩
abbrev S4096x8x128 : Shape := ⟨3, ![4096, 8, 128]⟩
abbrev S4096x128 : Shape := ⟨2, ![4096, 128]⟩

abbrev nBuf : Space → Nat
  | .hbm => 17
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4096x8, .i32⟩
  | .hbm, ⟨2, _⟩ => ⟨S4096x8, .f32⟩
  | .hbm, ⟨3, _⟩ => ⟨S4096x8x1, .f32⟩
  | .hbm, ⟨4, _⟩ => ⟨S_, .i32⟩
  | .hbm, ⟨5, _⟩ => ⟨S4096x8, .i32⟩
  | .hbm, ⟨6, _⟩ => ⟨S4096x8, .i1⟩
  | .hbm, ⟨7, _⟩ => ⟨S_, .i32⟩
  | .hbm, ⟨8, _⟩ => ⟨S4096x8, .i32⟩
  | .hbm, ⟨9, _⟩ => ⟨S4096x8, .i32⟩
  | .hbm, ⟨10, _⟩ => ⟨S4096x8, .i32⟩
  | .hbm, ⟨11, _⟩ => ⟨S4096x8x1, .i32⟩
  | .hbm, ⟨12, _⟩ => ⟨S4096x8x128, .f32⟩
  | .hbm, ⟨13, _⟩ => ⟨S4096x8x128, .f32⟩
  | .hbm, ⟨14, _⟩ => ⟨S4096x8x128, .f32⟩
  | .hbm, ⟨15, _⟩ => ⟨S_, .f32⟩
  | .hbm, ⟨16, _⟩ => ⟨S4096x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== KernelIdeal.lean ====
abbrev S4096x64 : Shape := ⟨2, ![4096, 64]⟩
abbrev S100000x64 : Shape := ⟨2, ![100000, 64]⟩
abbrev S100000 : Shape := ⟨1, ![100000]⟩
abbrev S100000x128 : Shape := ⟨2, ![100000, 128]⟩
abbrev S_ : Shape := ⟨0, ![]⟩
abbrev S100352x64 : Shape := ⟨2, ![100352, 64]⟩
abbrev S100352 : Shape := ⟨1, ![100352]⟩
abbrev S64x100352 : Shape := ⟨2, ![64, 100352]⟩
abbrev S1x100352 : Shape := ⟨2, ![1, 100352]⟩
abbrev S4096x8 : Shape := ⟨2, ![4096, 8]⟩
abbrev S512x64 : Shape := ⟨2, ![512, 64]⟩
abbrev S64x2048 : Shape := ⟨2, ![64, 2048]⟩
abbrev S1x2048 : Shape := ⟨2, ![1, 2048]⟩
abbrev S512x8 : Shape := ⟨2, ![512, 8]⟩
abbrev S512x16 : Shape := ⟨2, ![512, 16]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1x512x1 : Shape := ⟨3, ![1, 512, 1]⟩
abbrev S1 : Shape := ⟨1, ![1]⟩
abbrev S1x1x1 : Shape := ⟨3, ![1, 1, 1]⟩
abbrev S32768 : Shape := ⟨1, ![32768]⟩
abbrev S32768x128 : Shape := ⟨2, ![32768, 128]⟩
abbrev S128 : Shape := ⟨1, ![128]⟩
abbrev S128x128 : Shape := ⟨2, ![128, 128]⟩
abbrev S4096x8x128 : Shape := ⟨3, ![4096, 8, 128]⟩
abbrev S4096x128 : Shape := ⟨2, ![4096, 128]⟩
abbrev S512x8x128 : Shape := ⟨3, ![512, 8, 128]⟩
abbrev S512x128 : Shape := ⟨2, ![512, 128]⟩
abbrev S512x8x1 : Shape := ⟨3, ![512, 8, 1]⟩

abbrev nBuf : Table → Nat
  | .hbm => 18
  | .local .tc .vmem => 19
  | .local .scVector .vmem => 2
  | _ => 0

abbrev bufTy : (tb : Table) → Fin (nBuf tb) → BufTy
  | .hbm, ⟨0, _⟩ => ⟨S4096x64, .f32⟩
  | .hbm, ⟨1, _⟩ => ⟨S100000x64, .f32⟩
  | .hbm, ⟨2, _⟩ => ⟨S100000, .f32⟩
  | .hbm, ⟨3, _⟩ => ⟨S100000x128, .f32⟩
  | .hbm, ⟨4, _⟩ => ⟨S_, .f32⟩
  | .hbm, ⟨5, _⟩ => ⟨S_, .f32⟩
  | .hbm, ⟨6, _⟩ => ⟨S100352x64, .f32⟩
  | .hbm, ⟨7, _⟩ => ⟨S_, .i32⟩
  | .hbm, ⟨8, _⟩ => ⟨S_, .f32⟩
  | .hbm, ⟨9, _⟩ => ⟨S100352, .f32⟩
  | .hbm, ⟨10, _⟩ => ⟨S64x100352, .f32⟩
  | .hbm, ⟨11, _⟩ => ⟨S1x100352, .f32⟩
  | .hbm, ⟨12, _⟩ => ⟨S4096x8, .i32⟩
  | .hbm, ⟨13, _⟩ => ⟨S4096x8, .f32⟩
  | .hbm, ⟨14, _⟩ => ⟨S32768, .i32⟩
  | .hbm, ⟨15, _⟩ => ⟨S32768x128, .f32⟩
  | .hbm, ⟨16, _⟩ => ⟨S4096x8x128, .f32⟩
  | .hbm, ⟨17, _⟩ => ⟨S4096x128, .f32⟩
  | .local .tc .vmem, ⟨0, _⟩ => ⟨S512x64, .f32⟩
  | .local .tc .vmem, ⟨1, _⟩ => ⟨S512x64, .f32⟩
  | .local .tc .vmem, ⟨2, _⟩ => ⟨S64x2048, .f32⟩
  | .local .tc .vmem, ⟨3, _⟩ => ⟨S64x2048, .f32⟩
  | .local .tc .vmem, ⟨4, _⟩ => ⟨S1x2048, .f32⟩
  | .local .tc .vmem, ⟨5, _⟩ => ⟨S1x2048, .f32⟩
  | .local .tc .vmem, ⟨6, _⟩ => ⟨S512x8, .i32⟩
  | .local .tc .vmem, ⟨7, _⟩ => ⟨S512x8, .i32⟩
  | .local .tc .vmem, ⟨8, _⟩ => ⟨S512x8, .f32⟩
  | .local .tc .vmem, ⟨9, _⟩ => ⟨S512x8, .f32⟩
  | .local .tc .vmem, ⟨10, _⟩ => ⟨S512x16, .f32⟩
  | .local .tc .vmem, ⟨11, _⟩ => ⟨S512x16, .f32⟩
  | .local .tc .vmem, ⟨12, _⟩ => ⟨S512x2048, .f32⟩
  | .local .tc .vmem, ⟨13, _⟩ => ⟨S512x8x128, .f32⟩
  | .local .tc .vmem, ⟨14, _⟩ => ⟨S512x8x128, .f32⟩
  | .local .tc .vmem, ⟨15, _⟩ => ⟨S512x8, .f32⟩
  | .local .tc .vmem, ⟨16, _⟩ => ⟨S512x8, .f32⟩
  | .local .tc .vmem, ⟨17, _⟩ => ⟨S512x128, .f32⟩
  | .local .tc .vmem, ⟨18, _⟩ => ⟨S512x128, .f32⟩
  | .local .scVector .vmem, ⟨0, _⟩ => ⟨S128, .i32⟩
  | .local .scVector .vmem, ⟨1, _⟩ => ⟨S128x128, .f32⟩
  | _, _ => ⟨S4096x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_v0 : Ref sig .tc := ⟨.hbm, 6, rfl⟩
abbrev main_c : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_arg3_scv : Ref sig .scVector := ⟨.hbm, 3, rfl⟩
abbrev main_v5_scv : Ref sig .scVector := ⟨.hbm, 14, rfl⟩
abbrev main_v6_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 49], ![false, false]⟩

def k0_cond12 (i : grid0.Coords) : BitVec 1 :=
  let arg1 : BitVec 32 := BitVec.ofNat 32 (i 1).val
  let c48_i32 : BitVec 32 := 48#32
  let v77 : BitVec 1 := Scalar.cmpi .eq arg1 c48_i32
  let v78 : BitVec 32 := Scalar.extui v77
  let c0_i32_46 : BitVec 32 := 0#32
  let v79 : BitVec 1 := Scalar.cmpi .ne v78 c0_i32_46
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]
def k1_off2 (i : grid1.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  let c0_i32_32_r1 : BitVec 32 := 0#32
  ![v3.toNat, 0]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x8x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x64 : Shape := ⟨2, ![4096, 64]⟩
abbrev S100000x64 : Shape := ⟨2, ![100000, 64]⟩
abbrev S100000 : Shape := ⟨1, ![100000]⟩
abbrev S100000x128 : Shape := ⟨2, ![100000, 128]⟩
abbrev S_ : Shape := ⟨0, ![]⟩
abbrev S1x100000 : Shape := ⟨2, ![1, 100000]⟩
abbrev S4096 : Shape := ⟨1, ![4096]⟩
abbrev S4096x1 : Shape := ⟨2, ![4096, 1]⟩
abbrev S4096x100000 : Shape := ⟨2, ![4096, 100000]⟩
abbrev S64x100000 : Shape := ⟨2, ![64, 100000]⟩
abbrev S4096x8 : Shape := ⟨2, ![4096, 8]⟩
abbrev S4096x8x1 : Shape := ⟨3, ![4096, 8, 1]⟩
abbrev S4096x8x128 : Shape := ⟨3, ![4096, 8, 128]⟩
abbrev S4096x128 : Shape := ⟨2, ![4096, 128]⟩

abbrev nBuf : Space → Nat
  | .hbm => 67
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S100000x64, .f32⟩
  | .hbm, ⟨2, _⟩ => ⟨S100000, .f32⟩
  | .hbm, ⟨3, _⟩ => ⟨S100000x128, .f32⟩
  | .hbm, ⟨4, _⟩ => ⟨S100000x64, .f32⟩
  | .hbm, ⟨5, _⟩ => ⟨S_, .f32⟩
  | .hbm, ⟨6, _⟩ => ⟨S100000, .f32⟩
  | .hbm, ⟨7, _⟩ => ⟨S1x100000, .f32⟩
  | .hbm, ⟨8, _⟩ => ⟨S1x100000, .f32⟩
  | .hbm, ⟨9, _⟩ => ⟨S_, .f32⟩
  | .hbm, ⟨10, _⟩ => ⟨S1x100000, .f32⟩
  | .hbm, ⟨11, _⟩ => ⟨S1x100000, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S1x100000, .f32⟩
  | .hbm, ⟨17, _⟩ => ⟨S4096x100000, .f32⟩
  | .hbm, ⟨18, _⟩ => ⟨S4096x100000, .f32⟩
  | .hbm, ⟨19, _⟩ => ⟨S4096x100000, .f32⟩
  | .hbm, ⟨20, _⟩ => ⟨S64x100000, .f32⟩
  | .hbm, ⟨21, _⟩ => ⟨S4096x100000, .f32⟩
  | .hbm, ⟨22, _⟩ => ⟨S_, .f32⟩
  | .hbm, ⟨23, _⟩ => ⟨S4096x100000, .f32⟩
  | .hbm, ⟨24, _⟩ => ⟨S4096x100000, .f32⟩
  | .hbm, ⟨25, _⟩ => ⟨S4096x100000, .f32⟩
  | .hbm, ⟨26, _⟩ => ⟨S_, .f32⟩
  | .hbm, ⟨27, _⟩ => ⟨S4096x100000, .f32⟩
  | .hbm, ⟨28, _⟩ => ⟨S4096x100000, .f32⟩
  | .hbm, ⟨29, _⟩ => ⟨S4096x100000, .f32⟩
  | .hbm, ⟨30, _⟩ => ⟨S4096x100000, .f32⟩
  | .hbm, ⟨31, _⟩ => ⟨S4096x100000, .f32⟩
  | .hbm, ⟨32, _⟩ => ⟨S4096x8, .f32⟩
  | .hbm, ⟨33, _⟩ => ⟨S4096x8, .i32⟩
  | .hbm, ⟨34, _⟩ => ⟨S4096x8, .f32⟩
  | .hbm, ⟨35, _⟩ => ⟨S4096x8, .f32⟩
  | .hbm, ⟨36, _⟩ => ⟨S_, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x8, .f32⟩
  | .hbm, ⟨52, _⟩ => ⟨S4096x8, .f32⟩
  | .hbm, ⟨53, _⟩ => ⟨S4096x8x1, .f32⟩
  | .hbm, ⟨54, _⟩ => ⟨S_, .i32⟩
  | .hbm, ⟨55, _⟩ => ⟨S4096x8, .i32⟩
  | .hbm, ⟨56, _⟩ => ⟨S4096x8, .i1⟩
  | .hbm, ⟨57, _⟩ => ⟨S_, .i32⟩
  | .hbm, ⟨58, _⟩ => ⟨S4096x8, .i32⟩
  | .hbm, ⟨59, _⟩ => ⟨S4096x8, .i32⟩
  | .hbm, ⟨60, _⟩ => ⟨S4096x8, .i32⟩
  | .hbm, ⟨61, _⟩ => ⟨S4096x8x1, .i32⟩
  | .hbm, ⟨62, _⟩ => ⟨S4096x8x128, .f32⟩
  | .hbm, ⟨63, _⟩ => ⟨S4096x8x128, .f32⟩
  | .hbm, ⟨64, _⟩ => ⟨S4096x8x128, .f32⟩
  | .hbm, ⟨65, _⟩ => ⟨S_, .f32⟩
  | .hbm, ⟨66, _⟩ => ⟨S4096x128, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_values : Ref sig .tc := ⟨.hbm, 32, rfl⟩
abbrev main_indices : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c : Ref sig .tc := ⟨.hbm, 54, rfl⟩
abbrev main_v39 : Ref sig .tc := ⟨.hbm, 55, rfl⟩
abbrev main_v40 : Ref sig .tc := ⟨.hbm, 56, rfl⟩
abbrev main_c_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Proof.GatherIdealTile.lean ====
/-
  ONE TASK of the SparseCore gather, at a symbolic vector subcore: eight chunks, each fetching its 128 row numbers,
  transferring those rows of the feature table by the indirect stream and writing them out to its 128 rows of the
  result. The eight chunks are one program over the chunk's number, so the chunk is run once. What it leaves in its
  block of the result is stated from the start: the table's rows at the row numbers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.GatherIdeal

@[expose] public section

noncomputable section

namespace Cert.Proof.GatherIdeal

open Cert.GatherIdeal Cert.GatherIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging pipeline's rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## The buffers and their blocks -/

abbrev iLoc (d : Dev nD) : Loc nD τ sig := (SparseCore.T d).loc main_v0
abbrev xLoc (d : Dev nD) : Loc nD τ sig := (SparseCore.T d).loc main_arg0
abbrev oLoc (d : Dev nD) : Loc nD τ sig := (SparseCore.T d).loc main_v1

local notation "iV" => (Memref.whole Cert.GatherIdeal.main_v0_scv : Memref Cert.GatherIdeal.sig Kind.scVector Space.hbm Cert.GatherIdeal.S32768 EltTy.i32)
local notation "xV" => (Memref.whole Cert.GatherIdeal.main_arg0_scv : Memref Cert.GatherIdeal.sig Kind.scVector Space.hbm Cert.GatherIdeal.S100000x128 EltTy.f32)
local notation "oV" => (Memref.whole Cert.GatherIdeal.main_v1_scv : Memref Cert.GatherIdeal.sig Kind.scVector Space.hbm Cert.GatherIdeal.S32768x128 EltTy.f32)
local notation "sV" => (Memref.whole Cert.GatherIdeal.cc0_scratch0 : Memref Cert.GatherIdeal.sig Kind.scVector Space.vmem Cert.GatherIdeal.S128 EltTy.i32)
local notation "rV" => (Memref.whole Cert.GatherIdeal.cc0_scratch1 : Memref Cert.GatherIdeal.sig Kind.scVector Space.vmem Cert.GatherIdeal.S128x128 EltTy.f32)

theorem idiv : 256 ∣ S32768.size 0 := ⟨128, rfl⟩
theorem odiv : 256 ∣ S32768x128.size 0 := ⟨128, rfl⟩
/-- Block `b` of 256: rows `128 b` to `128 b + 127`, of the row numbers and of the result. -/
abbrev iblkR (b : Fin 256) : Rect S32768 := Rect.part (s := S32768) (a₀ := 0) idiv b
abbrev oblkR (b : Fin 256) : Rect S32768x128 := Rect.part (s := S32768x128) (a₀ := 0) odiv b
abbrev iSet (b : Fin 256) : Finset S32768.Idx := ((iV).view.slice (iblkR b)).set
abbrev oSet (b : Fin 256) : Finset S32768x128.Idx := ((oV).view.slice (oblkR b)).set

/-- A word as a row of the table: its value where that is one. -/
def rowOfWord (w : BitVec 32) : Fin 100000 := if h : w.toNat < 100000 then ⟨w.toNat, h⟩ else 0

/-- The rows of the table `x` at the row numbers `i`: element `(r, l)` is `x (i r, l)`. -/
def gath {α : Type} (x : S100000x128.Idx → α) (i : S32768.Idx → BitVec 32) : S32768x128.Idx → α :=
  fun j => x (ix2 (n0 := 100000) (n1 := 128) (rowOfWord (i (ix1 (n := 32768) (j 0)))) (j 1))

section Tile

variable (d : Dev nD) (L : grid0.Coords)

abbrev cV (L : grid0.Coords) : Fin τ.nSC := (L 0).castLE hcore0
abbrev jV (L : grid0.Coords) : Fin τ.nSub := (L 1).castLE hsub0

/-- Chunk `n` of the task on subcore `(L 0, L 1)` is block `(2 (L 1) + L 0) 8 + n`. -/
def blkNo (c : Fin 2) (s : Fin 16) (n : Fin 8) : Fin 256 := ⟨(2 * s.val + c.val) * 8 + n.val, by omega⟩
abbrev cL (L : grid0.Coords) : Fin 2 := Fin.cast (show grid0.bound 0 = 2 from rfl) (L 0)
abbrev jL (L : grid0.Coords) : Fin 16 := Fin.cast (show grid0.bound 1 = 16 from rfl) (L 1)
abbrev bL (L : grid0.Coords) (n : Fin 8) : Fin 256 := blkNo (cL L) (jL L) n

abbrev irowK (n : Fin 8) : Rect S32768 := Rect.unit (s := S32768) (k0_off1 L (BitVec.ofNat 32 (128 * n.val))) S128.size (k0_off1_inb L n)
abbrev orowK (n : Fin 8) : Rect S32768x128 := Rect.unit (s := S32768x128) (k0_off2 L (BitVec.ofNat 32 (128 * n.val))) S128x128.size (k0_off2_inb L n)
/-- Chunk `n`'s row numbers, its rows of the result, and all of the table, as the task addresses them. -/
abbrev iRowK (n : Fin 8) : Memref sig .scVector .hbm S128 .i32 := (iV).slice (irowK L n) (fun _ => rfl)
abbrev oRowK (n : Fin 8) : Memref sig .scVector .hbm S128x128 .f32 := (oV).slice (orowK L n) (fun _ => rfl)
abbrev xAllK : Memref sig .scVector .hbm S100000x128 .f32 := (xV).slice (Rect.unit (s := S100000x128) ![0, 0] S100000x128.size inb_S100000x128_S100000x128_0_0) (fun _ => rfl)

theorem irowK_eq (n : Fin 8) : irowK L n = iblkR (bL L n) := by
  unfold irowK iblkR Rect.part Rect.block
  congr 1 <;> funext a
  · rw [k0_off1_eq]
    match a with
    | 0 => simp [Shape.partIx, Shape.partSize, blkNo]; omega
  · match a with
    | 0 => simp [Shape.partSize]
theorem orowK_eq (n : Fin 8) : orowK L n = oblkR (bL L n) := by
  unfold orowK oblkR Rect.part Rect.block
  congr 1 <;> funext a
  · rw [k0_off2_eq]
    match a with
    | 0 => simp [Shape.partIx, Shape.partSize, blkNo]; omega
    | 1 => simp [Shape.partIx, Shape.partSize]
  · match a with
    | 0 => simp [Shape.partSize]
    | 1 => simp [Shape.partSize]

theorem set_iRowK (n : Fin 8) : (iRowK L n).view.set = iSet (bL L n) := by
  show ((iV).view.slice (irowK L n)).set = ((iV).view.slice (iblkR (bL L n))).set
  exact irowK_eq L n ▸ rfl
theorem set_oRowK (n : Fin 8) : (oRowK L n).view.set = oSet (bL L n) := by
  show ((oV).view.slice (orowK L n)).set = ((oV).view.slice (oblkR (bL L n))).set
  exact orowK_eq L n ▸ rfl

theorem pts_iRowK (n : Fin 8) (f : Buf (Elt F) (iLoc d)) :
    ((iRowK L n).view.loc (V d (cV L) (jV L)) ↦[(iRowK L n).view.set]{fullShare} f : sProp 𝕄) = iLoc d ↦[iSet (bL L n)]{fullShare} f := by
  rw [set_iRowK]
theorem pts_oRowK (n : Fin 8) (f : Buf (Elt F) (oLoc d)) :
    ((oRowK L n).view.loc (V d (cV L) (jV L)) ↦[(oRowK L n).view.set]{fullShare} f : sProp 𝕄) = oLoc d ↦[oSet (bL L n)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

variable [FloatOps F]

/-! ## The chunk -/

/-- Chunk `n` of the task: fetch its row numbers, gather those rows, write them out, waiting for each. -/
def chunk (n : Fin 8) (sg sa sb : DmaSems sig S_) :
    Prog (TpuEff nD τ sig (Elt F) Λ₀ (.scVector ((L 0).castLE hcore0) ((L 1).castLE hsub0))) PUnit := do
  Prog.lift (.enqueueDma (iRowK L n) (.here sV) (.dma sa.sem) (View.wordExact_bits rfl) (Memref.isWhole_whole _).wordExact ⟨Or.inl rfl, trivial⟩)
  Prog.lift (.waitDma2 sa.sem (iRowK L n) sV (View.wordExact_bits rfl) (Memref.isWhole_whole _).wordExact)
  SparseCore.enqueueIndirectGather rfl xAllK rV gathers_S100000x128_S128x128 sV rfl sg.sem (View.wordExact_bits rfl) rfl (Or.inl rfl)
  SparseCore.waitIndirectGather sg.sem xAllK rV (View.wordExact_bits rfl) (Memref.isWhole_whole _).wordExact
  Prog.lift (.enqueueDma rV (.here (oRowK L n)) (.dma sb.sem) (Memref.isWhole_whole _).wordExact (View.wordExact_bits rfl) ⟨Or.inl rfl, trivial⟩)
  Prog.lift (.waitDma2 sb.sem rV (oRowK L n) (Memref.isWhole_whole _).wordExact (View.wordExact_bits rfl))

set_option maxRecDepth 65536 in
/-- The task is its eight chunks in order. -/
theorem task_eq_chunks (sg s0 s1 s2 s3 s4 s5 s6 s7 s8 s9 s10 s11 s12 s13 s14 s15 : DmaSems sig S_) :
    cc0_gather_k (F := F) L xV (Memref.isWhole_whole _) iV (Memref.isWhole_whole _) oV (Memref.isWhole_whole _)
        sV (Memref.isWhole_whole _) rV (Memref.isWhole_whole _) sg s0 s1 s2 s3 s4 s5 s6 s7 s8 s9 s10 s11 s12 s13 s14 s15
      = (chunk (F := F) L 0 sg s0 s1 >>= fun _ => chunk L 1 sg s2 s3 >>= fun _ => chunk L 2 sg s4 s5 >>= fun _ => chunk L 3 sg s6 s7 >>= fun _ =>
          chunk L 4 sg s8 s9 >>= fun _ => chunk L 5 sg s10 s11 >>= fun _ => chunk L 6 sg s12 s13 >>= fun _ => chunk L 7 sg s14 s15 >>= fun _ => pure ⟨⟩) := by
  rfl

/-- Every row number is one of the table's. -/
def IdxOK (ci : (d : Dev nD) → Buf (Elt F) (iLoc d)) : Prop := ∀ (d : Dev nD) (j : S32768.Idx), (ci d j).toNat < 100000

/-- The offsets the stream reads are in range: what the fetch landed is chunk `n`'s row numbers. -/
theorem inb_of_ok {ci : (d : Dev nD) → Buf (Elt F) (iLoc d)} (hpre : IdxOK ci) (n : Fin 8)
    (fs : Buf (Elt F) ((V d (cV L) (jV L)).loc cc0_scratch0)) (pay : S128.Idx → Elt F .i32)
    (hpay : pay = (iRowK L n).view.read (Elt F) (ci d)) :
    ∀ x, ((sV).view.read (Elt F) (View.write (Elt F) (sV).view fs pay Finset.univ) x).toNat < S100000x128.size gathers_S100000x128_S128x128.axis := by
  subst hpay; intro x
  rw [View.write_whole_univ]
  simp only [Memref.view_whole, View.read_whole]
  rw [show ∀ j, (iRowK L n).view.read (Elt F) (ci d) j = ci d ((iRowK L n).view.emb j) from fun j => (View.read_apply _ _).trans (cast_eq _ _)]
  exact hpre d _

/-- What the chunk writes out is the table's rows at its row numbers. -/
theorem chunk_value {ci : (d : Dev nD) → Buf (Elt F) (iLoc d)} (hpre : IdxOK ci) (n : Fin 8)
    (cx : Buf (Elt F) (xLoc d)) (co : Buf (Elt F) (oLoc d))
    (fs : Buf (Elt F) ((V d (cV L) (jV L)).loc cc0_scratch0)) (fr : Buf (Elt F) ((V d (cV L) (jV L)).loc cc0_scratch1))
    (pay : S128.Idx → Elt F .i32) (hpay : pay = (iRowK L n).view.read (Elt F) (ci d)) (pay' : S128x128.Idx → Elt F .f32)
    (hpay' : pay' = (rV).view.read (Elt F) (View.write (Elt F) (rV).view fr
      (SparseCore.gatherPayload gathers_S100000x128_S128x128 ((xAllK).view.read (Elt F) cx)
        (SparseCore.rows ((sV).view.read (Elt F) (View.write (Elt F) (sV).view fs pay Finset.univ)) rfl (inb_of_ok d L hpre n fs pay hpay))) Finset.univ)) :
    ∀ i ∈ (oRowK L n).view.set, (oRowK L n).view.writes (Elt F) co [⟨Rect.whole S128x128, pay'⟩] i = gath cx (ci d) i := by
  intro i hi
  obtain ⟨y, -, rfl⟩ := Finset.mem_map.mp hi
  subst hpay; subst hpay'
  have hw := View.read_writes_cons_emb (v := (oRowK L n).view) (Val := Elt F) (f := co) (Rect.whole S128x128)
    ((rV).view.read (Elt F) (View.write (Elt F) (rV).view fr
      (SparseCore.gatherPayload gathers_S100000x128_S128x128 ((xAllK).view.read (Elt F) cx)
        (SparseCore.rows ((sV).view.read (Elt F) (View.write (Elt F) (sV).view fs ((iRowK L n).view.read (Elt F) (ci d)) Finset.univ)) rfl
          (inb_of_ok d L hpre n fs _ rfl))) Finset.univ)) [] y
  rw [show (Rect.whole S128x128).emb y = y from by ext a; simp [Rect.whole]] at hw
  refine ((((oRowK L n).view.read_apply (Val := Elt F) _ y).trans (cast_eq _ _)).symm.trans hw).trans ?_
  rw [View.read_write_univ]
  unfold SparseCore.gatherPayload gath
  refine (((xAllK).view.read_apply (Val := Elt F) cx _).trans (cast_eq _ _)).trans (congrArg cx ?_)
  have hj : ((oRowK L n).view.emb y 0).val = 128 * (bL L n).val + (y 0).val := by
    show (((oV).view.slice (orowK L n)).emb y 0).val = _
    have e : (k0_off2 L (BitVec.ofNat 32 (128 * n.val))) 0 = 128 * (bL L n).val := by
      rw [k0_off2_eq]; simp [blkNo]; omega
    show k0_off2 L (BitVec.ofNat 32 (128 * n.val)) 0 + 1 * (y 0).val = _
    omega
  have hj1 : ((oRowK L n).view.emb y 1).val = (y 1).val := by
    have e : (k0_off2 L (BitVec.ofNat 32 (128 * n.val))) 1 = 0 := by
      rw [k0_off2_eq]; simp
    show k0_off2 L (BitVec.ofNat 32 (128 * n.val)) 1 + 1 * (y 1).val = _
    omega
  have hemb : ∀ h : S128x128.size 0 = S128.numel, (iRowK L n).view.emb (S128.rowMajor.symm (Fin.cast h (y 0))) = ix1 (n := 32768) ((oRowK L n).view.emb y 0) := by
    intro h
    funext a
    match a with
    | 0 =>
      apply Fin.ext
      refine Eq.trans ?_ hj.symm
      have e : (k0_off1 L (BitVec.ofNat 32 (128 * n.val))) 0 = 128 * (bL L n).val := by
        rw [k0_off1_eq]; simp [blkNo]; omega
      have r : (S128.rowMajor.symm (Fin.cast h (y 0)) 0).val = (y 0).val := by
        rw [← Shape.rowMajor_val_one, Equiv.apply_symm_apply]; rfl
      show k0_off1 L (BitVec.ofNat 32 (128 * n.val)) 0 + 1 * (S128.rowMajor.symm (Fin.cast h (y 0)) 0).val = _
      omega
  funext a
  match a with
  | 0 =>
    apply Fin.ext
    refine ((congrArg (fun r => 0 + 1 * r) (congrArg Fin.val (Shape.Gathers.idx_axis gathers_S100000x128_S128x128 _ y))).trans (by rw [Nat.zero_add, Nat.one_mul])).trans ?_
    show ((sV).view.read (Elt F) (View.write (Elt F) (sV).view fs ((iRowK L n).view.read (Elt F) (ci d)) Finset.univ) _).toNat = _
    rw [View.read_write_univ]
    refine ((congrArg BitVec.toNat (((iRowK L n).view.read_apply (Val := Elt F) (ci d) _).trans (cast_eq _ _))).trans
      (congrArg (fun t => (ci d t).toNat) (hemb _))).trans ?_
    show _ = (rowOfWord (ci d (ix1 (n := 32768) ((oRowK L n).view.emb y 0)))).val
    unfold rowOfWord
    rw [dif_pos (hpre d _)]
  | 1 =>
    apply Fin.ext
    refine ((congrArg (fun r => 0 + 1 * r) (Shape.Gathers.idx_of_ne gathers_S100000x128_S128x128 _ y 1 (by decide))).trans (by rw [Nat.zero_add, Nat.one_mul])).trans ?_
    exact hj1.symm

set_option maxHeartbeats 4000000 in
/-- One chunk: from its row numbers, a share of the table, its rows of the result at anything, the two scratch buffers
    and its semaphores at zero — its rows of the result at the table's rows. -/
theorem chunk_spec {ci : (d : Dev nD) → Buf (Elt F) (iLoc d)} (hpre : IdxOK ci) (n : Fin 8) (q : PosShare TreeShare)
    (cx : Buf (Elt F) (xLoc d)) (co : Buf (Elt F) (oLoc d)) (sg sa sb : DmaSems sig S_)
    (O : CellTallies nD τ sig (HIx 1)) (W : Waits sig (HIx 1)) (hO : ∀ g, O g none = 0) :
    iprop(levAts (K (F := F)).L (K (F := F)).lev
        ∗ (iLoc d ↦[iSet (bL L n)]{fullShare} ci d : sProp 𝕄) ∗ (xLoc d ↦{q} cx) ∗ (oLoc d ↦[oSet (bL L n)]{fullShare} co)
        ∗ (∃ f, (V d (cV L) (jV L)).loc cc0_scratch0 ↦{fullShare} f) ∗ (∃ f, (V d (cV L) (jV L)).loc cc0_scratch1 ↦{fullShare} f)
        ∗ semVal (V d (cV L) (jV L), .dma sg.sem) 0 ∗ semVal (V d (cV L) (jV L), .dma sa.sem) 0 ∗ semVal (V d (cV L) (jV L), .dma sb.sem) 0
        ∗ owes (V d (cV L) (jV L)) O W)
      ⊢ wp frame (wpE (defs₀ (F := F)) 𝒱₀ (V d (cV L) (jV L)) none) Set.univ (chunk (F := F) L n sg sa sb)
          fun _ => iprop((iLoc d ↦[iSet (bL L n)]{fullShare} ci d) ∗ (xLoc d ↦{q} cx) ∗ (oLoc d ↦[oSet (bL L n)]{fullShare} gath cx (ci d))
            ∗ (∃ f, (V d (cV L) (jV L)).loc cc0_scratch0 ↦{fullShare} f) ∗ (∃ f, (V d (cV L) (jV L)).loc cc0_scratch1 ↦{fullShare} f)
            ∗ semVal (V d (cV L) (jV L), .dma sg.sem) 0 ∗ semVal (V d (cV L) (jV L), .dma sa.sem) 0 ∗ semVal (V d (cV L) (jV L), .dma sb.sem) 0
            ∗ ∃ W', ⌜∀ p ∈ W', p ∈ W ∨ p.2 = none⌝ ∗ owes (V d (cV L) (jV L)) O W') := by
  unfold chunk
  iintro ⟨#Hlv, Hi, Hx, Ho, ⟨%fs, Hs⟩, ⟨%fr, Hr⟩, HsemG, HsemA, HsemB, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L n _).symm) $$ Hi
  ihave Ho' := (Entails.of_eq (pts_oRowK (F := F) d L n _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hset : (rV).view.set = Finset.univ := View.set_whole _
  have hsets : (sV).view.set = Finset.univ := View.set_whole _
  have hcr : ∀ h : S100000x128.Gathers 0 S128x128, ∑ j, ((rV).slice (S128x128.rowRect h.axis' j) (S128x128.stride_rowRect h.axis' j)).view.dmaCredit
      = (rV).view.dmaCredit := by decide +kernel
  have hin := inb_of_ok d L hpre n fs (chunk_spec.sl.dma0 d L n) rfl
  -- the stream: the table's elements as the slice names them, the row buffer and the list by their own elements
  ihave Hxp := (pointsTo_split_subset (q := q) (f := cx) (S := Finset.univ) (Finset.subset_univ (xAllK).view.set)).1 $$ Hx'
  icases Hxp with ⟨Hxs, Hxr⟩
  ihave Hr1 := (Entails.of_eq (show ((rV).view.loc (V d (cV L) (jV L)) ↦{fullShare} fr : sProp 𝕄)
      = (rV).view.loc (V d (cV L) (jV L)) ↦[(rV).view.set]{fullShare} fr by rw [hset])) $$ Hr'
  ihave Hs1 := (Entails.of_eq (show ((sV).view.loc (V d (cV L) (jV L)) ↦{fullShare} View.write (Elt F) (sV).view fs (chunk_spec.sl.dma0 d L n) Finset.univ : sProp 𝕄)
      = (sV).view.loc (V d (cV L) (jV L)) ↦[(sV).view.set]{fullShare} View.write (Elt F) (sV).view fs (chunk_spec.sl.dma0 d L n) Finset.univ
      by rw [hsets])) $$ Hs'
  iapply (SparseCore.wp_indirectGatherLocal countersEmb 𝒱₀ (V d (cV L) (jV L)) none (hg := gathers_S100000x128_S128x128) (default : HIx 1)
      (rV).view.dmaCredit (hcr _) (by decide) hin) $$ [Hxs Hr1 Hs1 HsemG]
  · isplitl [Hxs]; · iexact Hxs
    isplitl [Hr1]; · iexact Hr1
    isplitl [Hs1]; · iexact Hs1
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma sg.sem)) $$ Hmw
  iintro ⟨⟨Hr1, Hxs, Hs1⟩, HsemG, HO⟩
  ihave Hx' := (pointsTo_split_subset (q := q) (f := cx) (S := Finset.univ) (Finset.subset_univ (xAllK).view.set)).2 $$ [Hxs Hxr]; · isplitl [Hxs] <;> iassumption
  ihave Hr' := (Entails.of_eq (show ((rV).view.loc (V d (cV L) (jV L)) ↦[(rV).view.set]{fullShare} _ : sProp 𝕄)
      = (rV).view.loc (V d (cV L) (jV L)) ↦{fullShare} _ by rw [hset])) $$ Hr1
  ihave Hs' := (Entails.of_eq (show ((sV).view.loc (V d (cV L) (jV L)) ↦[(sV).view.set]{fullShare} _ : sProp 𝕄)
      = (sV).view.loc (V d (cV L) (jV L)) ↦{fullShare} _ by rw [hsets])) $$ Hs1
  sl_exec
  sl_step
  isplitl [Hi']; · iapply (Entails.of_eq (pts_iRowK (F := F) d L n _)); iexact Hi'
  isplitl [Hx']; · iexact Hx'
  isplitl [Ho']
  · ihave Ho1 := (Entails.of_eq (pointsTo_congr (q := fullShare) (chunk_value d L hpre n cx co fs fr _ rfl (chunk_spec.sl.dma0_1 d L n cx fs fr hin) rfl))) $$ Ho'
    iapply (Entails.of_eq (pts_oRowK (F := F) d L n _)); iexact Ho1
  isplitl [Hs']; · iexists _; iexact Hs'
  isplitl [Hr']; · iexists _; iexact Hr'
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.GatherIdeal

end
-- ==== Proof.GatherIdealTask.lean ====
/-
  The whole task of the SparseCore gather from its eight chunks; what the call's handshakes carry; the arrays cut into
  the tasks' blocks and shares and joined again, the result's at the table's rows at the row numbers.
-/
module

public import proofs.«01_k».proof.Proof.GatherIdealTile
public import Idealize.ShloMosaic.Lib.ShareLeaves

@[expose] public section

noncomputable section

namespace Cert.Proof.GatherIdeal

open Cert.GatherIdeal Cert.GatherIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.GatherIdeal.main_v0_scv : Memref Cert.GatherIdeal.sig Kind.scVector Space.hbm Cert.GatherIdeal.S32768 EltTy.i32)
local notation "xV" => (Memref.whole Cert.GatherIdeal.main_arg0_scv : Memref Cert.GatherIdeal.sig Kind.scVector Space.hbm Cert.GatherIdeal.S100000x128 EltTy.f32)
local notation "oV" => (Memref.whole Cert.GatherIdeal.main_v1_scv : Memref Cert.GatherIdeal.sig Kind.scVector Space.hbm Cert.GatherIdeal.S32768x128 EltTy.f32)
local notation "sV" => (Memref.whole Cert.GatherIdeal.cc0_scratch0 : Memref Cert.GatherIdeal.sig Kind.scVector Space.vmem Cert.GatherIdeal.S128 EltTy.i32)
local notation "rV" => (Memref.whole Cert.GatherIdeal.cc0_scratch1 : Memref Cert.GatherIdeal.sig Kind.scVector Space.vmem Cert.GatherIdeal.S128x128 EltTy.f32)

/-! ## What a task is handed -/

/-- Task `(c, s)`'s number among the 32. -/
def taskNo (c : Fin 2) (s : Fin 16) : Fin (2 ^ 5) := ⟨2 * s.val + c.val, by have := c.isLt; have := s.isLt; omega⟩
/-- Its share of the table: one of 32 that the whole is halved into. -/
abbrev xq (c : Fin 2) (s : Fin 16) : PosShare TreeShare := ShareLeaves.leaf 5 fullShare (taskNo c s)

variable (cx : (d : Dev nD) → Buf (Elt F) (xLoc d)) (ci : (d : Dev nD) → Buf (Elt F) (iLoc d)) (co : (d : Dev nD) → Buf (Elt F) (oLoc d))

/-- The table's rows at the row numbers: what the call leaves in the result. -/
abbrev gathAt (d : Dev nD) : Buf (Elt F) (oLoc d) := gath (cx d) (ci d)

/-- A task's eight blocks of row numbers, its share of the table, its eight blocks of the result at `fo`. -/
abbrev taskR (fo : (d : Dev nD) → Buf (Elt F) (oLoc d)) (d : Dev nD) (c : Fin 2) (s : Fin 16) : sProp 𝕄 :=
  iprop((bigSep Finset.univ fun n : Fin 8 => iLoc d ↦[iSet (blkNo c s n)]{fullShare} ci d) ∗ (xLoc d ↦{xq c s} cx d)
    ∗ bigSep Finset.univ fun n : Fin 8 => oLoc d ↦[oSet (blkNo c s n)]{fullShare} fo d)

section Tile

variable (d : Dev nD) (L : grid0.Coords)

/-- What a chunk finds and leaves besides its blocks: the table's share, the scratch buffers, every semaphore of the
    subcore at zero, its owings with only its own waits added. -/
abbrev rest (O : CellTallies nD τ sig (HIx 1)) (W : Waits sig (HIx 1)) : sProp 𝕄 :=
  iprop((xLoc d ↦{xq (cL L) (jL L)} cx d)
    ∗ (∃ f, (V d (cV L) (jV L)).loc cc0_scratch0 ↦{fullShare} f) ∗ (∃ f, (V d (cV L) (jV L)).loc cc0_scratch1 ↦{fullShare} f)
    ∗ ownSems0 (V d (cV L) (jV L)) ∗ ∃ W', ⌜∀ p ∈ W', p ∈ W ∨ p.2 = none⌝ ∗ owes (V d (cV L) (jV L)) O W')

variable [FloatOps F]

variable {ci}

/-- One chunk, then the rest of the task: its three semaphores lent out of the subcore's own. -/
theorem chunk_step (hpre : IdxOK ci) (n : Fin 8) (sg sa sb : DmaSems sig S_)
    (hg : (SemLoc.dma sg.sem : SemLoc sig).isScoped .scVector = true) (ha : (SemLoc.dma sa.sem : SemLoc sig).isScoped .scVector = true)
    (hb : (SemLoc.dma sb.sem : SemLoc sig).isScoped .scVector = true) (hga : sg.sem ≠ sa.sem) (hgb : sg.sem ≠ sb.sem) (hab : sa.sem ≠ sb.sem)
    (O : CellTallies nD τ sig (HIx 1)) (W : Waits sig (HIx 1)) (hO : ∀ g, O g none = 0)
    (k : Prog (TpuEff nD τ sig (Elt F) Λ₀ (.scVector ((L 0).castLE hcore0) ((L 1).castLE hsub0))) PUnit) (Q : PUnit → sProp 𝕄) :
    iprop(levAts (K (F := F)).L (K (F := F)).lev ∗ rest cx d L O W
        ∗ (iLoc d ↦[iSet (bL L n)]{fullShare} ci d : sProp 𝕄) ∗ (oLoc d ↦[oSet (bL L n)]{fullShare} co d)
        ∗ (rest cx d L O W -∗ (iLoc d ↦[iSet (bL L n)]{fullShare} ci d) -∗ (oLoc d ↦[oSet (bL L n)]{fullShare} gathAt cx ci d)
            -∗ wp frame (wpE (defs₀ (F := F)) 𝒱₀ (V d (cV L) (jV L)) none) Set.univ k Q))
      ⊢ wp frame (wpE (defs₀ (F := F)) 𝒱₀ (V d (cV L) (jV L)) none) Set.univ (chunk (F := F) L n sg sa sb >>= fun _ => k) Q := by
  have hne : ∀ {a b : DmaSem sig}, a ≠ b → ((V d (cV L) (jV L), SemLoc.dma a) : GSem nD τ sig) ≠ (V d (cV L) (jV L), SemLoc.dma b) :=
    fun h e => h (by injection (Prod.mk.inj e).2)
  have hsems : (ownSems0 (V d (cV L) (jV L)) : sProp 𝕄) = iprop(semVal (V d (cV L) (jV L), .dma sg.sem) 0
      ∗ semVal (V d (cV L) (jV L), .dma sa.sem) 0 ∗ semVal (V d (cV L) (jV L), .dma sb.sem) 0
      ∗ bigSep ((((ownCells (V d (cV L) (jV L))).erase (V d (cV L) (jV L), .dma sg.sem)).erase (V d (cV L) (jV L), .dma sa.sem)).erase
          (V d (cV L) (jV L), .dma sb.sem)) fun g => semVal g 0) := by
    unfold SparseCore.Cfg.ownSems0
    rw [SparseCore.bigSep_erase' ((mem_ownCells (g := (V d (cV L) (jV L), .dma sg.sem))).mpr ⟨rfl, hg⟩),
      SparseCore.bigSep_erase' (Finset.mem_erase.mpr ⟨hne hga.symm, (mem_ownCells (g := (V d (cV L) (jV L), .dma sa.sem))).mpr ⟨rfl, ha⟩⟩),
      SparseCore.bigSep_erase' (Finset.mem_erase.mpr ⟨hne hab.symm, Finset.mem_erase.mpr ⟨hne hgb.symm,
        (mem_ownCells (g := (V d (cV L) (jV L), .dma sb.sem))).mpr ⟨rfl, hb⟩⟩⟩)]
  rw [wp_bind]
  iintro ⟨#Hlv, ⟨Hx, Hs, Hr, Hsems, %W', %hW', HO⟩, Hi, Ho, Hk⟩
  ihave Hsems' := (Entails.of_eq hsems) $$ Hsems
  icases Hsems' with ⟨HG, HA, HB, Hrest⟩
  iapply (wp_wand frame (wpE (defs₀ (F := F)) 𝒱₀ (V d (cV L) (jV L)) none) Set.univ) $$ [Hx Hs Hr HG HA HB HO Hi Ho]
  · iapply (chunk_spec d L hpre n (xq (cL L) (jL L)) (cx d) (co d) sg sa sb O W' hO)
    isplitr; · iexact Hlv
    isplitl [Hi]; · iexact Hi
    isplitl [Hx]; · iexact Hx
    isplitl [Ho]; · iexact Ho
    isplitl [Hs]; · iexact Hs
    isplitl [Hr]; · iexact Hr
    isplitl [HG]; · iexact HG
    isplitl [HA]; · iexact HA
    isplitl [HB]; · iexact HB
    iexact HO
  iintro %_ ⟨Hi, Hx, Ho, Hs, Hr, HG, HA, HB, %W'', %hW'', HO⟩
  iapply Hk $$ [Hx Hs Hr HG HA HB Hrest HO] [Hi] [Ho]
  · isplitl [Hx]; · iexact Hx
    isplitl [Hs]; · iexact Hs
    isplitl [Hr]; · iexact Hr
    isplitl [HG HA HB Hrest]
    · rw [hsems]
      isplitl [HG]; · iexact HG
      isplitl [HA]; · iexact HA
      isplitl [HB]; · iexact HB
      iexact Hrest
    iexists W''; isplitr
    · ipureintro; exact fun p hp => (hW'' p hp).elim (hW' p) Or.inr
    · iexact HO
  · iexact Hi
  · iexact Ho

/-- The eight blocks one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 4000000 in
/-- The task on vector subcore `(L 0, L 1)`: from its blocks of row numbers, its share of the table and its blocks of the
    result, these blocks at the table's rows. -/
theorem tile_body (hF : (K (F := F)).Facts) (hpre : IdxOK ci) (O : CellTallies nD τ sig (HIx 1)) (W : Waits sig (HIx 1)) (hO : ∀ g, O g none = 0) :
    iprop(levAts (K (F := F)).L (K (F := F)).lev ∗ emp
        ∗ taskR cx ci co d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L xV (Memref.isWhole_whole _) iV (Memref.isWhole_whole _) oV (Memref.isWhole_whole _)
            sV (Memref.isWhole_whole _) rV (Memref.isWhole_whole _) cc0_scratch2 cc0_scoped0 cc0_scoped1 cc0_scoped2 cc0_scoped3 cc0_scoped4 cc0_scoped5
            cc0_scoped6 cc0_scoped7 cc0_scoped8 cc0_scoped9 cc0_scoped10 cc0_scoped11 cc0_scoped12 cc0_scoped13 cc0_scoped14 cc0_scoped15)
          fun _ => iprop(taskR cx ci (gathAt cx ci) d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [task_eq_chunks, (K (F := F)).scopedBufs_V hF d (cV L) (jV L), SparseCore.Cfg.scopedSems0_V (Val := Elt F) d (cV L) (jV L), ownBufs_V]
  unfold taskR
  simp only [bigSep_eight]
  iintro ⟨#Hlv, -, ⟨⟨Hi0, Hi1, Hi2, Hi3, Hi4, Hi5, Hi6, Hi7⟩, Hx, ⟨Ho0, Ho1, Ho2, Ho3, Ho4, Ho5, Ho6, Ho7⟩⟩, ⟨Hs, Hr, Hbufs⟩, Hsems, HO⟩
  ihave HR := (show iprop((xLoc d ↦{xq (cL L) (jL L)} cx d)
    ∗ (∃ f, (V d (cV L) (jV L)).loc cc0_scratch0 ↦{fullShare} f) ∗ (∃ f, (V d (cV L) (jV L)).loc cc0_scratch1 ↦{fullShare} f)
    ∗ ownSems0 (V d (cV L) (jV L)) ∗ ∃ W', ⌜∀ p ∈ W', p ∈ W ∨ p.2 = none⌝ ∗ owes (V d (cV L) (jV L)) O W') ⊢ (rest cx d L O W : sProp 𝕄) from .rfl) $$ [Hx Hs Hr Hsems HO]
  · isplitl [Hx]; · iexact Hx
    isplitl [Hs]; · iexact Hs
    isplitl [Hr]; · iexact Hr
    isplitl [Hsems]; · iexact Hsems
    iexists W; isplitr
    · ipureintro; exact fun p hp => .inl hp
    · iexact HO
  iapply (chunk_step cx co d L hpre 0 cc0_scratch2 cc0_scoped0 cc0_scoped1 (by decide) (by decide) (by decide) (by decide) (by decide) (by decide) O W hO) $$ [-]
  isplitr; · iexact Hlv
  isplitl [HR]; · iexact HR
  isplitl [Hi0]; · iexact Hi0
  isplitl [Ho0]; · iexact Ho0
  iintro HR Hi0 Ho0
  iapply (chunk_step cx co d L hpre 1 cc0_scratch2 cc0_scoped2 cc0_scoped3 (by decide) (by decide) (by decide) (by decide) (by decide) (by decide) O W hO) $$ [-]
  isplitr; · iexact Hlv
  isplitl [HR]; · iexact HR
  isplitl [Hi1]; · iexact Hi1
  isplitl [Ho1]; · iexact Ho1
  iintro HR Hi1 Ho1
  iapply (chunk_step cx co d L hpre 2 cc0_scratch2 cc0_scoped4 cc0_scoped5 (by decide) (by decide) (by decide) (by decide) (by decide) (by decide) O W hO) $$ [-]
  isplitr; · iexact Hlv
  isplitl [HR]; · iexact HR
  isplitl [Hi2]; · iexact Hi2
  isplitl [Ho2]; · iexact Ho2
  iintro HR Hi2 Ho2
  iapply (chunk_step cx co d L hpre 3 cc0_scratch2 cc0_scoped6 cc0_scoped7 (by decide) (by decide) (by decide) (by decide) (by decide) (by decide) O W hO) $$ [-]
  isplitr; · iexact Hlv
  isplitl [HR]; · iexact HR
  isplitl [Hi3]; · iexact Hi3
  isplitl [Ho3]; · iexact Ho3
  iintro HR Hi3 Ho3
  iapply (chunk_step cx co d L hpre 4 cc0_scratch2 cc0_scoped8 cc0_scoped9 (by decide) (by decide) (by decide) (by decide) (by decide) (by decide) O W hO) $$ [-]
  isplitr; · iexact Hlv
  isplitl [HR]; · iexact HR
  isplitl [Hi4]; · iexact Hi4
  isplitl [Ho4]; · iexact Ho4
  iintro HR Hi4 Ho4
  iapply (chunk_step cx co d L hpre 5 cc0_scratch2 cc0_scoped10 cc0_scoped11 (by decide) (by decide) (by decide) (by decide) (by decide) (by decide) O W hO) $$ [-]
  isplitr; · iexact Hlv
  isplitl [HR]; · iexact HR
  isplitl [Hi5]; · iexact Hi5
  isplitl [Ho5]; · iexact Ho5
  iintro HR Hi5 Ho5
  iapply (chunk_step cx co d L hpre 6 cc0_scratch2 cc0_scoped12 cc0_scoped13 (by decide) (by decide) (by decide) (by decide) (by decide) (by decide) O W hO) $$ [-]
  isplitr; · iexact Hlv
  isplitl [HR]; · iexact HR
  isplitl [Hi6]; · iexact Hi6
  isplitl [Ho6]; · iexact Ho6
  iintro HR Hi6 Ho6
  iapply (chunk_step cx co d L hpre 7 cc0_scratch2 cc0_scoped14 cc0_scoped15 (by decide) (by decide) (by decide) (by decide) (by decide) (by decide) O W hO) $$ [-]
  isplitr; · iexact Hlv
  isplitl [HR]; · iexact HR
  isplitl [Hi7]; · iexact Hi7
  isplitl [Ho7]; · iexact Ho7
  iintro ⟨Hx, Hs, Hr, Hsems, HO⟩ Hi7 Ho7
  rw [wp_pure]
  imodintro
  isplitr [Hs Hr Hbufs Hsems HO]
  · isplitl [Hi0 Hi1 Hi2 Hi3 Hi4 Hi5 Hi6 Hi7]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      iexact Hi7
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hs Hr Hbufs]
  · isplitl [Hs]; · iexact Hs
    isplitl [Hr]; · iexact Hr
    iexact Hbufs
  isplitl [Hsems]; · iexact Hsems
  iexact HO

end Tile

/-! ## What the handshakes carry, and the obligation -/

/-- The call's payloads: each SparseCore is handed its sixteen tasks' resources and brings them back, the result's blocks at
    the table's rows. -/
def P : (K (F := F)).Pay (nD := nD) (Val := Elt F) (Name := ℕ) (U := UU) where
  st := fun q d c => match q with | 0 => bigSep Finset.univ fun s : Fin ((K (F := F)).nSub 0) => taskR cx ci co d (Fin.cast nCore_zero c) (Fin.cast nSub_zero s)
  dn := fun q d c => match q with | 0 => bigSep Finset.univ fun s : Fin ((K (F := F)).nSub 0) => taskR cx ci (gathAt cx ci) d (Fin.cast nCore_zero c) (Fin.cast nSub_zero s)
  go := fun q d c s => match q with | 0 => taskR cx ci co d (Fin.cast nCore_zero c) (Fin.cast nSub_zero s)
  td := fun q d c s => match q with | 0 => taskR cx ci (gathAt cx ci) d (Fin.cast nCore_zero c) (Fin.cast nSub_zero s)
  x := fun _ _ => iprop(emp)

instance P_storable : (P cx ci co).IsStorable where
  st q d c := match q with
    | 0 => (inferInstance : BI.Storable (upEmb : UEmb _ 𝕄) (bigSep Finset.univ fun s : Fin ((K (F := F)).nSub 0) => taskR cx ci co d (Fin.cast nCore_zero c) (Fin.cast nSub_zero s)))
  dn q d c := match q with
    | 0 => (inferInstance : BI.Storable (upEmb : UEmb _ 𝕄) (bigSep Finset.univ fun s : Fin ((K (F := F)).nSub 0) => taskR cx ci (gathAt cx ci) d (Fin.cast nCore_zero c) (Fin.cast nSub_zero s)))
  go q d c s := match q with
    | 0 => (inferInstance : BI.Storable (upEmb : UEmb _ 𝕄) (taskR cx ci co d (Fin.cast nCore_zero c) (Fin.cast nSub_zero s)))
  td q d c s := match q with
    | 0 => (inferInstance : BI.Storable (upEmb : UEmb _ 𝕄) (taskR cx ci (gathAt cx ci) d (Fin.cast nCore_zero c) (Fin.cast nSub_zero s)))

variable [FloatOps F]

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          xV (Memref.isWhole_whole _) iV (Memref.isWhole_whole _) oV (Memref.isWhole_whole _)
          sV (Memref.isWhole_whole _) rV (Memref.isWhole_whole _) cc0_scratch2 cc0_scoped0 cc0_scoped1 cc0_scoped2 cc0_scoped3 cc0_scoped4 cc0_scoped5
          cc0_scoped6 cc0_scoped7 cc0_scoped8 cc0_scoped9 cc0_scoped10 cc0_scoped11 cc0_scoped12 cc0_scoped13 cc0_scoped14 cc0_scoped15) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets what the launch asks of it. -/
theorem tileObl (hF : (K (F := F)).Facts) {ci : (d : Dev nD) → Buf (Elt F) (iLoc d)} (hpre : IdxOK ci) : (K (F := F)).TileObl (D (F := F)) 𝒱 (P cx ci co) v₀ 0 := by
  intro d c i O W hO _ _
  simp only [show (P cx ci co).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body cx co d (coordsV ⟨_, hci.1⟩ ⟨_, hci.2⟩) hF hpre O W hO).trans (wp_mono frame _ _ fun _ => obl_post)

/-- A SparseCore's operands are its tasks' resources. -/
theorem vecSplit : (K (F := F)).VecSplit' (P cx ci co) 0 := by
  intro d c
  show (bigSep Finset.univ fun s : Fin ((K (F := F)).nSub 0) => taskR cx ci co d (Fin.cast nCore_zero c) (Fin.cast nSub_zero s)) ⊢ |={Set.univ}=> iprop(
      (bigSep Finset.univ fun s : Fin ((K (F := F)).nSub 0) => taskR cx ci co d (Fin.cast nCore_zero c) (Fin.cast nSub_zero s))
      ∗ ((bigSep Finset.univ fun s : Fin ((K (F := F)).nSub 0) => taskR cx ci (gathAt cx ci) d (Fin.cast nCore_zero c) (Fin.cast nSub_zero s))
          -∗ (bigSep Finset.univ fun s : Fin ((K (F := F)).nSub 0) => taskR cx ci (gathAt cx ci) d (Fin.cast nCore_zero c) (Fin.cast nSub_zero s))))
  iintro H; imodintro
  isplitl [H]; · iexact H
  iintro H; iexact H

/-! ## The arrays as the tasks' blocks and shares -/

theorem iSet_eq (b : Fin 256) : iSet b = (iblkR b).set := by
  show ((View.whole (main_v0_scv : Ref sig .scVector)).slice (iblkR b)).set = _
  rw [View.set_slice]; exact Finset.map_refl
theorem oSet_eq (b : Fin 256) : oSet b = (oblkR b).set := by
  show ((View.whole (main_v1_scv : Ref sig .scVector)).slice (oblkR b)).set = _
  rw [View.set_slice]; exact Finset.map_refl

/-- The tasks' chunks are the 256 blocks. -/
def blkEquiv : Fin 2 × Fin 16 × Fin 8 ≃ Fin 256 where
  toFun t := blkNo t.1 t.2.1 t.2.2
  invFun b := (⟨b.val / 8 % 2, by omega⟩, ⟨b.val / 16, by omega⟩, ⟨b.val % 8, by omega⟩)
  left_inv := by rintro ⟨c, s, n⟩; simp only [blkNo]; ext <;> simp <;> omega
  right_inv := by intro b; simp only [blkNo]; ext; simp; omega
/-- The tasks are the 32 shares. -/
def taskEquiv : Fin 2 × Fin 16 ≃ Fin (2 ^ 5) where
  toFun t := taskNo t.1 t.2
  invFun b := (⟨b.val % 2, by omega⟩, ⟨b.val / 2, by omega⟩)
  left_inv := by rintro ⟨c, s⟩; simp only [taskNo]; ext <;> simp <;> omega
  right_inv := by intro b; simp only [taskNo]; ext; simp; omega

theorem bigSep_blocks (Φ : Fin 256 → sProp 𝕄) :
    (bigSep Finset.univ fun c : Fin 2 => bigSep Finset.univ fun s : Fin 16 => bigSep Finset.univ fun n : Fin 8 => Φ (blkNo c s n)) = bigSep Finset.univ Φ := by
  rw [bigSep_univ_equiv blkEquiv Φ, bigSep_univ_prod (fun t : Fin 2 × Fin 16 × Fin 8 => Φ (blkEquiv t))]
  refine bigSep_congr fun c _ => ?_
  rw [bigSep_univ_prod (fun t : Fin 16 × Fin 8 => Φ (blkEquiv (c, t)))]
  rfl
theorem bigSep_tasks (Φ : Fin (2 ^ 5) → sProp 𝕄) :
    (bigSep Finset.univ fun c : Fin 2 => bigSep Finset.univ fun s : Fin 16 => Φ (taskNo c s)) = bigSep Finset.univ Φ := by
  rw [bigSep_univ_equiv taskEquiv Φ, bigSep_univ_prod (fun t : Fin 2 × Fin 16 => Φ (taskEquiv t))]
  rfl

theorem iPts_blocks (d : Dev nD) (f : Buf (Elt F) (iLoc d)) :
    (iLoc d ↦{fullShare} f : sProp 𝕄) = bigSep Finset.univ fun b : Fin 256 => iLoc d ↦[iSet b]{fullShare} f := by
  rw [← pointsTo_biUnion Finset.univ (ℓ := iLoc d) iSet (fun i _ j _ h => by rw [iSet_eq, iSet_eq]; exact Rect.part_disjoint idiv h),
    (Finset.biUnion_congr rfl fun i _ => iSet_eq i).trans (Rect.biUnion_part idiv)]; try rfl
theorem oPts_blocks (d : Dev nD) (f : Buf (Elt F) (oLoc d)) :
    (oLoc d ↦{fullShare} f : sProp 𝕄) = bigSep Finset.univ fun b : Fin 256 => oLoc d ↦[oSet b]{fullShare} f := by
  rw [← pointsTo_biUnion Finset.univ (ℓ := oLoc d) oSet (fun i _ j _ h => by rw [oSet_eq, oSet_eq]; exact Rect.part_disjoint odiv h),
    (Finset.biUnion_congr rfl fun i _ => oSet_eq i).trans (Rect.biUnion_part odiv)]; try rfl

/-- All the tasks' resources are the three arrays whole. -/
theorem tasks_whole (fo : (d : Dev nD) → Buf (Elt F) (oLoc d)) (d : Dev nD) :
    (bigSep Finset.univ fun c : Fin 2 => bigSep Finset.univ fun s : Fin 16 => taskR cx ci fo d c s)
      = iprop((iLoc d ↦{fullShare} ci d) ∗ (xLoc d ↦{fullShare} cx d) ∗ (oLoc d ↦{fullShare} fo d)) := by
  unfold taskR
  simp only [bigSep_sep']
  rw [bigSep_blocks (fun b => iLoc d ↦[iSet b]{fullShare} ci d), bigSep_blocks (fun b => oLoc d ↦[oSet b]{fullShare} fo d),
    bigSep_tasks (fun t => xLoc d ↦{ShareLeaves.leaf 5 fullShare t} cx d), ← iPts_blocks, ← oPts_blocks,
    ← ShareLeaves.pointsTo_leaves Finset.univ (cx d) 5 fullShare]

theorem st0_eq (d : Dev nD) : (bigSep Finset.univ fun c : Fin ((K (F := F)).nCore 0) => (P cx ci co).st 0 d c)
    = iprop((iLoc d ↦{fullShare} ci d) ∗ (xLoc d ↦{fullShare} cx d) ∗ (oLoc d ↦{fullShare} co d)) :=
  tasks_whole cx ci co d
theorem dn0_eq (d : Dev nD) : (bigSep Finset.univ fun c : Fin ((K (F := F)).nCore 0) => (P cx ci co).dn 0 d c)
    = iprop((iLoc d ↦{fullShare} ci d) ∗ (xLoc d ↦{fullShare} cx d) ∗ (oLoc d ↦{fullShare} gathAt cx ci d)) :=
  tasks_whole cx ci (gathAt cx ci) d

end Cert.Proof.GatherIdeal

end
-- ==== Proof.GatherIdealSum.lean ====
/-
  The weighted sum on the TensorCore: its body, its pipeline's proof data, and its region of @main with the value it
  leaves in the result's array, entered while the core's SparseCore calls are over.
-/
module

public import proofs.«01_k».proof.Proof.GatherIdealTask
public import proofs.«01_k».proof.Proof.Gen.GatherIdeal.Launch
public import proofs.«01_k».proof.Proof.Gen.GatherIdeal.Points
public import proofs.«01_k».proof.Proof.Gen.GatherIdeal.Skeleton
public import Idealize.ShloMosaic.Lib.Pipeline.RegionsLoop
public import Idealize.ShloMosaic.Lib.Pipeline.FrameBody
public import Idealize.ShloMosaic.Lib.Pipeline.ValueKit

@[expose] public section

noncomputable section

namespace Cert.Proof.GatherIdeal

open Cert.GatherIdeal Cert.GatherIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- The staging pipelines' rounds, in the resource algebra. -/
def EP : Emb UPipe (MT nD τ sig (HIx 1) (Elt F) ℕ UU ℕ) :=
  ((Emb.inl : Emb UPipe (UPipe × Counters)).trans (Emb.inr : Emb (UPipe × Counters) UU)).trans
    (uEmb (nD := nD) (sig := sig) (Ix := HIx 1) (Val := Elt F) (Name := ℕ) (U := UU) (Lvl := ℕ)).toEmb

instance EP_landsIn : (EP : Emb UPipe 𝕄).LandsIn (upEmb : UEmb _ 𝕄) := by unfold EP; infer_instance

/-! ## The body -/

/-- What the body stores, of the blocks it is handed. -/
abbrev sumBlk (X : S512x8x128.Idx → Elt F .f32) (W : S512x8.Idx → Elt F .f32) : S512x128.Idx → Elt F .f32 := k1_pay1 (F := F) X W

theorem off2_zero : (![0, 0] : Fin 2 → Nat) = fun _ => 0 := by funext a; fin_cases a <;> rfl
theorem off3_zero : (![0, 0, 0] : Fin 3 → Nat) = fun _ => 0 := by funext a; fin_cases a <;> rfl

/-- The body on three staging buffers: the third left at the weighted sum of the first two. -/
theorem body_spec (d : Dev nD) (i : grid1.Coords) (M1 : Memref sig .tc .vmem S512x8x128 .f32) (h1 : M1.IsWhole)
    (M2 : Memref sig .tc .vmem S512x8 .f32) (h2 : M2.IsWhole) (M3 : Memref sig .tc .vmem S512x128 .f32) (h3 : M3.IsWhole)
    (X : S512x8x128.Idx → Elt F .f32) (W : S512x8.Idx → Elt F .f32) (Y : S512x128.Idx → Elt F .f32) :
    iprop((owns (T d) M1 fullShare X : sProp 𝕄) ∗ owns (T d) M2 fullShare W ∗ owns (T d) M3 fullShare Y)
      ⊢ wp frame (wpE (defs₀ (F := F)) 𝒱₀ (T d) none) Set.univ (cc1__wsum_body (F := F) i M1 h1 M2 h2 M3 h3)
          fun _ => iprop(owns (T d) M1 fullShare X ∗ owns (T d) M2 fullShare W ∗ owns (T d) M3 fullShare (sumBlk X W)) := by
  rw [cc1__wsum_body_eq_skeleton]
  unfold owns cc1__wsum_body_skel
  rw [h1.set_eq_univ, h2.set_eq_univ, h3.set_eq_univ]
  iintro ⟨⟨%f1, %hf1, H1⟩, ⟨%f2, %hf2, H2⟩, ⟨%f3, -, H3⟩⟩
  sl_exec!
  sl_step
  isplitl [H1]; · iexists _; isplitr; swap; (· iexact H1); ipureintro; exact hf1
  isplitl [H2]; · iexists _; isplitr; swap; (· iexact H2); ipureintro; exact hf2
  iexists _; isplitr; swap; (· iexact H3)
  ipureintro
  refine (View.read_writes_eq_canon _ _ _ (fun y => ⟨_, List.mem_singleton_self _, View.mem_set_unit_zero off2_zero inb_S512x128_S512x128_0_0 y⟩)).trans ?_
  refine (View.canon_unit_zero off2_zero _ _).trans ?_
  subst hf1 hf2
  exact congrArg₂ (k1_pay1 (F := F)) (View.ld_unit_zero off3_zero _ _) (View.ld_unit_zero off2_zero _ _)

/-! ## The pipeline's proof data -/

variable (V : (c : Dev nD) → (b : Ref sig .tc) → Buf (Elt F) ((c : Thread nD τ).loc b)) (O : Dev nD → CellTallies nD τ sig (HIx 1)) (n : ℕ)

/-- The blocks of the gathered rows and of the weights at point `t`. -/
abbrev rowsBlk (c : Dev nD) (t : Fin cfg1.N) : (cfg1.win 0).block.Idx → Elt F (cfg1.win 0).elt :=
  ((cfg1.win 0).blk t).view.read (Elt F) (V c main_v2)
abbrev wtsBlk (c : Dev nD) (t : Fin cfg1.N) : (cfg1.win 1).block.Idx → Elt F (cfg1.win 1).elt :=
  ((cfg1.win 1).blk t).view.read (Elt F) (V c main_arg2)

/-- The proof data of the region entered at `V`, the core owing `O c` and having waited at or below level `n`: the inputs' buffers left as fetched, the
    output's at the block's weighted sum. -/
def dat1 (c : Dev nD) : Dat τ (Elt F) (HIx 1) ℕ UU ℕ cfg1 c where
  A w := V c (Pipeline.arrRef spec1 w)
  after w t := match w with
    | ⟨0, _⟩ => rowsBlk V c t
    | ⟨1, _⟩ => wtsBlk V c t
    | ⟨2, _⟩ => sumBlk (rowsBlk V c t) (wtsBlk V c t)
  Φ _ := Pipeline.scopedRest (Ix := HIx 1) (Name := ℕ) (U := UU) (Lvl := ℕ) (Val := Elt F) spec1 c
  q _ := fullShare
  owed _ := O c
  recorded _ := {p | (K (F := F)).lev ((c : Thread nD τ), p.1) p.2 ≤ n}

theorem before1_0 (c : Dev nD) (t : Fin cfg1.N) (x : (cfg1.win 0).block.Idx → Elt F (cfg1.win 0).elt) :
    (dat1 V O n c).before 0 t x = rowsBlk V c t :=
  ((dat1 V O n c).before_fetched 0 t (fetch1_0 t) x).trans rfl
theorem before1_1 (c : Dev nD) (t : Fin cfg1.N) (x : (cfg1.win 1).block.Idx → Elt F (cfg1.win 1).elt) :
    (dat1 V O n c).before 1 t x = wtsBlk V c t :=
  ((dat1 V O n c).before_fetched 1 t (fetch1_1 t) x).trans rfl

/-- The body meets the pipeline's obligation. -/
theorem obligation1 (c : Dev nD) : Pipeline.BodyObligation (dat1 V O n c) (defs₀ (F := F)) 𝒱₀ none Set.univ := fun t => by
  rw [bigSep_W1, bigSep_W1]
  rw [show (dat1 V O n c).Φ t.castSucc = (dat1 V O n c).Φ t.succ from rfl,
    show (dat1 V O n c).owesAt none t.succ = (dat1 V O n c).owesAt none t.castSucc from rfl]
  iintro ⟨HΦ, Howes, ⟨%d0, H0⟩, ⟨%d1, H1⟩, ⟨%d2, H2⟩⟩
  rw [before1_0, before1_1]
  iapply (wp_wand frame (wpE (defs₀ (F := F)) 𝒱₀ (T c) none) Set.univ) $$ [H0 H1 H2]
  · iapply (body_spec c (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (rowsBlk V c t) (wtsBlk V c t) _)
    isplitl [H0]; · iexact H0
    isplitl [H1]; · iexact H1
    iexact H2
  iintro %_ ⟨H0, H1, H2⟩
  isplitl [HΦ]; · iexact HΦ
  isplitl [Howes]; · iexact Howes
  isplitl [H0]; · iexact H0
  isplitl [H1]; · iexact H1
  iexact H2

/-! ## What the region leaves -/

/-- Row `r` of an array in blocks of 512 rows. -/
def rowAt (t : ℕ) (ht : t < 8) (i : Fin 512) : Fin 4096 := ⟨512 * t + i.val, by omega⟩

/-- The weighted sum of the whole arrays: row `r` from the block its row lies in. -/
def sumArr (x : S4096x8x128.Idx → Elt F .f32) (w : S4096x8.Idx → Elt F .f32) : S4096x128.Idx → Elt F .f32 := fun j =>
  sumBlk (fun i => x (ix3 (n0 := 4096) (n1 := 8) (n2 := 128) (rowAt ((j 0).val / 512) (by have := (j 0).isLt; change (j 0).val < 4096 at this; omega) (i 0)) (i 1) (i 2)))
    (fun i => w (ix2 (n0 := 4096) (n1 := 8) (rowAt ((j 0).val / 512) (by have := (j 0).isLt; change (j 0).val < 4096 at this; omega) (i 0)) (i 1)))
    (ix2 (n0 := 512) (n1 := 128) ⟨(j 0).val % 512, Nat.mod_lt _ (by decide)⟩ (j 1))

theorem ptlt (t : Fin cfg1.N) : t.val < 8 := lt_of_lt_of_eq t.isLt N_1

theorem coords1 (t : Fin cfg1.N) : ((grid1.coords t) 0).val = t.val := by
  refine (Pipeline.Grid.coords_val t 0 (S := 1) (B := 8) (by decide) (by decide)).trans ?_
  have := ptlt t; omega

theorem index1_0 : ∀ t : Fin grid1.N, win1_0.index t = ![t.val, 0, 0] := by decide +kernel
theorem index1_1 : ∀ t : Fin grid1.N, win1_1.index t = ![t.val, 0] := by decide +kernel
theorem index1_2 : ∀ t : Fin grid1.N, win1_2.index t = ![t.val, 0] := by decide +kernel

/-- Where an element of a window's block lies in its array. -/
theorem emb1_0 (t : Fin cfg1.N) (y : S512x8x128.Idx) : ((cfg1.win 0).blk t).view.emb y
    = ix3 (n0 := 4096) (n1 := 8) (n2 := 128) (rowAt t.val (ptlt t) (y 0)) (y 1) (y 2) := by
  funext a; apply Fin.ext
  refine (win1_0.rect_emb_val t y a).trans ?_
  rw [index1_0 t]
  fin_cases a
  · exact congrArg (· + (y 0).val) (Nat.mul_comm _ _)
  · show 0 * 8 + (y 1).val = (y 1).val; omega
  · show 0 * 128 + (y 2).val = (y 2).val; omega
theorem emb1_1 (t : Fin cfg1.N) (y : S512x8.Idx) : ((cfg1.win 1).blk t).view.emb y
    = ix2 (n0 := 4096) (n1 := 8) (rowAt t.val (ptlt t) (y 0)) (y 1) := by
  funext a; apply Fin.ext
  refine (win1_1.rect_emb_val t y a).trans ?_
  rw [index1_1 t]
  fin_cases a
  · exact congrArg (· + (y 0).val) (Nat.mul_comm _ _)
  · show 0 * 8 + (y 1).val = (y 1).val; omega
theorem emb1_2 (t : Fin cfg1.N) (y : S512x128.Idx) : ((cfg1.win 2).blk t).view.emb y
    = ix2 (n0 := 4096) (n1 := 128) (rowAt t.val (ptlt t) (y 0)) (y 1) := by
  funext a; apply Fin.ext
  refine (win1_2.rect_emb_val t y a).trans ?_
  rw [index1_2 t]
  fin_cases a
  · exact congrArg (· + (y 0).val) (Nat.mul_comm _ _)
  · show 0 * 128 + (y 1).val = (y 1).val; omega

theorem covers1 : win1_2.Covers := by decide +kernel

/-- The weighted sum's rows of one block are the block's weighted sum. -/
theorem sumArr_row (x : S4096x8x128.Idx → Elt F .f32) (w : S4096x8.Idx → Elt F .f32) (t : ℕ) (ht : t < 8) (y : S512x128.Idx) :
    sumArr x w (ix2 (n0 := 4096) (n1 := 128) (rowAt t ht (y 0)) (y 1))
      = sumBlk (fun i => x (ix3 (n0 := 4096) (n1 := 8) (n2 := 128) (rowAt t ht (i 0)) (i 1) (i 2)))
          (fun i => w (ix2 (n0 := 4096) (n1 := 8) (rowAt t ht (i 0)) (i 1))) y := by
  have hy : (y 0).val < 512 := (y 0).isLt
  have h1 : (512 * t + (y 0).val) / 512 = t := by omega
  have h2 : (512 * t + (y 0).val) % 512 = (y 0).val := by omega
  unfold sumArr
  have e : ix2 (n0 := 512) (n1 := 128) ⟨(512 * t + (y 0).val) % 512, Nat.mod_lt _ (by decide)⟩ (y 1) = y := by
    funext a; fin_cases a
    · exact Fin.ext h2
    · rfl
  refine Eq.trans ?_ (congrArg _ e)
  have hr : ∀ h (i : Fin 512), rowAt ((512 * t + (y 0).val) / 512) h i = rowAt t ht i := fun h i =>
    Fin.ext (by show 512 * ((512 * t + (y 0).val) / 512) + _ = _; rw [h1]; rfl)
  congr 1
  · funext i; exact congrArg (fun r => x (ix3 (n0 := 4096) (n1 := 8) (n2 := 128) r (i 1) (i 2))) (hr _ _)
  · funext i; exact congrArg (fun r => w (ix2 (n0 := 4096) (n1 := 8) r (i 1))) (hr _ _)

/-- The result's array after the region: the weighted sum of the two arrays. -/
theorem final1 (c : Dev nD) : (dat1 V O n c).arrAt 2 cfg1.N = sumArr (V c main_v2) (V c main_arg2) := by
  refine (dat1 V O n c).arrAt_eq_of_cover 2 (sumArr (V c main_v2) (V c main_arg2)) ?_ (covers1.cover _ (Memref.isWhole_whole _))
  intro t _
  funext y
  show sumBlk (rowsBlk V c t) (wtsBlk V c t) y = sumArr (V c main_v2) (V c main_arg2) (((cfg1.win 2).blk t).view.emb y)
  rw [emb1_2 t y, sumArr_row]
  congr 1
  · funext i; exact congrArg (V c main_v2) (emb1_0 t i)
  · funext i; exact congrArg (V c main_arg2) (emb1_1 t i)

/-! ## The region -/

/-- The launch's tables of prefetched words: none. -/
abbrev adm : (p : Fin 1) → (pcfgs (F := F) p).Adm := fun p => (cfgs p).toPCfg_adm

/-- The proof data of the program's pipelines. -/
def pdats : (p : Fin 1) → (c : Dev nD) → Dat τ (Elt F) (HIx 1) ℕ UU ℕ (Pipeline.pin (pcfgs (F := F)) adm p) c
  | ⟨0, _⟩ => fun c => dat1 V O n c

variable (V' : (c : Dev nD) → (b : Ref sig .tc) → Buf (Elt F) ((c : Thread nD τ).loc b))

/-- What the core owes, and where it has waited. -/
abbrev owesB (c : Dev nD) : sProp 𝕄 := iprop(∃ W, ⌜(K (F := F)).WBelow (T c) W n⌝ ∗ owes (T c) (O c) W)

set_option backward.isDefEq.respectTransparency.types false in
/-- The weighted sum's region: entered with the unscoped buffers at `V`, left with them at `V'`, which is `V` but for the
    result's array, at the weighted sum. -/
def reg1 (hO : ∀ c g, O c g none = 0) (hV'_out : ∀ c, V' c main_v3 = sumArr (V c main_v2) (V c main_arg2))
    (hV'_ne : ∀ c (b : Ref sig .tc), b ≠ main_v3 → V' c b = V c b) :
    Pipeline.RegionSeg (pcfgs (F := F)) adm (pdats V O n) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (obligation1 V O n c).loose
  hwaits c := Pipeline.cellsWaits_intro (Pipeline.pin (pcfgs (F := F)) adm) (pdats V O n) none 0 c fun w s t =>
    (K (F := F)).mayWait_none _ (hO c)
  pre c := iprop(unscopedBufs c (V c) ∗ owesB O n c)
  post c := iprop(unscopedBufs c (V' c) ∗ owesB O n c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V O n) launch1.win launch1.arr_whole c
      ((pdats V O n 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V O n 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V O n 0 c).Φ (Fin.last (Pipeline.pin (pcfgs (F := F)) adm 0).N)
      = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V O n) ((pdats V O n 0 c).share_full fun _ => rfl) (V c) (V' c) ((pdats V O n 0 c).arrAt · cfg1.N)
      (fun w => by
        fin_cases w
        · exact ((pdats V O n 0 c).arrAt_in 0 rfl _).trans (hV'_ne c main_v2 (by decide)).symm
        · exact ((pdats V O n 0 c).arrAt_in 1 rfl _).trans (hV'_ne c main_arg2 (by decide)).symm
        · exact (final1 V O n c).trans (hV'_out c).symm)
      (fun b hb => hV'_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.GatherIdeal

end
-- ==== Proof.GatherIdealRun.lean ====
/-
  The gather with its weighted sum, run: @main on the TensorCore (the row numbers flattened, the SparseCore call, the
  gathered rows shaped, the weighted sum's region), the launch's ghost state, and the program's run with the values it
  leaves.
-/
module

public import proofs.«01_k».proof.Proof.GatherIdealSum
public import proofs.«01_k».proof.Defs
public import proofs.«01_k».proof.Proof.Gen.Pre_idx_in_rows

@[expose] public section

noncomputable section

namespace Cert.Proof.GatherIdeal

open Cert.GatherIdeal Cert.GatherIdeal.Gen

open Idealize.ShloMosaic
open Idealize.ShloMosaic.TcCoe
open Idealize.ShloMosaic.StableHlo (held wp_hlo_within)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The TensorCore's arrays -/

abbrev x' : DevRef τ sig := Proc.devRef .tc (main_arg0 : Ref sig .tc)
abbrev k' : DevRef τ sig := Proc.devRef .tc (main_arg1 : Ref sig .tc)
abbrev w' : DevRef τ sig := Proc.devRef .tc (main_arg2 : Ref sig .tc)
abbrev i' : DevRef τ sig := Proc.devRef .tc (main_v0 : Ref sig .tc)
abbrev o' : DevRef τ sig := Proc.devRef .tc (main_v1 : Ref sig .tc)
abbrev g' : DevRef τ sig := Proc.devRef .tc (main_v2 : Ref sig .tc)
abbrev r' : DevRef τ sig := Proc.devRef .tc (main_v3 : Ref sig .tc)

/-- All seven: the table, the row numbers, the weights, the row numbers flattened, the gathered rows, those shaped, the
    result. -/
abbrev S7 : Finset (DevRef τ sig) := {x', k', w', i', o', g', r'}

abbrev opFlat : HloOp τ sig (Elt F) := StableHlo.reshape main_arg1 main_v0 (rfl : (.i32 : EltTy) = .i32) shapeCasts_S4096x8_S32768
abbrev opShape : HloOp τ sig (Elt F) := StableHlo.reshape main_v1 main_v2 (rfl : (.f32 : EltTy) = .f32) shapeCasts_S32768x128_S4096x8x128

theorem held_S7 (d : Dev nD) (W : Valuation τ sig (Elt F)) :
    (held (SparseCore.T d) S7 W : sProp 𝕄)
      = iprop((xLoc d ↦{fullShare} W x') ∗ ((SparseCore.T d).loc main_arg1 ↦{fullShare} W k') ∗ ((SparseCore.T d).loc main_arg2 ↦{fullShare} W w')
          ∗ (iLoc d ↦{fullShare} W i') ∗ (oLoc d ↦{fullShare} W o') ∗ ((SparseCore.T d).loc main_v2 ↦{fullShare} W g')
          ∗ (SparseCore.T d).loc main_v3 ↦{fullShare} W r') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The unscoped buffers are the seven arrays. -/
theorem unscoped_held (d : Dev nD) (W : Valuation τ sig (Elt F)) :
    (unscopedBufs d (fun b => W (Proc.devRef .tc b)) : sProp 𝕄) = held (SparseCore.T d) S7 W := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-! ## Their contents as @main runs -/

/-- At launch; with the row numbers flattened. -/
def V0 (d : Dev nD) : Valuation τ sig (Elt F) := fun b => m (d, b)
def V1 (d : Dev nD) : Valuation τ sig (Elt F) := (opFlat (F := F)).result (V0 m d)

/-- The table; the row numbers flattened; what the gather's result held. -/
abbrev cx0 (d : Dev nD) : Buf (Elt F) (xLoc d) := V1 m d x'
abbrev ci0 (d : Dev nD) : Buf (Elt F) (iLoc d) := V1 m d i'
abbrev co0 (d : Dev nD) : Buf (Elt F) (oLoc d) := V1 m d o'

/-- After the call; with the gathered rows shaped; after the weighted sum. -/
def V2 (d : Dev nD) : Valuation τ sig (Elt F) := Function.update (V1 m d) o' (gathAt (cx0 m) (ci0 m) d)
def V3 (d : Dev nD) : Valuation τ sig (Elt F) := (opShape (F := F)).result (V2 m d)
/-- The result: the weighted sum of the gathered rows. -/
def out (d : Dev nD) : S4096x128.Idx → Elt F .f32 := sumArr (V3 m d g') (V3 m d w')
def V4 (d : Dev nD) : Valuation τ sig (Elt F) := Function.update (V3 m d) r' (out m d)

theorem V4_r (d : Dev nD) : V4 m d r' = out m d := Function.update_self _ _ _
theorem V4_ne (d : Dev nD) (b : DevRef τ sig) (hb : b ≠ r') : V4 m d b = V3 m d b := Function.update_of_ne hb _ _
theorem V2_ne (d : Dev nD) (b : DevRef τ sig) (hb : b ≠ o') : V2 m d b = V1 m d b := Function.update_of_ne hb _ _
theorem V2_o (d : Dev nD) : V2 m d o' = gathAt (cx0 m) (ci0 m) d := Function.update_self _ _ _
theorem V1_ne (d : Dev nD) (b : DevRef τ sig) (hb : b ≠ i') : V1 m d b = m (d, b) :=
  (opFlat (F := F)).result_of_not_mem _ (show b ∉ ({i'} : Finset (DevRef τ sig)) from fun h => hb (Finset.mem_singleton.1 h))
theorem V3_ne (d : Dev nD) (b : DevRef τ sig) (hb : b ≠ g') : V3 m d b = V2 m d b :=
  (opShape (F := F)).result_of_not_mem _ (show b ∉ ({g'} : Finset (DevRef τ sig)) from fun h => hb (Finset.mem_singleton.1 h))

/-- The arguments end as they began. -/
theorem V4_x (d : Dev nD) : V4 m d x' = m (xLoc d) := by
  rw [V4_ne _ _ _ (by decide), V3_ne _ _ _ (by decide), V2_ne _ _ _ (by decide), V1_ne _ _ _ (by decide)]
theorem V4_k (d : Dev nD) : V4 m d k' = m ((SparseCore.T d).loc main_arg1) := by
  rw [V4_ne _ _ _ (by decide), V3_ne _ _ _ (by decide), V2_ne _ _ _ (by decide), V1_ne _ _ _ (by decide)]
theorem V4_w (d : Dev nD) : V4 m d w' = m ((SparseCore.T d).loc main_arg2) := by
  rw [V4_ne _ _ _ (by decide), V3_ne _ _ _ (by decide), V2_ne _ _ _ (by decide), V1_ne _ _ _ (by decide)]

theorem hFlat : (opFlat (F := F)).bufs ⊆ S7 := show ({k', i'} : Finset (DevRef τ sig)) ⊆ S7 by decide
theorem hShape : (opShape (F := F)).bufs ⊆ S7 := show ({o', g'} : Finset (DevRef τ sig)) ⊆ S7 by decide

theorem held_V1 (d : Dev nD) : (held (SparseCore.T d) S7 ((opFlat (F := F)).result (V0 m d)) : sProp 𝕄)
      = iprop((xLoc d ↦{fullShare} cx0 m d) ∗ ((SparseCore.T d).loc main_arg1 ↦{fullShare} V1 m d k') ∗ ((SparseCore.T d).loc main_arg2 ↦{fullShare} V1 m d w')
          ∗ (iLoc d ↦{fullShare} ci0 m d) ∗ (oLoc d ↦{fullShare} co0 m d) ∗ ((SparseCore.T d).loc main_v2 ↦{fullShare} V1 m d g')
          ∗ (SparseCore.T d).loc main_v3 ↦{fullShare} V1 m d r') := held_S7 d (V1 m d)
theorem held_V3 (d : Dev nD) : (held (SparseCore.T d) S7 ((opShape (F := F)).result (V2 m d)) : sProp 𝕄)
    = unscopedBufs d (fun b => V3 m d (Proc.devRef .tc b)) := (unscoped_held d (V3 m d)).symm

/-! ## The launch's ghost state -/

/-- The handshakes' cells, the staging pipeline's cells, nothing on the counters. -/
def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

/-- What the launch deals a device for the weighted sum's pipeline. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem ownU_split (a : UH) (b : UPipe) (k : Counters) :
    (ownU ((a, (b, k)) : UU) : sProp 𝕄) ⊢ iprop(BI.own (EH (F := F) a) ∗ BI.own (EP (F := F) b)) := by
  have h1 : (ownU ((a, (b, k)) : UU) : sProp 𝕄) ⊢ iprop(BI.own (EH (F := F) a) ∗ ownU ((1, (b, k)) : UU)) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op ((b, k) : UPipe × Counters))))
  have h2 : (ownU ((1, (b, k)) : UU) : sProp 𝕄) ⊢ iprop(BI.own (EP (F := F) b) ∗ ownU ((1, (1, k)) : UU)) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op k))))
  exact h1.trans (sep_mono_right (h2.trans sep_elim_left))

theorem bigSep_none {I : Type} (s : Finset I) : (bigSep s fun _ => iprop(emp)) = (iprop(emp) : sProp 𝕄) := bigSep_emp_const s

theorem hu₀ (cx ci co) : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (F := F) cx ci co).x q thr) := by
  unfold u₀
  iintro Hu
  ihave H := (ownU_split _ _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep',
      show (bigSep Finset.univ fun c : Dev nD => (Pipeline.cellsGhost (Pipeline.pin (pcfgs (F := F)) adm) EP 0 c : sProp 𝕄))
        = bigSep Finset.univ fun c : Dev nD => bigSep Finset.univ fun p => Pipeline.cellsGhost (Pipeline.pin (pcfgs (F := F)) adm) EP p c from
        bigSep_congr fun _ _ => (bigSep_univ_of_subsingleton (Φ := fun p => Pipeline.cellsGhost (Pipeline.pin (pcfgs (F := F)) adm) EP p _) (0 : Fin 1)).symm,
      show (bigSep Finset.univ fun c : Dev nD => (Pipeline.toksInit (Pipeline.pin (pcfgs (F := F)) adm) EP 0 c : sProp 𝕄))
        = bigSep Finset.univ fun c : Dev nD => bigSep Finset.univ fun p => Pipeline.toksInit (Pipeline.pin (pcfgs (F := F)) adm) EP p c from
        bigSep_congr fun _ _ => (bigSep_univ_of_subsingleton (Φ := fun p => Pipeline.toksInit (Pipeline.pin (pcfgs (F := F)) adm) EP p _) (0 : Fin 1)).symm]
    isplitl [Hg] <;> iassumption
  rw [show (bigSep Finset.univ fun thr : Thread nD τ => bigSep Finset.univ fun q : Fin 1 => (P (F := F) cx ci co).x q thr)
    = bigSep Finset.univ fun _ => iprop(emp) from bigSep_congr fun _ _ => bigSep_univ_of_subsingleton (0 : Fin 1), bigSep_none]
  iempintro

/-! ## @main on the TensorCore -/

/-- What @main leaves the claims: the seven arrays at the last contents. -/
abbrev FIN (d : Dev nD) : sProp 𝕄 := held (SparseCore.T d) S7 (V4 m d)

theorem Otc_none (c : Dev nD) (n : ℕ) (g : GSem nD τ sig) : (K (F := F)).Otc c n g none = 0 := by
  by_contra h
  have := (K (F := F)).lev_of_Otc_pos (Nat.pos_of_ne_zero h)
  exact absurd this (by show ¬ (_ + 1 ≤ 0); omega)

/-- The region of the weighted sum, entered after the one SparseCore call. -/
abbrev reg (n : ℕ) := reg1 (F := F) (fun c b => V3 m c (Proc.devRef .tc b)) (fun c => (K (F := F)).Otc c 1) n
  (fun c b => V4 m c (Proc.devRef .tc b)) (fun c g => Otc_none c 1 g) (fun c => V4_r m c)
  (fun c b hb => V4_ne m c _ fun h => hb (Proc.devRef_injective _ h))

theorem reg_pre (n : ℕ) (d : Dev nD) : (reg m n).pre d
    = iprop(unscopedBufs d (fun b => V3 m d (Proc.devRef .tc b)) ∗ owesB (fun c => (K (F := F)).Otc c 1) n d) := rfl
theorem reg_post (n : ℕ) (d : Dev nD) : (reg m n).post d
    = iprop(unscopedBufs d (fun b => V4 m d (Proc.devRef .tc b)) ∗ owesB (fun c => (K (F := F)).Otc c 1) n d) := rfl

set_option maxRecDepth 16384 in
/-- @main on device `d`'s TensorCore. -/
theorem hmain [∀ e, Nonempty (Elt F e)] (κ : GSem nD τ sig → ℕ) (d : Dev nD) :
    iprop((K (F := F)).ctx EH (P (cx0 m) (ci0 m) (co0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S7 (V0 m d) from unscoped_held d (V0 m d)]
  simp only [main, wp_bind, wp_pure]
  iintro ⟨#Hctx, Hst, ⟨Hb, Hheld, Hts, -⟩, Hg, Ht⟩
  iapply (wp_hlo_within 𝒱 (SparseCore.T d) none Set.univ (op := opFlat) (S := S7) hFlat (V := V0 m d)) $$ [Hb Hheld]
  · isplitl [Hb] <;> iassumption
  iintro ⟨Hb, Hheld⟩
  rw [wp_ret]; imodintro
  ihave Hh := (Entails.of_eq (held_V1 m d)) $$ Hheld
  icases Hh with ⟨Hx, Hk, Hw, Hi, Ho, Hv2, Hv3⟩
  iapply ((K (F := F)).wp_run (D (F := F)) 𝒱 (EH := EH) (P := P (cx0 m) (ci0 m) (co0 m)) κ d 0) $$ [Hst Hx Hk Hw Hi Ho Hv2 Hv3 Hb Hts Hg Ht]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq (cx0 m) (ci0 m) (co0 m) d)) $$ Hdn
  icases Hdn' with ⟨Hi, Hx, Ho⟩
  iapply (wp_hlo_within 𝒱 (SparseCore.T d) none Set.univ (op := opShape) (S := S7) hShape (V := V2 m d)) $$ [Hb Hx Hk Hw Hi Ho Hv2 Hv3]
  · isplitl [Hb]; · iexact Hb
    rw [held_S7, V2_o, V2_ne m d x' (by decide), V2_ne m d k' (by decide), V2_ne m d w' (by decide), V2_ne m d i' (by decide),
      V2_ne m d g' (by decide), V2_ne m d r' (by decide)]
    isplitl [Hx]; · iexact Hx
    isplitl [Hk]; · iexact Hk
    isplitl [Hw]; · iexact Hw
    isplitl [Hi]; · iexact Hi
    isplitl [Ho]; · iexact Ho
    isplitl [Hv2]; · iexact Hv2
    iexact Hv3
  iintro ⟨Hb, Hheld⟩
  rw [wp_ret]; imodintro
  ihave Hu := (Entails.of_eq (held_V3 m d)) $$ Hheld
  ihave Hlev := (SparseCore.Cfg.ctx_levAts κ) $$ Hctx
  unfold SparseCore.Cfg.tcSt
  icases Hst with ⟨HO, Hst⟩
  iapply ((K (F := F)).wp_liftProg (D (F := F)) 𝒱 (SparseCore.T d) Set.univ none (.op (.customCall (Pipeline.entry 0) ()) .ret) _)
  iapply (Pipeline.RegionSeg.wp (pcfgs (F := F)) adm _ none cellOf_inj (EP (F := F)) defs₀ 𝒱₀ (K (F := F)).L (K (F := F)).lev
    (reg m (8 * SparseCore.Cfg.Blocks.fst 1 1 1)) d none (fun _ h => nomatch h) .ret _)
  isplitl [Hst Hts]
  · rw [reg_post]; iintro ⟨Hb, Hu, HO⟩
    rw [wp_ret]; imodintro; imodintro
    isplitl [HO Hst]
    · isplitl [HO]; · iexact HO
      iexact Hst
    isplitl [Hu]
    · iapply (Entails.of_eq (unscoped_held (F := F) d (V4 m d))); iexact Hu
    isplitl [Hb] <;> iassumption
  isplitl [Hb]; · iexact Hb
  isplitl [Hu HO]
  · rw [reg_pre]; isplitl [Hu]; · iexact Hu
    iexact HO
  isplitl [Hlev]; · iexact Hlev
  isplitl [Hg] <;> iassumption

/-! ## The program's run -/

/-- What the claims read of device `d`'s final state. -/
def fq (d : Dev nD) (s' : Phys nD τ sig (Elt F)) : Prop :=
  s'.mem.mem ((SparseCore.T d).loc main_v3) = out m d ∧ s'.mem.mem ((SparseCore.T d).loc main_arg0) = m ((SparseCore.T d).loc main_arg0)
    ∧ s'.mem.mem ((SparseCore.T d).loc main_arg1) = m ((SparseCore.T d).loc main_arg1) ∧ s'.mem.mem ((SparseCore.T d).loc main_arg2) = m ((SparseCore.T d).loc main_arg2)

/-- A buffer held whole is what the state's memory holds. -/
theorem agree (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN; rw [held_S7, V4_x, V4_k, V4_w, V4_r]
  iintro ⟨⟨Hx, Hk, Hw, -, -, -, Hr⟩, HSI⟩
  ihave H := (agree _ _ s') $$ [HSI Hx]; · isplitl [Hx] <;> iassumption
  icases H with ⟨%h1, HSI⟩
  ihave H := (agree _ _ s') $$ [HSI Hk]; · isplitl [Hk] <;> iassumption
  icases H with ⟨%h2, HSI⟩
  ihave H := (agree _ _ s') $$ [HSI Hw]; · isplitl [Hw] <;> iassumption
  icases H with ⟨%h3, HSI⟩
  ihave H := (agree _ _ s') $$ [HSI Hr]; · isplitl [Hr] <;> iassumption
  icases H with ⟨%h4, HSI⟩
  ipureintro; exact ⟨h4, h1, h2, h3⟩

def QC : PUnit × MemSt nD τ sig (Elt F) → Prop := fun r =>
  (∀ d : Dev nD, r.2.mem ((SparseCore.T d).loc main_v3) = out m d ∧ r.2.mem ((SparseCore.T d).loc main_arg0) = m ((SparseCore.T d).loc main_arg0)
    ∧ r.2.mem ((SparseCore.T d).loc main_arg1) = m ((SparseCore.T d).loc main_arg1) ∧ r.2.mem ((SparseCore.T d).loc main_arg2) = m ((SparseCore.T d).loc main_arg2)) ∧ r.2.sem = fun _ => 0

/-- The row numbers, as launched, are below the table's row count. -/
def PreOK : Prop := ∀ (d : Dev nD) (j : S4096x8.Idx), ((m ((SparseCore.T d).loc main_arg1) : S4096x8.Idx → BitVec 32) j).toNat < 100000

theorem idxOK (h : PreOK m) : IdxOK (F := F) (ci0 m) := by
  intro d j
  have e : ci0 m d = shapeCast S32768 (m ((SparseCore.T d).loc main_arg1) : S4096x8.Idx → Elt F .i32) shapeCasts_S4096x8_S32768 := by
    exact StableHlo.reshape_result main_arg1 main_v0 rfl shapeCasts_S4096x8_S32768 _ _ (V0 m d)
  rw [e]
  exact h d _

/-- Every run ends with the result at the weighted sum of the gathered rows, the arguments unchanged, the semaphores at zero. -/
theorem run_main [∀ e, Nonempty (Elt F e)] (hpre : PreOK m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P (cx0 m) (ci0 m) (co0 m)) (A := ∅) facts v₀
    (fun q hq => match q with | 0 => nomatch hq)
    (fun q _ => match q with | 0 => tileObl (cx0 m) (co0 m) facts (idxOK m hpre))
    (fun q _ => match q with | 0 => SparseCore.Cfg.VecSplit.of_plain (vecSplit (cx0 m) (ci0 m) (co0 m)))
    m ρ main (G (F := F)) (FIN m) (u₀ (F := F)) (sep_elim_left.trans (hu₀ _ _ _)) (hmain m ρ) (fq m) (hfin m) (QC m) (fun _ h hz => ⟨h, hz⟩)

/-! ## The claim -/

/-- The precondition (every row number at least 0 and below the table's row count, element by element, all ones) gives
    what the run asks of the launch memory. -/
theorem ok_of_pre (m : (ℓ : Loc nD τ sig) → Buf (Elt Ideal) ℓ) (h : Cert.Pre_GatherIdeal m) : PreOK (F := Ideal) m := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  have word : ∀ v : BitVec 32, IntOp.andi (IntOp.cmpi .sge v 0#32) (IntOp.cmpi .slt v 100000#32) = 1#1 → v.toNat < 100000 := by
    intro v e
    simp only [IntOp.cmpi, hand, hone, Bool.and_eq_true, BitVec.sle_eq_decide, BitVec.slt_eq_decide,
      decide_eq_true_eq, BitVec.toInt_eq_toNat_cond, BitVec.toNat_ofNat, Nat.reducePow, Nat.reduceMod] at e
    omega
  intro d j
  have e := congrFun (h d) j
  simp only [Pre_idx_in_rows.fn, andi, cmpi, broadcastInDim, constantI] at e
  exact word _ e

/-- The program ends on every run, its arguments as they were and every semaphore at zero. -/
theorem frame : Cert.quiescent_GatherIdeal := fun m ρ hpre =>
  (θ_run Cert.GatherIdeal.defs _ _).mono (fun _ h => ⟨fun c => (h.1 c).2, h.2⟩) (run_main (F := Ideal) m ρ (ok_of_pre m hpre))

end Cert.Proof.GatherIdeal

end
-- ==== Proof.RowGather.lean ====
/-
  The host's gather of whole table rows, one row number per (query, slot), read at an index; and the shaping of the
  gathered rows, flat or by (query, slot), read at an index. Stated over the literal shapes, for any program.
-/
module

public import Idealize.ShloMosaic.Lib.Pointwise
public import Idealize.ShloMosaic.Lib.ValueIdx
public import Idealize.ShloMosaic.PureOps.Ideal

@[expose] public section

noncomputable section

namespace Cert.Proof.RowGather

open Idealize.ShloMosaic

abbrev Tbl : Shape := ⟨2, ![100000, 128]⟩
abbrev Num3 : Shape := ⟨3, ![4096, 8, 1]⟩
abbrev Num2 : Shape := ⟨2, ![4096, 8]⟩
abbrev Num1 : Shape := ⟨1, ![32768]⟩
abbrev Flat : Shape := ⟨2, ![32768, 128]⟩
abbrev Rows : Shape := ⟨3, ![4096, 8, 128]⟩

/-- The dimension numbers of a whole-row gather: axis 0 of the table named by the row number, axis 1 kept whole. -/
abbrev dims (wf : GatherDims.WF Tbl Num3 Rows [2] [0] [] [0] [] 2 ![1, 128]) : GatherDims Tbl Num3 Rows where
  offsetDims := [2]
  collapsedSliceDims := [0]
  operandBatchingDims := []
  startIndicesBatchingDims := []
  startIndexMap := [0]
  indexVectorDim := 2
  sliceSizes := ![1, 128]
  wf := wf

/-- Element `(q, k, l)` of the gather is element `l` of the table's row at the row number of `(q, k)`, read signed and
    clamped into the table. -/
theorem gather_apply {α : Type} (wf : GatherDims.WF Tbl Num3 Rows [2] [0] [] [0] [] 2 ![1, 128])
    (x : Tbl.Idx → α) (i : IVec Num3 32) (q : Fin 4096) (k : Fin 8) (l : Fin 128) :
    Host.gather (dims wf) x i (ix3 q k l)
      = x (ix2 (⟨min (i (ix3 q k (0 : Fin 1))).toInt.toNat 99999, by omega⟩ : Fin 100000) l) := by
  unfold Host.gather
  refine congrArg x (funext fun a => Fin.ext ?_)
  match a with
  | ⟨0, _⟩ =>
    show (dims wf).start (ix3 q k l) i 0 + (dims wf).batchCoord (ix3 q k l) 0 + (dims wf).offCoord (ix3 q k l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims wf).startIndexMap from List.mem_singleton.mpr rfl)]
    have hsi : (dims wf).siIdx (ix3 q k l) ⟨List.idxOf (0 : Fin 2) (dims wf).startIndexMap,
        List.idxOf_lt_length_iff.2 (List.mem_singleton.mpr rfl)⟩ = ix3 q k (0 : Fin 1) := by
      funext b; refine Fin.ext ?_
      match b with
      | ⟨0, _⟩ => rfl
      | ⟨1, _⟩ => rfl
      | ⟨2, _⟩ => rfl
    rw [hsi]
    rfl
  | ⟨1, _⟩ =>
    show (dims wf).start (ix3 q k l) i 1 + (dims wf).batchCoord (ix3 q k l) 1 + (dims wf).offCoord (ix3 q k l) 1 = _
    rw [GatherDims.batchCoord_eq_zero _ _ _ List.not_mem_nil]
    unfold GatherDims.start
    rw [dif_neg (show (1 : Fin 2) ∉ (dims wf).startIndexMap from (by decide : (1 : Fin 2) ∉ ([0] : List (Fin 2))))]
    rw [Nat.add_zero, Nat.zero_add]
    rfl

/-- The flat rows shaped by (query, slot): element `(q, k, l)` is element `l` of flat row `8 q + k`. -/
theorem shape_rows {α : Type} (f : Flat.Idx → α) (h : Flat.ShapeCasts Rows) (q : Fin 4096) (k : Fin 8) (l : Fin 128) :
    shapeCast Rows f h (ix3 q k l) = f (ix2 (⟨q.val * 8 + k.val, by omega⟩ : Fin 32768) l) := by
  pointwise

/-- The numbers flattened: element `8 q + k` is element `(q, k)`. -/
theorem flat_nums {α : Type} (f : Num2.Idx → α) (h : Num2.ShapeCasts Num1) (q : Fin 4096) (k : Fin 8) :
    shapeCast Num1 f h (ix1 (⟨q.val * 8 + k.val, by omega⟩ : Fin 32768)) = f (ix2 q k) := by
  pointwise

/-- A row number below the table's row count is its own clamped row, and is not below zero as a signed word. -/
theorem clamp_of_lt (w : BitVec 32) (h : w.toNat < 100000) : min w.toInt.toNat 99999 = w.toNat := by
  rw [BitVec.toInt_eq_toNat_cond, if_pos (by omega)]
  omega

theorem not_slt_zero (w : BitVec 32) (h : w.toNat < 100000) : IntOp.cmpi .slt w 0#32 = 0#1 := by
  have : w.slt 0#32 = false := by
    rw [BitVec.slt_eq_decide, BitVec.toInt_eq_toNat_cond, if_pos (by omega)]
    simp
  show BitVec.ofBool (w.slt 0#32) = 0#1
  rw [this]; rfl

end Cert.Proof.RowGather

end
-- ==== Proof.GatherEq.lean ====
/-
  The gathered rows' weighted sum at the extended reals: what the kernel's run leaves is the reference's term.
-/
module

public import proofs.«01_k».proof.Proof.GatherIdealRun
public import proofs.«01_k».proof.Proof.RowGather
public import proofs.«01_k».proof.Proof.Gen.GatherRefIdeal.Run

@[expose] public section

noncomputable section

namespace Cert.Proof.GatherEq

open Idealize.ShloMosaic Idealize.ShloMosaic.TcCoe Idealize.SL.Sem
open Cert.Proof.GatherIdeal (sumBlk sumArr gath rowOfWord out V1 V2 V3 PreOK)

section Ker
open Cert.GatherIdeal Cert.GatherIdeal.Gen

/-- A block's weighted sum at row `r`, lane `l`: the sum over the eight slots of row times weight. -/
theorem sumBlk_apply (X : FVec Ideal S512x8x128 .f32) (W : FVec Ideal S512x8 .f32) (r : Fin 512) (l : Fin 128) :
    sumBlk (F := Ideal) X W (ix2 r l) = ∑ k : Fin 8, X (ix3 r k l) * W (ix2 r k) := by
  pointwise [sumBlk, k1_pay1]

/-- The weighted sum of the whole arrays at query `q`, lane `l`. -/
theorem sumArr_apply (x : FVec Ideal S4096x8x128 .f32) (w : FVec Ideal S4096x8 .f32) (q : Fin 4096) (l : Fin 128) :
    sumArr (F := Ideal) x w (ix2 q l) = ∑ k : Fin 8, x (ix3 q k l) * w (ix2 q k) := by
  have e : GatherIdeal.rowAt (q.val / 512) (by omega) (⟨q.val % 512, Nat.mod_lt _ (by decide)⟩ : Fin 512) = q :=
    Fin.ext (by show 512 * (q.val / 512) + q.val % 512 = q.val; omega)
  refine (sumBlk_apply _ _ (⟨q.val % 512, Nat.mod_lt _ (by decide)⟩ : Fin 512) l).trans ?_
  refine Finset.sum_congr rfl fun k _ => ?_
  exact congrArg₂ (· * ·) (congrArg x (congrArg (fun a => ix3 a k l) e)) (congrArg w (congrArg (fun a => ix2 a k) e))

end Ker

section Ref
open Cert.GatherRefIdeal Cert.GatherRefIdeal.Gen

/-- The reference's term: the sum over the slots of the weights times the gathered rows. -/
def refTerm (x : FVec Ideal S100000x128 .f32) (i : IVec S4096x8 32) (w : FVec Ideal S4096x8 .f32) : FVec Ideal S4096x128 .f32 :=
  Host.reduceAdd (mulf (broadcastInDim S4096x8x128 ![0, 1, 2] bcast_S4096x8x1_S4096x8x128_0_1_2 (broadcastInDim S4096x8x1 ![0, 1] bcast_S4096x8_S4096x8x1_0_1 w)) (Host.gather gather_S100000x128_S4096x8x1_S4096x8x128_2_0_n_n_0_2_1128 x (broadcastInDim S4096x8x1 ![0, 1] bcast_S4096x8_S4096x8x1_0_1 (select (cmpi .slt i (broadcastInDim S4096x8 ![] bcast_S_S4096x8 (constantI S_ 32 0#32))) (addi i (broadcastInDim S4096x8 ![] bcast_S_S4096x8 (constantI S_ 32 100000#32))) i)))) (constant S_ .f32 0x00000000#32) reducesTo_S4096x8x128_S4096x128_d1 h_S_

/-- The reference's term at query `q`, lane `l`, the row numbers below the table's row count. -/
theorem refTerm_apply (x : FVec Ideal S100000x128 .f32) (i : IVec S4096x8 32) (w : FVec Ideal S4096x8 .f32)
    (hi : ∀ j, (i j).toNat < 100000) (q : Fin 4096) (l : Fin 128) :
    refTerm x i w (ix2 q l) = ∑ k : Fin 8, w (ix2 q k) * x (ix2 (rowOfWord (i (ix2 q k))) l) := by
  have hg : ∀ j k l, Host.gather gather_S100000x128_S4096x8x1_S4096x8x128_2_0_n_n_0_2_1128 x j (ix3 q k l) = _ :=
    fun j k l => RowGather.gather_apply gather_S100000x128_S4096x8x1_S4096x8x128_2_0_n_n_0_2_1128_wf x j q k l
  pointwise [refTerm]
  simp only [hg]
  refine Finset.sum_congr rfl fun k _ => congrArg (fun a => w (ix2 q k) * x (ix2 a l)) (Fin.ext ?_)
  show min (BitVec.toInt _).toNat 99999 = (rowOfWord (i (ix2 q k))).val
  have hk := hi (ix2 q k)
  pointwise
  rw [RowGather.not_slt_zero _ hk]
  unfold rowOfWord
  rw [dif_pos hk]
  exact RowGather.clamp_of_lt _ hk

end Ref

section Out
open Cert.GatherIdeal Cert.GatherIdeal.Gen

variable (m : (ℓ : Loc nD τ sig) → Buf (Elt Ideal) ℓ)

/-- The rows the SparseCore call leaves, shaped by query and slot: element `(q, k, l)` is the table's element at the row
    number of `(q, k)`. -/
theorem rows_apply (d : Dev nD) (q : Fin 4096) (k : Fin 8) (l : Fin 128) :
    (V3 m d GatherIdeal.g' : S4096x8x128.Idx → Elt Ideal .f32) (ix3 q k l)
      = (m ((SparseCore.T d).loc main_arg0) : S100000x128.Idx → Elt Ideal .f32)
          (ix2 (rowOfWord ((m ((SparseCore.T d).loc main_arg1) : S4096x8.Idx → BitVec 32) (ix2 q k))) l) := by
  have e3 : (V3 m d GatherIdeal.g' : S4096x8x128.Idx → Elt Ideal .f32)
      = shapeCast S4096x8x128 (V2 m d GatherIdeal.o' : S32768x128.Idx → Elt Ideal .f32) shapeCasts_S32768x128_S4096x8x128 :=
    StableHlo.reshape_result main_v1 main_v2 rfl shapeCasts_S32768x128_S4096x8x128 _ _ (V2 m d)
  have e2 : (V2 m d GatherIdeal.o' : S32768x128.Idx → Elt Ideal .f32)
      = gath (V1 m d GatherIdeal.x' : S100000x128.Idx → Elt Ideal .f32) (V1 m d GatherIdeal.i' : S32768.Idx → BitVec 32) :=
    GatherIdeal.V2_o m d
  have e1 : (V1 m d GatherIdeal.i' : S32768.Idx → BitVec 32)
      = shapeCast S32768 (m ((SparseCore.T d).loc main_arg1) : S4096x8.Idx → Elt Ideal .i32) shapeCasts_S4096x8_S32768 :=
    StableHlo.reshape_result main_arg1 main_v0 rfl shapeCasts_S4096x8_S32768 _ _ (GatherIdeal.V0 m d)
  have e0 : (V1 m d GatherIdeal.x' : S100000x128.Idx → Elt Ideal .f32) = m ((SparseCore.T d).loc main_arg0) :=
    GatherIdeal.V1_ne m d _ (by decide)
  rw [e3, e2, e1, e0]
  refine (RowGather.shape_rows _ shapeCasts_S32768x128_S4096x8x128 q k l).trans ?_
  exact congrArg (fun a => (m ((SparseCore.T d).loc main_arg0) : S100000x128.Idx → Elt Ideal .f32) (ix2 (rowOfWord a) l))
    (RowGather.flat_nums _ shapeCasts_S4096x8_S32768 q k)

/-- The kernel's result is the reference's term. -/
theorem out_eq (d : Dev nD) (hp : PreOK (F := Ideal) m) :
    out m d = refTerm (m ((SparseCore.T d).loc main_arg0)) (m ((SparseCore.T d).loc main_arg1)) (m ((SparseCore.T d).loc main_arg2)) := by
  funext j
  obtain ⟨q, l, rfl⟩ : ∃ (q : Fin 4096) (l : Fin 128), j = ix2 q l := ⟨j 0, j 1, (ValueIdx.eq_ix2 j)⟩
  rw [refTerm_apply _ _ _ (hp d)]
  refine (sumArr_apply _ _ q l).trans ?_
  refine Finset.sum_congr rfl fun k _ => ?_
  rw [rows_apply, mul_comm]
  refine congrArg (fun a => a * _) ?_
  exact congrFun ((GatherIdeal.V3_ne m d _ (by decide)).trans ((GatherIdeal.V2_ne m d _ (by decide)).trans (GatherIdeal.V1_ne m d _ (by decide)))) _

end Out

/-- The kernel and the reference, from the same arguments, end with the same result, their arguments unchanged. -/
theorem agree : Cert.algebraic_GatherIdeal_GatherRefIdeal := by
  intro m ρ m' ρ' hpre hargs
  have hp := GatherIdeal.ok_of_pre m hpre
  refine ⟨out m, ?_, ?_⟩
  · exact (θ_run Cert.GatherIdeal.defs _ _).mono (fun _ h c => h.1 c) (GatherIdeal.run_main (F := Ideal) m ρ hp)
  · refine (θ_run Cert.GatherRefIdeal.defs _ _).mono (fun _ h c => ⟨(h c).1.trans ?_, (h c).2⟩) (Cert.GatherRefIdeal.Value.run (F := Ideal) m' ρ')
    rw [out_eq m c hp]
    obtain ⟨h0, h1, h2⟩ := hargs c
    rw [h0, h1, h2]
    rfl

/-- The reference ends on every run, its arguments as they were; it has no semaphore. -/
theorem ref_frame : Cert.quiescent_GatherRefIdeal := fun m ρ _ =>
  (θ_run Cert.GatherRefIdeal.defs _ _).mono (fun r h => ⟨fun c => (h c).2, sem_eq_zero_of_no_sems (by decide) r.2⟩)
    (Cert.GatherRefIdeal.Value.run (F := Ideal) m ρ)

end Cert.Proof.GatherEq

end
-- ==== Proof.KernelTile.lean ====
/-
  ONE TASK of the SparseCore gather, at a symbolic vector subcore: eight chunks, each fetching its 128 row numbers,
  transferring those rows of the feature table by the indirect stream and writing them out to its 128 rows of the
  result. The eight chunks are one program over the chunk's number, so the chunk is run once. What it leaves in its
  block of the result is stated from the start: the table's rows at the row numbers.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.KernelIdeal

@[expose] public section

noncomputable section

namespace Cert.Proof.KernelIdeal

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging pipeline's rounds, the transfers' counters -/

abbrev UH : Type := URounds (GSem nD τ sig) ℕ
abbrev UPipe : Type := URounds (GSem nD τ sig) Unit
abbrev UU : Type := UH × (UPipe × Counters)

local notation "𝕄" => MT nD τ sig (HIx 1) (Elt F) ℕ UU ℕ

abbrev EH : Emb UH (MT nD τ sig (HIx 1) (Elt F) ℕ UU ℕ) := embL

/-! ## The buffers and their blocks -/

abbrev iLoc (d : Dev nD) : Loc nD τ sig := (SparseCore.T d).loc main_v5
abbrev xLoc (d : Dev nD) : Loc nD τ sig := (SparseCore.T d).loc main_arg3
abbrev oLoc (d : Dev nD) : Loc nD τ sig := (SparseCore.T d).loc main_v6

local notation "iV" => (Memref.whole Cert.KernelIdeal.main_v5_scv : Memref Cert.KernelIdeal.sig Kind.scVector Space.hbm Cert.KernelIdeal.S32768 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v6_scv : Memref Cert.KernelIdeal.sig Kind.scVector Space.hbm Cert.KernelIdeal.S32768x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

theorem idiv : 256 ∣ S32768.size 0 := ⟨128, rfl⟩
theorem odiv : 256 ∣ S32768x128.size 0 := ⟨128, rfl⟩
/-- Block `b` of 256: rows `128 b` to `128 b + 127`, of the row numbers and of the result. -/
abbrev iblkR (b : Fin 256) : Rect S32768 := Rect.part (s := S32768) (a₀ := 0) idiv b
abbrev oblkR (b : Fin 256) : Rect S32768x128 := Rect.part (s := S32768x128) (a₀ := 0) odiv b
abbrev iSet (b : Fin 256) : Finset S32768.Idx := ((iV).view.slice (iblkR b)).set
abbrev oSet (b : Fin 256) : Finset S32768x128.Idx := ((oV).view.slice (oblkR b)).set

/-- A word as a row of the table: its value where that is one. -/
def rowOfWord (w : BitVec 32) : Fin 100000 := if h : w.toNat < 100000 then ⟨w.toNat, h⟩ else 0

/-- The rows of the table `x` at the row numbers `i`: element `(r, l)` is `x (i r, l)`. -/
def gath {α : Type} (x : S100000x128.Idx → α) (i : S32768.Idx → BitVec 32) : S32768x128.Idx → α :=
  fun j => x (ix2 (n0 := 100000) (n1 := 128) (rowOfWord (i (ix1 (n := 32768) (j 0)))) (j 1))

section Tile

variable (d : Dev nD) (L : grid1.Coords)

abbrev cV (L : grid1.Coords) : Fin τ.nSC := (L 0).castLE hcore1
abbrev jV (L : grid1.Coords) : Fin τ.nSub := (L 1).castLE hsub1

/-- Chunk `n` of the task on subcore `(L 0, L 1)` is block `(2 (L 1) + L 0) 8 + n`. -/
def blkNo (c : Fin 2) (s : Fin 16) (n : Fin 8) : Fin 256 := ⟨(2 * s.val + c.val) * 8 + n.val, by omega⟩
abbrev cL (L : grid1.Coords) : Fin 2 := Fin.cast (show grid1.bound 0 = 2 from rfl) (L 0)
abbrev jL (L : grid1.Coords) : Fin 16 := Fin.cast (show grid1.bound 1 = 16 from rfl) (L 1)
abbrev bL (L : grid1.Coords) (n : Fin 8) : Fin 256 := blkNo (cL L) (jL L) n

abbrev irowK (n : Fin 8) : Rect S32768 := Rect.unit (s := S32768) (k1_off1 L (BitVec.ofNat 32 (128 * n.val))) S128.size (k1_off1_inb L n)
abbrev orowK (n : Fin 8) : Rect S32768x128 := Rect.unit (s := S32768x128) (k1_off2 L (BitVec.ofNat 32 (128 * n.val))) S128x128.size (k1_off2_inb L n)
/-- Chunk `n`'s row numbers, its rows of the result, and all of the table, as the task addresses them. -/
abbrev iRowK (n : Fin 8) : Memref sig .scVector .hbm S128 .i32 := (iV).slice (irowK L n) (fun _ => rfl)
abbrev oRowK (n : Fin 8) : Memref sig .scVector .hbm S128x128 .f32 := (oV).slice (orowK L n) (fun _ => rfl)
abbrev xAllK : Memref sig .scVector .hbm S100000x128 .f32 := (xV).slice (Rect.unit (s := S100000x128) ![0, 0] S100000x128.size inb_S100000x128_S100000x128_0_0) (fun _ => rfl)

theorem irowK_eq (n : Fin 8) : irowK L n = iblkR (bL L n) := by
  unfold irowK iblkR Rect.part Rect.block
  congr 1 <;> funext a
  · rw [k1_off1_eq]
    match a with
    | 0 => simp [Shape.partIx, Shape.partSize, blkNo]; omega
  · match a with
    | 0 => simp [Shape.partSize]
theorem orowK_eq (n : Fin 8) : orowK L n = oblkR (bL L n) := by
  unfold orowK oblkR Rect.part Rect.block
  congr 1 <;> funext a
  · rw [k1_off2_eq]
    match a with
    | 0 => simp [Shape.partIx, Shape.partSize, blkNo]; omega
    | 1 => simp [Shape.partIx, Shape.partSize]
  · match a with
    | 0 => simp [Shape.partSize]
    | 1 => simp [Shape.partSize]

theorem set_iRowK (n : Fin 8) : (iRowK L n).view.set = iSet (bL L n) := by
  show ((iV).view.slice (irowK L n)).set = ((iV).view.slice (iblkR (bL L n))).set
  exact irowK_eq L n ▸ rfl
theorem set_oRowK (n : Fin 8) : (oRowK L n).view.set = oSet (bL L n) := by
  show ((oV).view.slice (orowK L n)).set = ((oV).view.slice (oblkR (bL L n))).set
  exact orowK_eq L n ▸ rfl

theorem pts_iRowK (n : Fin 8) (f : Buf (Elt F) (iLoc d)) :
    ((iRowK L n).view.loc (V d (cV L) (jV L)) ↦[(iRowK L n).view.set]{fullShare} f : sProp 𝕄) = iLoc d ↦[iSet (bL L n)]{fullShare} f := by
  rw [set_iRowK]
theorem pts_oRowK (n : Fin 8) (f : Buf (Elt F) (oLoc d)) :
    ((oRowK L n).view.loc (V d (cV L) (jV L)) ↦[(oRowK L n).view.set]{fullShare} f : sProp 𝕄) = oLoc d ↦[oSet (bL L n)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

variable [FloatOps F]

/-! ## The chunk -/

/-- Chunk `n` of the task: fetch its row numbers, gather those rows, write them out, waiting for each. -/
def chunk (n : Fin 8) (sg sa sb : DmaSems sig S_) :
    Prog (TpuEff nD τ sig (Elt F) Λ₀ (.scVector ((L 0).castLE hcore1) ((L 1).castLE hsub1))) PUnit := do
  Prog.lift (.enqueueDma (iRowK L n) (.here sV) (.dma sa.sem) (View.wordExact_bits rfl) (Memref.isWhole_whole _).wordExact ⟨Or.inl rfl, trivial⟩)
  Prog.lift (.waitDma2 sa.sem (iRowK L n) sV (View.wordExact_bits rfl) (Memref.isWhole_whole _).wordExact)
  SparseCore.enqueueIndirectGather rfl xAllK rV gathers_S100000x128_S128x128 sV rfl sg.sem (View.wordExact_bits rfl) rfl (Or.inl rfl)
  SparseCore.waitIndirectGather sg.sem xAllK rV (View.wordExact_bits rfl) (Memref.isWhole_whole _).wordExact
  Prog.lift (.enqueueDma rV (.here (oRowK L n)) (.dma sb.sem) (Memref.isWhole_whole _).wordExact (View.wordExact_bits rfl) ⟨Or.inl rfl, trivial⟩)
  Prog.lift (.waitDma2 sb.sem rV (oRowK L n) (Memref.isWhole_whole _).wordExact (View.wordExact_bits rfl))

set_option maxRecDepth 65536 in
/-- The task is its eight chunks in order. -/
theorem task_eq_chunks (sg s0 s1 s2 s3 s4 s5 s6 s7 s8 s9 s10 s11 s12 s13 s14 s15 : DmaSems sig S_) :
    cc1_gather_k (F := F) L xV (Memref.isWhole_whole _) iV (Memref.isWhole_whole _) oV (Memref.isWhole_whole _)
        sV (Memref.isWhole_whole _) rV (Memref.isWhole_whole _) sg s0 s1 s2 s3 s4 s5 s6 s7 s8 s9 s10 s11 s12 s13 s14 s15
      = (chunk (F := F) L 0 sg s0 s1 >>= fun _ => chunk L 1 sg s2 s3 >>= fun _ => chunk L 2 sg s4 s5 >>= fun _ => chunk L 3 sg s6 s7 >>= fun _ =>
          chunk L 4 sg s8 s9 >>= fun _ => chunk L 5 sg s10 s11 >>= fun _ => chunk L 6 sg s12 s13 >>= fun _ => chunk L 7 sg s14 s15 >>= fun _ => pure ⟨⟩) := by
  rfl

/-- Every row number is one of the table's. -/
def IdxOK (ci : (d : Dev nD) → Buf (Elt F) (iLoc d)) : Prop := ∀ (d : Dev nD) (j : S32768.Idx), (ci d j).toNat < 100000

/-- The offsets the stream reads are in range: what the fetch landed is chunk `n`'s row numbers. -/
theorem inb_of_ok {ci : (d : Dev nD) → Buf (Elt F) (iLoc d)} (hpre : IdxOK ci) (n : Fin 8)
    (fs : Buf (Elt F) ((V d (cV L) (jV L)).loc cc1_scratch0)) (pay : S128.Idx → Elt F .i32)
    (hpay : pay = (iRowK L n).view.read (Elt F) (ci d)) :
    ∀ x, ((sV).view.read (Elt F) (View.write (Elt F) (sV).view fs pay Finset.univ) x).toNat < S100000x128.size gathers_S100000x128_S128x128.axis := by
  subst hpay; intro x
  rw [View.write_whole_univ]
  simp only [Memref.view_whole, View.read_whole]
  rw [show ∀ j, (iRowK L n).view.read (Elt F) (ci d) j = ci d ((iRowK L n).view.emb j) from fun j => (View.read_apply _ _).trans (cast_eq _ _)]
  exact hpre d _

/-- What the chunk writes out is the table's rows at its row numbers. -/
theorem chunk_value {ci : (d : Dev nD) → Buf (Elt F) (iLoc d)} (hpre : IdxOK ci) (n : Fin 8)
    (cx : Buf (Elt F) (xLoc d)) (co : Buf (Elt F) (oLoc d))
    (fs : Buf (Elt F) ((V d (cV L) (jV L)).loc cc1_scratch0)) (fr : Buf (Elt F) ((V d (cV L) (jV L)).loc cc1_scratch1))
    (pay : S128.Idx → Elt F .i32) (hpay : pay = (iRowK L n).view.read (Elt F) (ci d)) (pay' : S128x128.Idx → Elt F .f32)
    (hpay' : pay' = (rV).view.read (Elt F) (View.write (Elt F) (rV).view fr
      (SparseCore.gatherPayload gathers_S100000x128_S128x128 ((xAllK).view.read (Elt F) cx)
        (SparseCore.rows ((sV).view.read (Elt F) (View.write (Elt F) (sV).view fs pay Finset.univ)) rfl (inb_of_ok d L hpre n fs pay hpay))) Finset.univ)) :
    ∀ i ∈ (oRowK L n).view.set, (oRowK L n).view.writes (Elt F) co [⟨Rect.whole S128x128, pay'⟩] i = gath cx (ci d) i := by
  intro i hi
  obtain ⟨y, -, rfl⟩ := Finset.mem_map.mp hi
  subst hpay; subst hpay'
  have hw := View.read_writes_cons_emb (v := (oRowK L n).view) (Val := Elt F) (f := co) (Rect.whole S128x128)
    ((rV).view.read (Elt F) (View.write (Elt F) (rV).view fr
      (SparseCore.gatherPayload gathers_S100000x128_S128x128 ((xAllK).view.read (Elt F) cx)
        (SparseCore.rows ((sV).view.read (Elt F) (View.write (Elt F) (sV).view fs ((iRowK L n).view.read (Elt F) (ci d)) Finset.univ)) rfl
          (inb_of_ok d L hpre n fs _ rfl))) Finset.univ)) [] y
  rw [show (Rect.whole S128x128).emb y = y from by ext a; simp [Rect.whole]] at hw
  refine ((((oRowK L n).view.read_apply (Val := Elt F) _ y).trans (cast_eq _ _)).symm.trans hw).trans ?_
  rw [View.read_write_univ]
  unfold SparseCore.gatherPayload gath
  refine (((xAllK).view.read_apply (Val := Elt F) cx _).trans (cast_eq _ _)).trans (congrArg cx ?_)
  have hj : ((oRowK L n).view.emb y 0).val = 128 * (bL L n).val + (y 0).val := by
    show (((oV).view.slice (orowK L n)).emb y 0).val = _
    have e : (k1_off2 L (BitVec.ofNat 32 (128 * n.val))) 0 = 128 * (bL L n).val := by
      rw [k1_off2_eq]; simp [blkNo]; omega
    show k1_off2 L (BitVec.ofNat 32 (128 * n.val)) 0 + 1 * (y 0).val = _
    omega
  have hj1 : ((oRowK L n).view.emb y 1).val = (y 1).val := by
    have e : (k1_off2 L (BitVec.ofNat 32 (128 * n.val))) 1 = 0 := by
      rw [k1_off2_eq]; simp
    show k1_off2 L (BitVec.ofNat 32 (128 * n.val)) 1 + 1 * (y 1).val = _
    omega
  have hemb : ∀ h : S128x128.size 0 = S128.numel, (iRowK L n).view.emb (S128.rowMajor.symm (Fin.cast h (y 0))) = ix1 (n := 32768) ((oRowK L n).view.emb y 0) := by
    intro h
    funext a
    match a with
    | 0 =>
      apply Fin.ext
      refine Eq.trans ?_ hj.symm
      have e : (k1_off1 L (BitVec.ofNat 32 (128 * n.val))) 0 = 128 * (bL L n).val := by
        rw [k1_off1_eq]; simp [blkNo]; omega
      have r : (S128.rowMajor.symm (Fin.cast h (y 0)) 0).val = (y 0).val := by
        rw [← Shape.rowMajor_val_one, Equiv.apply_symm_apply]; rfl
      show k1_off1 L (BitVec.ofNat 32 (128 * n.val)) 0 + 1 * (S128.rowMajor.symm (Fin.cast h (y 0)) 0).val = _
      omega
  funext a
  match a with
  | 0 =>
    apply Fin.ext
    refine ((congrArg (fun r => 0 + 1 * r) (congrArg Fin.val (Shape.Gathers.idx_axis gathers_S100000x128_S128x128 _ y))).trans (by rw [Nat.zero_add, Nat.one_mul])).trans ?_
    show ((sV).view.read (Elt F) (View.write (Elt F) (sV).view fs ((iRowK L n).view.read (Elt F) (ci d)) Finset.univ) _).toNat = _
    rw [View.read_write_univ]
    refine ((congrArg BitVec.toNat (((iRowK L n).view.read_apply (Val := Elt F) (ci d) _).trans (cast_eq _ _))).trans
      (congrArg (fun t => (ci d t).toNat) (hemb _))).trans ?_
    show _ = (rowOfWord (ci d (ix1 (n := 32768) ((oRowK L n).view.emb y 0)))).val
    unfold rowOfWord
    rw [dif_pos (hpre d _)]
  | 1 =>
    apply Fin.ext
    refine ((congrArg (fun r => 0 + 1 * r) (Shape.Gathers.idx_of_ne gathers_S100000x128_S128x128 _ y 1 (by decide))).trans (by rw [Nat.zero_add, Nat.one_mul])).trans ?_
    exact hj1.symm

set_option maxHeartbeats 4000000 in
/-- One chunk: from its row numbers, a share of the table, its rows of the result at anything, the two scratch buffers
    and its semaphores at zero — its rows of the result at the table's rows. -/
theorem chunk_spec {ci : (d : Dev nD) → Buf (Elt F) (iLoc d)} (hpre : IdxOK ci) (n : Fin 8) (q : PosShare TreeShare)
    (cx : Buf (Elt F) (xLoc d)) (co : Buf (Elt F) (oLoc d)) (sg sa sb : DmaSems sig S_)
    (O : CellTallies nD τ sig (HIx 1)) (W : Waits sig (HIx 1)) (hO : ∀ g, O g none = 0) :
    iprop(levAts (K (F := F)).L (K (F := F)).lev
        ∗ (iLoc d ↦[iSet (bL L n)]{fullShare} ci d : sProp 𝕄) ∗ (xLoc d ↦{q} cx) ∗ (oLoc d ↦[oSet (bL L n)]{fullShare} co)
        ∗ (∃ f, (V d (cV L) (jV L)).loc cc1_scratch0 ↦{fullShare} f) ∗ (∃ f, (V d (cV L) (jV L)).loc cc1_scratch1 ↦{fullShare} f)
        ∗ semVal (V d (cV L) (jV L), .dma sg.sem) 0 ∗ semVal (V d (cV L) (jV L), .dma sa.sem) 0 ∗ semVal (V d (cV L) (jV L), .dma sb.sem) 0
        ∗ owes (V d (cV L) (jV L)) O W)
      ⊢ wp frame (wpE (defs₀ (F := F)) 𝒱₀ (V d (cV L) (jV L)) none) Set.univ (chunk (F := F) L n sg sa sb)
          fun _ => iprop((iLoc d ↦[iSet (bL L n)]{fullShare} ci d) ∗ (xLoc d ↦{q} cx) ∗ (oLoc d ↦[oSet (bL L n)]{fullShare} gath cx (ci d))
            ∗ (∃ f, (V d (cV L) (jV L)).loc cc1_scratch0 ↦{fullShare} f) ∗ (∃ f, (V d (cV L) (jV L)).loc cc1_scratch1 ↦{fullShare} f)
            ∗ semVal (V d (cV L) (jV L), .dma sg.sem) 0 ∗ semVal (V d (cV L) (jV L), .dma sa.sem) 0 ∗ semVal (V d (cV L) (jV L), .dma sb.sem) 0
            ∗ ∃ W', ⌜∀ p ∈ W', p ∈ W ∨ p.2 = none⌝ ∗ owes (V d (cV L) (jV L)) O W') := by
  unfold chunk
  iintro ⟨#Hlv, Hi, Hx, Ho, ⟨%fs, Hs⟩, ⟨%fr, Hr⟩, HsemG, HsemA, HsemB, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L n _).symm) $$ Hi
  ihave Ho' := (Entails.of_eq (pts_oRowK (F := F) d L n _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  have hset : (rV).view.set = Finset.univ := View.set_whole _
  have hsets : (sV).view.set = Finset.univ := View.set_whole _
  have hcr : ∀ h : S100000x128.Gathers 0 S128x128, ∑ j, ((rV).slice (S128x128.rowRect h.axis' j) (S128x128.stride_rowRect h.axis' j)).view.dmaCredit
      = (rV).view.dmaCredit := by decide +kernel
  have hin := inb_of_ok d L hpre n fs (chunk_spec.sl.dma0 d L n) rfl
  -- the stream: the table's elements as the slice names them, the row buffer and the list by their own elements
  ihave Hxp := (pointsTo_split_subset (q := q) (f := cx) (S := Finset.univ) (Finset.subset_univ (xAllK).view.set)).1 $$ Hx'
  icases Hxp with ⟨Hxs, Hxr⟩
  ihave Hr1 := (Entails.of_eq (show ((rV).view.loc (V d (cV L) (jV L)) ↦{fullShare} fr : sProp 𝕄)
      = (rV).view.loc (V d (cV L) (jV L)) ↦[(rV).view.set]{fullShare} fr by rw [hset])) $$ Hr'
  ihave Hs1 := (Entails.of_eq (show ((sV).view.loc (V d (cV L) (jV L)) ↦{fullShare} View.write (Elt F) (sV).view fs (chunk_spec.sl.dma0 d L n) Finset.univ : sProp 𝕄)
      = (sV).view.loc (V d (cV L) (jV L)) ↦[(sV).view.set]{fullShare} View.write (Elt F) (sV).view fs (chunk_spec.sl.dma0 d L n) Finset.univ
      by rw [hsets])) $$ Hs'
  iapply (SparseCore.wp_indirectGatherLocal countersEmb 𝒱₀ (V d (cV L) (jV L)) none (hg := gathers_S100000x128_S128x128) (default : HIx 1)
      (rV).view.dmaCredit (hcr _) (by decide) hin) $$ [Hxs Hr1 Hs1 HsemG]
  · isplitl [Hxs]; · iexact Hxs
    isplitl [Hr1]; · iexact Hr1
    isplitl [Hs1]; · iexact Hs1
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma sg.sem)) $$ Hmw
  iintro ⟨⟨Hr1, Hxs, Hs1⟩, HsemG, HO⟩
  ihave Hx' := (pointsTo_split_subset (q := q) (f := cx) (S := Finset.univ) (Finset.subset_univ (xAllK).view.set)).2 $$ [Hxs Hxr]; · isplitl [Hxs] <;> iassumption
  ihave Hr' := (Entails.of_eq (show ((rV).view.loc (V d (cV L) (jV L)) ↦[(rV).view.set]{fullShare} _ : sProp 𝕄)
      = (rV).view.loc (V d (cV L) (jV L)) ↦{fullShare} _ by rw [hset])) $$ Hr1
  ihave Hs' := (Entails.of_eq (show ((sV).view.loc (V d (cV L) (jV L)) ↦[(sV).view.set]{fullShare} _ : sProp 𝕄)
      = (sV).view.loc (V d (cV L) (jV L)) ↦{fullShare} _ by rw [hsets])) $$ Hs1
  sl_exec
  sl_step
  isplitl [Hi']; · iapply (Entails.of_eq (pts_iRowK (F := F) d L n _)); iexact Hi'
  isplitl [Hx']; · iexact Hx'
  isplitl [Ho']
  · ihave Ho1 := (Entails.of_eq (pointsTo_congr (q := fullShare) (chunk_value d L hpre n cx co fs fr _ rfl (chunk_spec.sl.dma0_1 d L n cx fs fr hin) rfl))) $$ Ho'
    iapply (Entails.of_eq (pts_oRowK (F := F) d L n _)); iexact Ho1
  isplitl [Hs']; · iexists _; iexact Hs'
  isplitl [Hr']; · iexists _; iexact Hr'
  isplitl [HsemG]; · iexact HsemG
  isplitl [HsemA]; · iexact HsemA
  isplitl [HsemB]; · iexact HsemB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdeal

end
-- ==== Proof.KernelTask.lean ====
/-
  The whole task of the SparseCore gather from its eight chunks; what the call's handshakes carry; the arrays cut into
  the tasks' blocks and shares and joined again, the result's at the table's rows at the row numbers.
-/
module

public import proofs.«01_k».proof.Proof.KernelTile
public import Idealize.ShloMosaic.Lib.ShareLeaves

@[expose] public section

noncomputable section

namespace Cert.Proof.KernelIdeal

open Cert.KernelIdeal Cert.KernelIdeal.Gen

open Idealize.ShloMosaic
open Idealize.ShloMosaic.ValueIdx (ix1 ix2)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v5_scv : Memref Cert.KernelIdeal.sig Kind.scVector Space.hbm Cert.KernelIdeal.S32768 EltTy.i32)
local notation "xV" => (Memref.whole Cert.KernelIdeal.main_arg3_scv : Memref Cert.KernelIdeal.sig Kind.scVector Space.hbm Cert.KernelIdeal.S100000x128 EltTy.f32)
local notation "oV" => (Memref.whole Cert.KernelIdeal.main_v6_scv : Memref Cert.KernelIdeal.sig Kind.scVector Space.hbm Cert.KernelIdeal.S32768x128 EltTy.f32)
local notation "sV" => (Memref.whole Cert.KernelIdeal.cc1_scratch0 : Memref Cert.KernelIdeal.sig Kind.scVector Space.vmem Cert.KernelIdeal.S128 EltTy.i32)
local notation "rV" => (Memref.whole Cert.KernelIdeal.cc1_scratch1 : Memref Cert.KernelIdeal.sig Kind.scVector Space.vmem Cert.KernelIdeal.S128x128 EltTy.f32)

/-! ## What a task is handed -/

/-- Task `(c, s)`'s number among the 32. -/
def taskNo (c : Fin 2) (s : Fin 16) : Fin (2 ^ 5) := ⟨2 * s.val + c.val, by have := c.isLt; have := s.isLt; omega⟩
/-- Its share of the table: one of 32 that the whole is halved into. -/
abbrev xq (c : Fin 2) (s : Fin 16) : PosShare TreeShare := ShareLeaves.leaf 5 fullShare (taskNo c s)

variable (cx : (d : Dev nD) → Buf (Elt F) (xLoc d)) (ci : (d : Dev nD) → Buf (Elt F) (iLoc d)) (co : (d : Dev nD) → Buf (Elt F) (oLoc d))

/-- The table's rows at the row numbers: what the call leaves in the result. -/
abbrev gathAt (d : Dev nD) : Buf (Elt F) (oLoc d) := gath (cx d) (ci d)

/-- A task's eight blocks of row numbers, its share of the table, its eight blocks of the result at `fo`. -/
abbrev taskR (fo : (d : Dev nD) → Buf (Elt F) (oLoc d)) (d : Dev nD) (c : Fin 2) (s : Fin 16) : sProp 𝕄 :=
  iprop((bigSep Finset.univ fun n : Fin 8 => iLoc d ↦[iSet (blkNo c s n)]{fullShare} ci d) ∗ (xLoc d ↦{xq c s} cx d)
    ∗ bigSep Finset.univ fun n : Fin 8 => oLoc d ↦[oSet (blkNo c s n)]{fullShare} fo d)

section Tile

variable (d : Dev nD) (L : grid1.Coords)

/-- What a chunk finds and leaves besides its blocks: the table's share, the scratch buffers, every semaphore of the
    subcore at zero, its owings with only its own waits added. -/
abbrev rest (O : CellTallies nD τ sig (HIx 1)) (W : Waits sig (HIx 1)) : sProp 𝕄 :=
  iprop((xLoc d ↦{xq (cL L) (jL L)} cx d)
    ∗ (∃ f, (V d (cV L) (jV L)).loc cc1_scratch0 ↦{fullShare} f) ∗ (∃ f, (V d (cV L) (jV L)).loc cc1_scratch1 ↦{fullShare} f)
    ∗ ownSems0 (V d (cV L) (jV L)) ∗ ∃ W', ⌜∀ p ∈ W', p ∈ W ∨ p.2 = none⌝ ∗ owes (V d (cV L) (jV L)) O W')

variable [FloatOps F]

variable {ci}

/-- One chunk, then the rest of the task: its three semaphores lent out of the subcore's own. -/
theorem chunk_step (hpre : IdxOK ci) (n : Fin 8) (sg sa sb : DmaSems sig S_)
    (hg : (SemLoc.dma sg.sem : SemLoc sig).isScoped .scVector = true) (ha : (SemLoc.dma sa.sem : SemLoc sig).isScoped .scVector = true)
    (hb : (SemLoc.dma sb.sem : SemLoc sig).isScoped .scVector = true) (hga : sg.sem ≠ sa.sem) (hgb : sg.sem ≠ sb.sem) (hab : sa.sem ≠ sb.sem)
    (O : CellTallies nD τ sig (HIx 1)) (W : Waits sig (HIx 1)) (hO : ∀ g, O g none = 0)
    (k : Prog (TpuEff nD τ sig (Elt F) Λ₀ (.scVector ((L 0).castLE hcore1) ((L 1).castLE hsub1))) PUnit) (Q : PUnit → sProp 𝕄) :
    iprop(levAts (K (F := F)).L (K (F := F)).lev ∗ rest cx d L O W
        ∗ (iLoc d ↦[iSet (bL L n)]{fullShare} ci d : sProp 𝕄) ∗ (oLoc d ↦[oSet (bL L n)]{fullShare} co d)
        ∗ (rest cx d L O W -∗ (iLoc d ↦[iSet (bL L n)]{fullShare} ci d) -∗ (oLoc d ↦[oSet (bL L n)]{fullShare} gathAt cx ci d)
            -∗ wp frame (wpE (defs₀ (F := F)) 𝒱₀ (V d (cV L) (jV L)) none) Set.univ k Q))
      ⊢ wp frame (wpE (defs₀ (F := F)) 𝒱₀ (V d (cV L) (jV L)) none) Set.univ (chunk (F := F) L n sg sa sb >>= fun _ => k) Q := by
  have hne : ∀ {a b : DmaSem sig}, a ≠ b → ((V d (cV L) (jV L), SemLoc.dma a) : GSem nD τ sig) ≠ (V d (cV L) (jV L), SemLoc.dma b) :=
    fun h e => h (by injection (Prod.mk.inj e).2)
  have hsems : (ownSems0 (V d (cV L) (jV L)) : sProp 𝕄) = iprop(semVal (V d (cV L) (jV L), .dma sg.sem) 0
      ∗ semVal (V d (cV L) (jV L), .dma sa.sem) 0 ∗ semVal (V d (cV L) (jV L), .dma sb.sem) 0
      ∗ bigSep ((((ownCells (V d (cV L) (jV L))).erase (V d (cV L) (jV L), .dma sg.sem)).erase (V d (cV L) (jV L), .dma sa.sem)).erase
          (V d (cV L) (jV L), .dma sb.sem)) fun g => semVal g 0) := by
    unfold SparseCore.Cfg.ownSems0
    rw [SparseCore.bigSep_erase' ((mem_ownCells (g := (V d (cV L) (jV L), .dma sg.sem))).mpr ⟨rfl, hg⟩),
      SparseCore.bigSep_erase' (Finset.mem_erase.mpr ⟨hne hga.symm, (mem_ownCells (g := (V d (cV L) (jV L), .dma sa.sem))).mpr ⟨rfl, ha⟩⟩),
      SparseCore.bigSep_erase' (Finset.mem_erase.mpr ⟨hne hab.symm, Finset.mem_erase.mpr ⟨hne hgb.symm,
        (mem_ownCells (g := (V d (cV L) (jV L), .dma sb.sem))).mpr ⟨rfl, hb⟩⟩⟩)]
  rw [wp_bind]
  iintro ⟨#Hlv, ⟨Hx, Hs, Hr, Hsems, %W', %hW', HO⟩, Hi, Ho, Hk⟩
  ihave Hsems' := (Entails.of_eq hsems) $$ Hsems
  icases Hsems' with ⟨HG, HA, HB, Hrest⟩
  iapply (wp_wand frame (wpE (defs₀ (F := F)) 𝒱₀ (V d (cV L) (jV L)) none) Set.univ) $$ [Hx Hs Hr HG HA HB HO Hi Ho]
  · iapply (chunk_spec d L hpre n (xq (cL L) (jL L)) (cx d) (co d) sg sa sb O W' hO)
    isplitr; · iexact Hlv
    isplitl [Hi]; · iexact Hi
    isplitl [Hx]; · iexact Hx
    isplitl [Ho]; · iexact Ho
    isplitl [Hs]; · iexact Hs
    isplitl [Hr]; · iexact Hr
    isplitl [HG]; · iexact HG
    isplitl [HA]; · iexact HA
    isplitl [HB]; · iexact HB
    iexact HO
  iintro %_ ⟨Hi, Hx, Ho, Hs, Hr, HG, HA, HB, %W'', %hW'', HO⟩
  iapply Hk $$ [Hx Hs Hr HG HA HB Hrest HO] [Hi] [Ho]
  · isplitl [Hx]; · iexact Hx
    isplitl [Hs]; · iexact Hs
    isplitl [Hr]; · iexact Hr
    isplitl [HG HA HB Hrest]
    · rw [hsems]
      isplitl [HG]; · iexact HG
      isplitl [HA]; · iexact HA
      isplitl [HB]; · iexact HB
      iexact Hrest
    iexists W''; isplitr
    · ipureintro; exact fun p hp => (hW'' p hp).elim (hW' p) Or.inr
    · iexact HO
  · iexact Hi
  · iexact Ho

/-- The eight blocks one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

set_option maxHeartbeats 4000000 in
/-- The task on vector subcore `(L 0, L 1)`: from its blocks of row numbers, its share of the table and its blocks of the
    result, these blocks at the table's rows. -/
theorem tile_body (hF : (K (F := F)).Facts) (hpre : IdxOK ci) (O : CellTallies nD τ sig (HIx 1)) (W : Waits sig (HIx 1)) (hO : ∀ g, O g none = 0) :
    iprop(levAts (K (F := F)).L (K (F := F)).lev ∗ emp
        ∗ taskR cx ci co d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_gather_k L xV (Memref.isWhole_whole _) iV (Memref.isWhole_whole _) oV (Memref.isWhole_whole _)
            sV (Memref.isWhole_whole _) rV (Memref.isWhole_whole _) cc1_scratch2 cc1_scoped0 cc1_scoped1 cc1_scoped2 cc1_scoped3 cc1_scoped4 cc1_scoped5
            cc1_scoped6 cc1_scoped7 cc1_scoped8 cc1_scoped9 cc1_scoped10 cc1_scoped11 cc1_scoped12 cc1_scoped13 cc1_scoped14 cc1_scoped15)
          fun _ => iprop(taskR cx ci (gathAt cx ci) d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [task_eq_chunks, (K (F := F)).scopedBufs_V hF d (cV L) (jV L), SparseCore.Cfg.scopedSems0_V (Val := Elt F) d (cV L) (jV L), ownBufs_V]
  unfold taskR
  simp only [bigSep_eight]
  iintro ⟨#Hlv, -, ⟨⟨Hi0, Hi1, Hi2, Hi3, Hi4, Hi5, Hi6, Hi7⟩, Hx, ⟨Ho0, Ho1, Ho2, Ho3, Ho4, Ho5, Ho6, Ho7⟩⟩, ⟨Hs, Hr, Hbufs⟩, Hsems, HO⟩
  ihave HR := (show iprop((xLoc d ↦{xq (cL L) (jL L)} cx d)
    ∗ (∃ f, (V d (cV L) (jV L)).loc cc1_scratch0 ↦{fullShare} f) ∗ (∃ f, (V d (cV L) (jV L)).loc cc1_scratch1 ↦{fullShare} f)
    ∗ ownSems0 (V d (cV L) (jV L)) ∗ ∃ W', ⌜∀ p ∈ W', p ∈ W ∨ p.2 = none⌝ ∗ owes (V d (cV L) (jV L)) O W') ⊢ (rest cx d L O W : sProp 𝕄) from .rfl) $$ [Hx Hs Hr Hsems HO]
  · isplitl [Hx]; · iexact Hx
    isplitl [Hs]; · iexact Hs
    isplitl [Hr]; · iexact Hr
    isplitl [Hsems]; · iexact Hsems
    iexists W; isplitr
    · ipureintro; exact fun p hp => .inl hp
    · iexact HO
  iapply (chunk_step cx co d L hpre 0 cc1_scratch2 cc1_scoped0 cc1_scoped1 (by decide) (by decide) (by decide) (by decide) (by decide) (by decide) O W hO) $$ [-]
  isplitr; · iexact Hlv
  isplitl [HR]; · iexact HR
  isplitl [Hi0]; · iexact Hi0
  isplitl [Ho0]; · iexact Ho0
  iintro HR Hi0 Ho0
  iapply (chunk_step cx co d L hpre 1 cc1_scratch2 cc1_scoped2 cc1_scoped3 (by decide) (by decide) (by decide) (by decide) (by decide) (by decide) O W hO) $$ [-]
  isplitr; · iexact Hlv
  isplitl [HR]; · iexact HR
  isplitl [Hi1]; · iexact Hi1
  isplitl [Ho1]; · iexact Ho1
  iintro HR Hi1 Ho1
  iapply (chunk_step cx co d L hpre 2 cc1_scratch2 cc1_scoped4 cc1_scoped5 (by decide) (by decide) (by decide) (by decide) (by decide) (by decide) O W hO) $$ [-]
  isplitr; · iexact Hlv
  isplitl [HR]; · iexact HR
  isplitl [Hi2]; · iexact Hi2
  isplitl [Ho2]; · iexact Ho2
  iintro HR Hi2 Ho2
  iapply (chunk_step cx co d L hpre 3 cc1_scratch2 cc1_scoped6 cc1_scoped7 (by decide) (by decide) (by decide) (by decide) (by decide) (by decide) O W hO) $$ [-]
  isplitr; · iexact Hlv
  isplitl [HR]; · iexact HR
  isplitl [Hi3]; · iexact Hi3
  isplitl [Ho3]; · iexact Ho3
  iintro HR Hi3 Ho3
  iapply (chunk_step cx co d L hpre 4 cc1_scratch2 cc1_scoped8 cc1_scoped9 (by decide) (by decide) (by decide) (by decide) (by decide) (by decide) O W hO) $$ [-]
  isplitr; · iexact Hlv
  isplitl [HR]; · iexact HR
  isplitl [Hi4]; · iexact Hi4
  isplitl [Ho4]; · iexact Ho4
  iintro HR Hi4 Ho4
  iapply (chunk_step cx co d L hpre 5 cc1_scratch2 cc1_scoped10 cc1_scoped11 (by decide) (by decide) (by decide) (by decide) (by decide) (by decide) O W hO) $$ [-]
  isplitr; · iexact Hlv
  isplitl [HR]; · iexact HR
  isplitl [Hi5]; · iexact Hi5
  isplitl [Ho5]; · iexact Ho5
  iintro HR Hi5 Ho5
  iapply (chunk_step cx co d L hpre 6 cc1_scratch2 cc1_scoped12 cc1_scoped13 (by decide) (by decide) (by decide) (by decide) (by decide) (by decide) O W hO) $$ [-]
  isplitr; · iexact Hlv
  isplitl [HR]; · iexact HR
  isplitl [Hi6]; · iexact Hi6
  isplitl [Ho6]; · iexact Ho6
  iintro HR Hi6 Ho6
  iapply (chunk_step cx co d L hpre 7 cc1_scratch2 cc1_scoped14 cc1_scoped15 (by decide) (by decide) (by decide) (by decide) (by decide) (by decide) O W hO) $$ [-]
  isplitr; · iexact Hlv
  isplitl [HR]; · iexact HR
  isplitl [Hi7]; · iexact Hi7
  isplitl [Ho7]; · iexact Ho7
  iintro ⟨Hx, Hs, Hr, Hsems, HO⟩ Hi7 Ho7
  rw [wp_pure]
  imodintro
  isplitr [Hs Hr Hbufs Hsems HO]
  · isplitl [Hi0 Hi1 Hi2 Hi3 Hi4 Hi5 Hi6 Hi7]
    · isplitl [Hi0]; · iexact Hi0
      isplitl [Hi1]; · iexact Hi1
      isplitl [Hi2]; · iexact Hi2
      isplitl [Hi3]; · iexact Hi3
      isplitl [Hi4]; · iexact Hi4
      isplitl [Hi5]; · iexact Hi5
      isplitl [Hi6]; · iexact Hi6
      iexact Hi7
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [Hs Hr Hbufs]
  · isplitl [Hs]; · iexact Hs
    isplitl [Hr]; · iexact Hr
    iexact Hbufs
  isplitl [Hsems]; · iexact Hsems
  iexact HO

end Tile

/-! ## What the handshakes carry, and the obligation -/

/-- The call's payloads: each SparseCore is handed its sixteen tasks' resources and brings them back, the result's blocks at
    the table's rows. -/
def P : (K (F := F)).Pay (nD := nD) (Val := Elt F) (Name := ℕ) (U := UU) where
  st := fun q d c => match q with | 0 => bigSep Finset.univ fun s : Fin ((K (F := F)).nSub 0) => taskR cx ci co d (Fin.cast nCore_zero c) (Fin.cast nSub_zero s)
  dn := fun q d c => match q with | 0 => bigSep Finset.univ fun s : Fin ((K (F := F)).nSub 0) => taskR cx ci (gathAt cx ci) d (Fin.cast nCore_zero c) (Fin.cast nSub_zero s)
  go := fun q d c s => match q with | 0 => taskR cx ci co d (Fin.cast nCore_zero c) (Fin.cast nSub_zero s)
  td := fun q d c s => match q with | 0 => taskR cx ci (gathAt cx ci) d (Fin.cast nCore_zero c) (Fin.cast nSub_zero s)
  x := fun _ _ => iprop(emp)

instance P_storable : (P cx ci co).IsStorable where
  st q d c := match q with
    | 0 => (inferInstance : BI.Storable (upEmb : UEmb _ 𝕄) (bigSep Finset.univ fun s : Fin ((K (F := F)).nSub 0) => taskR cx ci co d (Fin.cast nCore_zero c) (Fin.cast nSub_zero s)))
  dn q d c := match q with
    | 0 => (inferInstance : BI.Storable (upEmb : UEmb _ 𝕄) (bigSep Finset.univ fun s : Fin ((K (F := F)).nSub 0) => taskR cx ci (gathAt cx ci) d (Fin.cast nCore_zero c) (Fin.cast nSub_zero s)))
  go q d c s := match q with
    | 0 => (inferInstance : BI.Storable (upEmb : UEmb _ 𝕄) (taskR cx ci co d (Fin.cast nCore_zero c) (Fin.cast nSub_zero s)))
  td q d c s := match q with
    | 0 => (inferInstance : BI.Storable (upEmb : UEmb _ 𝕄) (taskR cx ci (gathAt cx ci) d (Fin.cast nCore_zero c) (Fin.cast nSub_zero s)))

variable [FloatOps F]

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_gather_k (coordsV c s)
          xV (Memref.isWhole_whole _) iV (Memref.isWhole_whole _) oV (Memref.isWhole_whole _)
          sV (Memref.isWhole_whole _) rV (Memref.isWhole_whole _) cc1_scratch2 cc1_scoped0 cc1_scoped1 cc1_scoped2 cc1_scoped3 cc1_scoped4 cc1_scoped5
          cc1_scoped6 cc1_scoped7 cc1_scoped8 cc1_scoped9 cc1_scoped10 cc1_scoped11 cc1_scoped12 cc1_scoped13 cc1_scoped14 cc1_scoped15) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets what the launch asks of it. -/
theorem tileObl (hF : (K (F := F)).Facts) {ci : (d : Dev nD) → Buf (Elt F) (iLoc d)} (hpre : IdxOK ci) : (K (F := F)).TileObl (D (F := F)) 𝒱 (P cx ci co) v₀ 0 := by
  intro d c i O W hO _ _
  simp only [show (P cx ci co).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body cx co d (coordsV ⟨_, hci.1⟩ ⟨_, hci.2⟩) hF hpre O W hO).trans (wp_mono frame _ _ fun _ => obl_post)

/-- A SparseCore's operands are its tasks' resources. -/
theorem vecSplit : (K (F := F)).VecSplit' (P cx ci co) 0 := by
  intro d c
  show (bigSep Finset.univ fun s : Fin ((K (F := F)).nSub 0) => taskR cx ci co d (Fin.cast nCore_zero c) (Fin.cast nSub_zero s)) ⊢ |={Set.univ}=> iprop(
      (bigSep Finset.univ fun s : Fin ((K (F := F)).nSub 0) => taskR cx ci co d (Fin.cast nCore_zero c) (Fin.cast nSub_zero s))
      ∗ ((bigSep Finset.univ fun s : Fin ((K (F := F)).nSub 0) => taskR cx ci (gathAt cx ci) d (Fin.cast nCore_zero c) (Fin.cast nSub_zero s))
          -∗ (bigSep Finset.univ fun s : Fin ((K (F := F)).nSub 0) => taskR cx ci (gathAt cx ci) d (Fin.cast nCore_zero c) (Fin.cast nSub_zero s))))
  iintro H; imodintro
  isplitl [H]; · iexact H
  iintro H; iexact H

/-! ## The arrays as the tasks' blocks and shares -/

theorem iSet_eq (b : Fin 256) : iSet b = (iblkR b).set := by
  show ((View.whole (main_v5_scv : Ref sig .scVector)).slice (iblkR b)).set = _
  rw [View.set_slice]; exact Finset.map_refl
theorem oSet_eq (b : Fin 256) : oSet b = (oblkR b).set := by
  show ((View.whole (main_v6_scv : Ref sig .scVector)).slice (oblkR b)).set = _
  rw [View.set_slice]; exact Finset.map_refl

/-- The tasks' chunks are the 256 blocks. -/
def blkEquiv : Fin 2 × Fin 16 × Fin 8 ≃ Fin 256 where
  toFun t := blkNo t.1 t.2.1 t.2.2
  invFun b := (⟨b.val / 8 % 2, by omega⟩, ⟨b.val / 16, by omega⟩, ⟨b.val % 8, by omega⟩)
  left_inv := by rintro ⟨c, s, n⟩; simp only [blkNo]; ext <;> simp <;> omega
  right_inv := by intro b; simp only [blkNo]; ext; simp; omega
/-- The tasks are the 32 shares. -/
def taskEquiv : Fin 2 × Fin 16 ≃ Fin (2 ^ 5) where
  toFun t := taskNo t.1 t.2
  invFun b := (⟨b.val % 2, by omega⟩, ⟨b.val / 2, by omega⟩)
  left_inv := by rintro ⟨c, s⟩; simp only [taskNo]; ext <;> simp <;> omega
  right_inv := by intro b; simp only [taskNo]; ext; simp; omega

theorem bigSep_blocks (Φ : Fin 256 → sProp 𝕄) :
    (bigSep Finset.univ fun c : Fin 2 => bigSep Finset.univ fun s : Fin 16 => bigSep Finset.univ fun n : Fin 8 => Φ (blkNo c s n)) = bigSep Finset.univ Φ := by
  rw [bigSep_univ_equiv blkEquiv Φ, bigSep_univ_prod (fun t : Fin 2 × Fin 16 × Fin 8 => Φ (blkEquiv t))]
  refine bigSep_congr fun c _ => ?_
  rw [bigSep_univ_prod (fun t : Fin 16 × Fin 8 => Φ (blkEquiv (c, t)))]
  rfl
theorem bigSep_tasks (Φ : Fin (2 ^ 5) → sProp 𝕄) :
    (bigSep Finset.univ fun c : Fin 2 => bigSep Finset.univ fun s : Fin 16 => Φ (taskNo c s)) = bigSep Finset.univ Φ := by
  rw [bigSep_univ_equiv taskEquiv Φ, bigSep_univ_prod (fun t : Fin 2 × Fin 16 => Φ (taskEquiv t))]
  rfl

theorem iPts_blocks (d : Dev nD) (f : Buf (Elt F) (iLoc d)) :
    (iLoc d ↦{fullShare} f : sProp 𝕄) = bigSep Finset.univ fun b : Fin 256 => iLoc d ↦[iSet b]{fullShare} f := by
  rw [← pointsTo_biUnion Finset.univ (ℓ := iLoc d) iSet (fun i _ j _ h => by rw [iSet_eq, iSet_eq]; exact Rect.part_disjoint idiv h),
    (Finset.biUnion_congr rfl fun i _ => iSet_eq i).trans (Rect.biUnion_part idiv)]; try rfl
theorem oPts_blocks (d : Dev nD) (f : Buf (Elt F) (oLoc d)) :
    (oLoc d ↦{fullShare} f : sProp 𝕄) = bigSep Finset.univ fun b : Fin 256 => oLoc d ↦[oSet b]{fullShare} f := by
  rw [← pointsTo_biUnion Finset.univ (ℓ := oLoc d) oSet (fun i _ j _ h => by rw [oSet_eq, oSet_eq]; exact Rect.part_disjoint odiv h),
    (Finset.biUnion_congr rfl fun i _ => oSet_eq i).trans (Rect.biUnion_part odiv)]; try rfl

/-- All the tasks' resources are the three arrays whole. -/
theorem tasks_whole (fo : (d : Dev nD) → Buf (Elt F) (oLoc d)) (d : Dev nD) :
    (bigSep Finset.univ fun c : Fin 2 => bigSep Finset.univ fun s : Fin 16 => taskR cx ci fo d c s)
      = iprop((iLoc d ↦{fullShare} ci d) ∗ (xLoc d ↦{fullShare} cx d) ∗ (oLoc d ↦{fullShare} fo d)) := by
  unfold taskR
  simp only [bigSep_sep']
  rw [bigSep_blocks (fun b => iLoc d ↦[iSet b]{fullShare} ci d), bigSep_blocks (fun b => oLoc d ↦[oSet b]{fullShare} fo d),
    bigSep_tasks (fun t => xLoc d ↦{ShareLeaves.leaf 5 fullShare t} cx d), ← iPts_blocks, ← oPts_blocks,
    ← ShareLeaves.pointsTo_leaves Finset.univ (cx d) 5 fullShare]

theorem st0_eq (d : Dev nD) : (bigSep Finset.univ fun c : Fin ((K (F := F)).nCore 0) => (P cx ci co).st 0 d c)
    = iprop((iLoc d ↦{fullShare} ci d) ∗ (xLoc d ↦{fullShare} cx d) ∗ (oLoc d ↦{fullShare} co d)) :=
  tasks_whole cx ci co d
theorem dn0_eq (d : Dev nD) : (bigSep Finset.univ fun c : Fin ((K (F := F)).nCore 0) => (P cx ci co).dn 0 d c)
    = iprop((iLoc d ↦{fullShare} ci d) ∗ (xLoc d ↦{fullShare} cx d) ∗ (oLoc d ↦{fullShare} gathAt cx ci d)) :=
  tasks_whole cx ci (gathAt cx ci) d

end Cert.Proof.KernelIdeal

end
-- ==== Proof.KernelSum.lean ====
/-
  The weighted sum on the TensorCore: its body, its pipeline's proof data, and its region of @main with the value it
  leaves in the result's array, entered while the core's SparseCore calls are over.
-/
module

public import proofs.«01_k».proof.Proof.KernelTask
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Pipeline.FrameBody
public import Idealize.ShloMosaic.Lib.Pipeline.ValueKit

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

variable {F : FTy → Type} [FloatOps F]

local notation "𝕄" => MT nD τ sig (HIx 1) (Elt F) ℕ UU ℕ

/-- The staging pipelines' rounds, in the resource algebra. -/
def EP : Emb UPipe (MT nD τ sig (HIx 1) (Elt F) ℕ UU ℕ) :=
  ((Emb.inl : Emb UPipe (UPipe × Counters)).trans (Emb.inr : Emb (UPipe × Counters) UU)).trans
    (uEmb (nD := nD) (sig := sig) (Ix := HIx 1) (Val := Elt F) (Name := ℕ) (U := UU) (Lvl := ℕ)).toEmb

instance EP_landsIn : (EP : Emb UPipe 𝕄).LandsIn (upEmb : UEmb _ 𝕄) := by unfold EP; infer_instance

/-! ## The body -/

/-- What the body stores, of the blocks it is handed. -/
abbrev sumBlk (X : S512x8x128.Idx → Elt F .f32) (W : S512x8.Idx → Elt F .f32) : S512x128.Idx → Elt F .f32 := k2_pay1 (F := F) X W

theorem off2_zero : (![0, 0] : Fin 2 → Nat) = fun _ => 0 := by funext a; fin_cases a <;> rfl
theorem off3_zero : (![0, 0, 0] : Fin 3 → Nat) = fun _ => 0 := by funext a; fin_cases a <;> rfl

/-- The body on three staging buffers: the third left at the weighted sum of the first two. -/
theorem body_spec (d : Dev nD) (i : grid2.Coords) (M1 : Memref sig .tc .vmem S512x8x128 .f32) (h1 : M1.IsWhole)
    (M2 : Memref sig .tc .vmem S512x8 .f32) (h2 : M2.IsWhole) (M3 : Memref sig .tc .vmem S512x128 .f32) (h3 : M3.IsWhole)
    (X : S512x8x128.Idx → Elt F .f32) (W : S512x8.Idx → Elt F .f32) (Y : S512x128.Idx → Elt F .f32) :
    iprop((owns (T d) M1 fullShare X : sProp 𝕄) ∗ owns (T d) M2 fullShare W ∗ owns (T d) M3 fullShare Y)
      ⊢ wp frame (wpE (defs₀ (F := F)) 𝒱₀ (T d) none) Set.univ (cc2__wsum_body (F := F) i M1 h1 M2 h2 M3 h3)
          fun _ => iprop(owns (T d) M1 fullShare X ∗ owns (T d) M2 fullShare W ∗ owns (T d) M3 fullShare (sumBlk X W)) := by
  rw [cc2__wsum_body_eq_skeleton]
  unfold owns cc2__wsum_body_skel
  rw [h1.set_eq_univ, h2.set_eq_univ, h3.set_eq_univ]
  iintro ⟨⟨%f1, %hf1, H1⟩, ⟨%f2, %hf2, H2⟩, ⟨%f3, -, H3⟩⟩
  sl_exec!
  sl_step
  isplitl [H1]; · iexists _; isplitr; swap; (· iexact H1); ipureintro; exact hf1
  isplitl [H2]; · iexists _; isplitr; swap; (· iexact H2); ipureintro; exact hf2
  iexists _; isplitr; swap; (· iexact H3)
  ipureintro
  refine (View.read_writes_eq_canon _ _ _ (fun y => ⟨_, List.mem_singleton_self _, View.mem_set_unit_zero off2_zero inb_S512x128_S512x128_0_0 y⟩)).trans ?_
  refine (View.canon_unit_zero off2_zero _ _).trans ?_
  subst hf1 hf2
  exact congrArg₂ (k2_pay1 (F := F)) (View.ld_unit_zero off3_zero _ _) (View.ld_unit_zero off2_zero _ _)

/-! ## The pipeline's proof data -/

variable (V : (c : Dev nD) → (b : Ref sig .tc) → Buf (Elt F) ((c : Thread nD τ).loc b)) (O : Dev nD → CellTallies nD τ sig (HIx 1)) (n : ℕ)

/-- The blocks of the gathered rows and of the weights at point `t`. -/
abbrev rowsBlk (c : Dev nD) (t : Fin cfg2.N) : (cfg2.win 0).block.Idx → Elt F (cfg2.win 0).elt :=
  ((cfg2.win 0).blk t).view.read (Elt F) (V c main_v7)
abbrev wtsBlk (c : Dev nD) (t : Fin cfg2.N) : (cfg2.win 1).block.Idx → Elt F (cfg2.win 1).elt :=
  ((cfg2.win 1).blk t).view.read (Elt F) (V c main_v4_1)

/-- The proof data of the region entered at `V`, the core owing `O c` and having waited at or below level `n`: the inputs' buffers left as fetched, the
    output's at the block's weighted sum. -/
def dat1 (c : Dev nD) : Dat τ (Elt F) (HIx 1) ℕ UU ℕ cfg2 c where
  A w := V c (Pipeline.arrRef spec2 w)
  after w t := match w with
    | ⟨0, _⟩ => rowsBlk V c t
    | ⟨1, _⟩ => wtsBlk V c t
    | ⟨2, _⟩ => sumBlk (rowsBlk V c t) (wtsBlk V c t)
  Φ _ := Pipeline.scopedRest (Ix := HIx 1) (Name := ℕ) (U := UU) (Lvl := ℕ) (Val := Elt F) spec2 c
  q _ := fullShare
  owed _ := O c
  recorded _ := {p | (K (F := F)).lev ((c : Thread nD τ), p.1) p.2 ≤ n}

theorem before1_0 (c : Dev nD) (t : Fin cfg2.N) (x : (cfg2.win 0).block.Idx → Elt F (cfg2.win 0).elt) :
    (dat1 V O n c).before 0 t x = rowsBlk V c t :=
  ((dat1 V O n c).before_fetched 0 t (fetch2_0 t) x).trans rfl
theorem before1_1 (c : Dev nD) (t : Fin cfg2.N) (x : (cfg2.win 1).block.Idx → Elt F (cfg2.win 1).elt) :
    (dat1 V O n c).before 1 t x = wtsBlk V c t :=
  ((dat1 V O n c).before_fetched 1 t (fetch2_1 t) x).trans rfl

/-- The body meets the pipeline's obligation. -/
theorem obligation1 (c : Dev nD) : Pipeline.BodyObligation (dat1 V O n c) (defs₀ (F := F)) 𝒱₀ none Set.univ := fun t => by
  rw [bigSep_W2, bigSep_W2]
  rw [show (dat1 V O n c).Φ t.castSucc = (dat1 V O n c).Φ t.succ from rfl,
    show (dat1 V O n c).owesAt none t.succ = (dat1 V O n c).owesAt none t.castSucc from rfl]
  iintro ⟨HΦ, Howes, ⟨%d0, H0⟩, ⟨%d1, H1⟩, ⟨%d2, H2⟩⟩
  rw [before1_0, before1_1]
  iapply (wp_wand frame (wpE (defs₀ (F := F)) 𝒱₀ (T c) none) Set.univ) $$ [H0 H1 H2]
  · iapply (body_spec c (grid2.coords t) (st2_0 t) (hstage2_0 ((cfg2.slots t 0).cast nbuf2_0)) (st2_1 t) (hstage2_1 ((cfg2.slots t 1).cast nbuf2_1))
      (st2_2 t) (hstage2_2 ((cfg2.slots t 2).cast nbuf2_2)) (rowsBlk V c t) (wtsBlk V c t) _)
    isplitl [H0]; · iexact H0
    isplitl [H1]; · iexact H1
    iexact H2
  iintro %_ ⟨H0, H1, H2⟩
  isplitl [HΦ]; · iexact HΦ
  isplitl [Howes]; · iexact Howes
  isplitl [H0]; · iexact H0
  isplitl [H1]; · iexact H1
  iexact H2

/-! ## What the region leaves -/

/-- Row `r` of an array in blocks of 512 rows. -/
def rowAt (t : ℕ) (ht : t < 8) (i : Fin 512) : Fin 4096 := ⟨512 * t + i.val, by omega⟩

/-- The weighted sum of the whole arrays: row `r` from the block its row lies in. -/
def sumArr (x : S4096x8x128.Idx → Elt F .f32) (w : S4096x8.Idx → Elt F .f32) : S4096x128.Idx → Elt F .f32 := fun j =>
  sumBlk (fun i => x (ix3 (n0 := 4096) (n1 := 8) (n2 := 128) (rowAt ((j 0).val / 512) (by have := (j 0).isLt; change (j 0).val < 4096 at this; omega) (i 0)) (i 1) (i 2)))
    (fun i => w (ix2 (n0 := 4096) (n1 := 8) (rowAt ((j 0).val / 512) (by have := (j 0).isLt; change (j 0).val < 4096 at this; omega) (i 0)) (i 1)))
    (ix2 (n0 := 512) (n1 := 128) ⟨(j 0).val % 512, Nat.mod_lt _ (by decide)⟩ (j 1))

theorem ptlt (t : Fin cfg2.N) : t.val < 8 := lt_of_lt_of_eq t.isLt N_2

theorem coords1 (t : Fin cfg2.N) : ((grid2.coords t) 0).val = t.val := by
  refine (Pipeline.Grid.coords_val t 0 (S := 1) (B := 8) (by decide) (by decide)).trans ?_
  have := ptlt t; omega

theorem index1_0 : ∀ t : Fin grid2.N, win2_0.index t = ![t.val, 0, 0] := by decide +kernel
theorem index1_1 : ∀ t : Fin grid2.N, win2_1.index t = ![t.val, 0] := by decide +kernel
theorem index1_2 : ∀ t : Fin grid2.N, win2_2.index t = ![t.val, 0] := by decide +kernel

/-- Where an element of a window's block lies in its array. -/
theorem emb1_0 (t : Fin cfg2.N) (y : S512x8x128.Idx) : ((cfg2.win 0).blk t).view.emb y
    = ix3 (n0 := 4096) (n1 := 8) (n2 := 128) (rowAt t.val (ptlt t) (y 0)) (y 1) (y 2) := by
  funext a; apply Fin.ext
  refine (win2_0.rect_emb_val t y a).trans ?_
  rw [index1_0 t]
  fin_cases a
  · exact congrArg (· + (y 0).val) (Nat.mul_comm _ _)
  · show 0 * 8 + (y 1).val = (y 1).val; omega
  · show 0 * 128 + (y 2).val = (y 2).val; omega
theorem emb1_1 (t : Fin cfg2.N) (y : S512x8.Idx) : ((cfg2.win 1).blk t).view.emb y
    = ix2 (n0 := 4096) (n1 := 8) (rowAt t.val (ptlt t) (y 0)) (y 1) := by
  funext a; apply Fin.ext
  refine (win2_1.rect_emb_val t y a).trans ?_
  rw [index1_1 t]
  fin_cases a
  · exact congrArg (· + (y 0).val) (Nat.mul_comm _ _)
  · show 0 * 8 + (y 1).val = (y 1).val; omega
theorem emb1_2 (t : Fin cfg2.N) (y : S512x128.Idx) : ((cfg2.win 2).blk t).view.emb y
    = ix2 (n0 := 4096) (n1 := 128) (rowAt t.val (ptlt t) (y 0)) (y 1) := by
  funext a; apply Fin.ext
  refine (win2_2.rect_emb_val t y a).trans ?_
  rw [index1_2 t]
  fin_cases a
  · exact congrArg (· + (y 0).val) (Nat.mul_comm _ _)
  · show 0 * 128 + (y 1).val = (y 1).val; omega

theorem covers1 : win2_2.Covers := by decide +kernel

/-- The weighted sum's rows of one block are the block's weighted sum. -/
theorem sumArr_row (x : S4096x8x128.Idx → Elt F .f32) (w : S4096x8.Idx → Elt F .f32) (t : ℕ) (ht : t < 8) (y : S512x128.Idx) :
    sumArr x w (ix2 (n0 := 4096) (n1 := 128) (rowAt t ht (y 0)) (y 1))
      = sumBlk (fun i => x (ix3 (n0 := 4096) (n1 := 8) (n2 := 128) (rowAt t ht (i 0)) (i 1) (i 2)))
          (fun i => w (ix2 (n0 := 4096) (n1 := 8) (rowAt t ht (i 0)) (i 1))) y := by
  have hy : (y 0).val < 512 := (y 0).isLt
  have h1 : (512 * t + (y 0).val) / 512 = t := by omega
  have h2 : (512 * t + (y 0).val) % 512 = (y 0).val := by omega
  unfold sumArr
  have e : ix2 (n0 := 512) (n1 := 128) ⟨(512 * t + (y 0).val) % 512, Nat.mod_lt _ (by decide)⟩ (y 1) = y := by
    funext a; fin_cases a
    · exact Fin.ext h2
    · rfl
  refine Eq.trans ?_ (congrArg _ e)
  have hr : ∀ h (i : Fin 512), rowAt ((512 * t + (y 0).val) / 512) h i = rowAt t ht i := fun h i =>
    Fin.ext (by show 512 * ((512 * t + (y 0).val) / 512) + _ = _; rw [h1]; rfl)
  congr 1
  · funext i; exact congrArg (fun r => x (ix3 (n0 := 4096) (n1 := 8) (n2 := 128) r (i 1) (i 2))) (hr _ _)
  · funext i; exact congrArg (fun r => w (ix2 (n0 := 4096) (n1 := 8) r (i 1))) (hr _ _)

/-- The result's array after the region: the weighted sum of the two arrays. -/
theorem final1 (c : Dev nD) : (dat1 V O n c).arrAt 2 cfg2.N = sumArr (V c main_v7) (V c main_v4_1) := by
  refine (dat1 V O n c).arrAt_eq_of_cover 2 (sumArr (V c main_v7) (V c main_v4_1)) ?_ (covers1.cover _ (Memref.isWhole_whole _))
  intro t _
  funext y
  show sumBlk (rowsBlk V c t) (wtsBlk V c t) y = sumArr (V c main_v7) (V c main_v4_1) (((cfg2.win 2).blk t).view.emb y)
  rw [emb1_2 t y, sumArr_row]
  congr 1
  · funext i; exact congrArg (V c main_v7) (emb1_0 t i)
  · funext i; exact congrArg (V c main_v4_1) (emb1_1 t i)

end Cert.Proof.KernelIdeal

end
-- ==== Proof.KernelStep.lean ====
/-
  The pieces of the top-8 body as programs over what follows them: each taken from the scratch it finds to the scratch
  it leaves, by values.
-/
module

public import proofs.«01_k».proof.Proof.KernelSum
public import Idealize.ShloMosaic.Lib.VecWindow
public import Idealize.ShloMosaic.PureOps.Ideal

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {α : Type}

abbrev TProg (α : Type) := Prog (TpuEff nD τ sig (Elt F) Λ₀ .tc) α

section Pieces

variable (d : Dev nD) (M7 : Memref sig .tc .vmem S512x16 .f32) (M8 : Memref sig .tc .vmem S512x16 .f32)
  (M9 : Memref sig .tc .vmem S512x2048 .f32)

/-- The three scratch buffers by values. -/
abbrev scr (tv ti : S512x16.Idx → Elt F .f32) (dd : S512x2048.Idx → Elt F .f32) : sProp 𝕄 :=
  iprop(owns (T d) M7 fullShare tv ∗ owns (T d) M8 fullShare ti ∗ owns (T d) M9 fullShare dd)

/-- One entry taken out of the distances held in scratch, the distances left without it. -/
def takeProg (col : ℕ) (inb : ∀ a : Fin 2, (![0, col] : Fin 2 → ℕ) a + S512x1.size a ≤ S512x16.size a)
    (pv pi : Vec F S512x2048 .f32 → FVec F S512x1 .f32) (pd : Vec F S512x2048 .f32 → FVec F S512x2048 .f32) (k : TProg (F := F) α) : TProg (F := F) α := do
  let v80 : Vec F S512x2048 .f32 ← Prog.lift (.load M9 (Rect.unit (s := S512x2048) ![0, 0] S512x2048.size inb_S512x2048_S512x2048_0_0).toLoadRect (View.loadsAt_vmem h_S512x2048))
  let _ : Vec F S512x1 .f32 ← Prog.lift (.load M7 (Rect.unit (s := S512x16) ![0, col] S512x1.size inb).toLoadRect (View.loadsAt_vmem h_S512x1))
  Prog.lift (.store M7 (Rect.unit (s := S512x16) ![0, col] S512x1.size inb) (pv v80) Finset.univ (View.stores_vmem_bits_univ h_S512x1 rfl) (.inl rfl))
  let _ : Vec F S512x1 .f32 ← Prog.lift (.load M8 (Rect.unit (s := S512x16) ![0, col] S512x1.size inb).toLoadRect (View.loadsAt_vmem h_S512x1))
  Prog.lift (.store M8 (Rect.unit (s := S512x16) ![0, col] S512x1.size inb) (pi v80) Finset.univ (View.stores_vmem_bits_univ h_S512x1 rfl) (.inl rfl))
  let _ : Vec F S512x2048 .f32 ← Prog.lift (.load M9 (Rect.unit (s := S512x2048) ![0, 0] S512x2048.size inb_S512x2048_S512x2048_0_0).toLoadRect (View.loadsAt_vmem h_S512x2048))
  Prog.lift (.store M9 (Rect.unit (s := S512x2048) ![0, 0] S512x2048.size inb_S512x2048_S512x2048_0_0) (pd v80) Finset.univ (View.stores_vmem_bits_univ h_S512x2048 rfl) (.inl rfl))
  k

theorem take_spec (h7 : M7.IsWhole) (h8 : M8.IsWhole) (h9 : M9.IsWhole) (col : ℕ) (inb : ∀ a : Fin 2, (![0, col] : Fin 2 → ℕ) a + S512x1.size a ≤ S512x16.size a)
    (pv pi : Vec F S512x2048 .f32 → FVec F S512x1 .f32) (pd : Vec F S512x2048 .f32 → FVec F S512x2048 .f32) (k : TProg (F := F) α) (tv ti dd) (Q : α → sProp 𝕄) :
    iprop(scr d M7 M8 M9 tv ti dd ∗ (scr d M7 M8 M9 (VecWindow.put tv ![0, col] S512x1.size (pv dd)) (VecWindow.put ti ![0, col] S512x1.size (pi dd)) (pd dd)
        -∗ wp frame (wpE (defs₀ (F := F)) 𝒱₀ (T d) none) Set.univ k Q))
      ⊢ wp frame (wpE (defs₀ (F := F)) 𝒱₀ (T d) none) Set.univ (takeProg M7 M8 M9 col inb pv pi pd k) Q := by
  unfold scr owns takeProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact (View.read_writes_cons_put _ _ _ _ [] rfl).trans (by rw [View.writes_nil, hf7, View.readAt_full, hf9])
  isplitl [H8]; · iexists _; isplitr; swap; (· iexact H8); ipureintro; exact (View.read_writes_cons_put _ _ _ _ [] rfl).trans (by rw [View.writes_nil, hf8, View.readAt_full, hf9])
  iexists _; isplitr; swap; (· iexact H9); ipureintro; exact (View.read_writes_full _ _ _ _ []).trans (by rw [View.readAt_full, hf9])

/-- The last entry taken out, the distances left as they are. -/
def lastProg (col : ℕ) (inb : ∀ a : Fin 2, (![0, col] : Fin 2 → ℕ) a + S512x1.size a ≤ S512x16.size a)
    (pv pi : Vec F S512x2048 .f32 → FVec F S512x1 .f32) (k : TProg (F := F) α) : TProg (F := F) α := do
  let v80 : Vec F S512x2048 .f32 ← Prog.lift (.load M9 (Rect.unit (s := S512x2048) ![0, 0] S512x2048.size inb_S512x2048_S512x2048_0_0).toLoadRect (View.loadsAt_vmem h_S512x2048))
  let _ : Vec F S512x1 .f32 ← Prog.lift (.load M7 (Rect.unit (s := S512x16) ![0, col] S512x1.size inb).toLoadRect (View.loadsAt_vmem h_S512x1))
  Prog.lift (.store M7 (Rect.unit (s := S512x16) ![0, col] S512x1.size inb) (pv v80) Finset.univ (View.stores_vmem_bits_univ h_S512x1 rfl) (.inl rfl))
  let _ : Vec F S512x1 .f32 ← Prog.lift (.load M8 (Rect.unit (s := S512x16) ![0, col] S512x1.size inb).toLoadRect (View.loadsAt_vmem h_S512x1))
  Prog.lift (.store M8 (Rect.unit (s := S512x16) ![0, col] S512x1.size inb) (pi v80) Finset.univ (View.stores_vmem_bits_univ h_S512x1 rfl) (.inl rfl))
  k

theorem last_spec (h7 : M7.IsWhole) (h8 : M8.IsWhole) (h9 : M9.IsWhole) (col : ℕ) (inb : ∀ a : Fin 2, (![0, col] : Fin 2 → ℕ) a + S512x1.size a ≤ S512x16.size a)
    (pv pi : Vec F S512x2048 .f32 → FVec F S512x1 .f32) (k : TProg (F := F) α) (tv ti dd) (Q : α → sProp 𝕄) :
    iprop(scr d M7 M8 M9 tv ti dd ∗ (scr d M7 M8 M9 (VecWindow.put tv ![0, col] S512x1.size (pv dd)) (VecWindow.put ti ![0, col] S512x1.size (pi dd)) dd
        -∗ wp frame (wpE (defs₀ (F := F)) 𝒱₀ (T d) none) Set.univ k Q))
      ⊢ wp frame (wpE (defs₀ (F := F)) 𝒱₀ (T d) none) Set.univ (lastProg M7 M8 M9 col inb pv pi k) Q := by
  unfold scr owns lastProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact (View.read_writes_cons_put _ _ _ _ [] rfl).trans (by rw [View.writes_nil, hf7, View.readAt_full, hf9])
  isplitl [H8]; · iexists _; isplitr; swap; (· iexact H8); ipureintro; exact (View.read_writes_cons_put _ _ _ _ [] rfl).trans (by rw [View.writes_nil, hf8, View.readAt_full, hf9])
  iexists _; isplitr; swap; (· iexact H9); ipureintro; exact hf9

/-- The first entry, given by its values. -/
def firstProg (col : ℕ) (inb : ∀ a : Fin 2, (![0, col] : Fin 2 → ℕ) a + S512x1.size a ≤ S512x16.size a)
    (wv wi : FVec F S512x1 .f32) (k : TProg (F := F) α) : TProg (F := F) α := do
  let _ : Vec F S512x1 .f32 ← Prog.lift (.load M7 (Rect.unit (s := S512x16) ![0, col] S512x1.size inb).toLoadRect (View.loadsAt_vmem h_S512x1))
  Prog.lift (.store M7 (Rect.unit (s := S512x16) ![0, col] S512x1.size inb) wv Finset.univ (View.stores_vmem_bits_univ h_S512x1 rfl) (.inl rfl))
  let _ : Vec F S512x1 .f32 ← Prog.lift (.load M8 (Rect.unit (s := S512x16) ![0, col] S512x1.size inb).toLoadRect (View.loadsAt_vmem h_S512x1))
  Prog.lift (.store M8 (Rect.unit (s := S512x16) ![0, col] S512x1.size inb) wi Finset.univ (View.stores_vmem_bits_univ h_S512x1 rfl) (.inl rfl))
  k

theorem first_spec (h7 : M7.IsWhole) (h8 : M8.IsWhole) (h9 : M9.IsWhole) (col : ℕ) (inb : ∀ a : Fin 2, (![0, col] : Fin 2 → ℕ) a + S512x1.size a ≤ S512x16.size a)
    (wv wi : FVec F S512x1 .f32) (k : TProg (F := F) α) (tv ti dd) (Q : α → sProp 𝕄) :
    iprop(scr d M7 M8 M9 tv ti dd ∗ (scr d M7 M8 M9 (VecWindow.put tv ![0, col] S512x1.size wv) (VecWindow.put ti ![0, col] S512x1.size wi) dd
        -∗ wp frame (wpE (defs₀ (F := F)) 𝒱₀ (T d) none) Set.univ k Q))
      ⊢ wp frame (wpE (defs₀ (F := F)) 𝒱₀ (T d) none) Set.univ (firstProg M7 M8 col inb wv wi k) Q := by
  unfold scr owns firstProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact (View.read_writes_cons_put _ _ _ _ [] rfl).trans (by rw [View.writes_nil, hf7])
  isplitl [H8]; · iexists _; isplitr; swap; (· iexact H8); ipureintro; exact (View.read_writes_cons_put _ _ _ _ [] rfl).trans (by rw [View.writes_nil, hf8])
  iexists _; isplitr; swap; (· iexact H9); ipureintro; exact hf9

/-- The distances put into scratch. -/
def spillProg (wd : FVec F S512x2048 .f32) (k : TProg (F := F) α) : TProg (F := F) α := do
  let _ : Vec F S512x2048 .f32 ← Prog.lift (.load M9 (Rect.unit (s := S512x2048) ![0, 0] S512x2048.size inb_S512x2048_S512x2048_0_0).toLoadRect (View.loadsAt_vmem h_S512x2048))
  Prog.lift (.store M9 (Rect.unit (s := S512x2048) ![0, 0] S512x2048.size inb_S512x2048_S512x2048_0_0) wd Finset.univ (View.stores_vmem_bits_univ h_S512x2048 rfl) (.inl rfl))
  k

theorem spill_spec (h7 : M7.IsWhole) (h8 : M8.IsWhole) (h9 : M9.IsWhole) (wd : FVec F S512x2048 .f32) (k : TProg (F := F) α) (tv ti dd) (Q : α → sProp 𝕄) :
    iprop(scr d M7 M8 M9 tv ti dd ∗ (scr d M7 M8 M9 tv ti wd
        -∗ wp frame (wpE (defs₀ (F := F)) 𝒱₀ (T d) none) Set.univ k Q))
      ⊢ wp frame (wpE (defs₀ (F := F)) 𝒱₀ (T d) none) Set.univ (spillProg M9 wd k) Q := by
  unfold scr owns spillProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact hf7
  isplitl [H8]; · iexists _; isplitr; swap; (· iexact H8); ipureintro; exact hf8
  iexists _; isplitr; swap; (· iexact H9); ipureintro; exact View.read_writes_full _ _ _ _ []

/-- The upper eight columns of the distances filled. -/
def fillProg (wv : FVec F S512x8 .f32) (k : TProg (F := F) α) : TProg (F := F) α := do
  let _ : Vec F S512x8 .f32 ← Prog.lift (.load M7 (Rect.unit (s := S512x16) ![0, 8] S512x8.size inb_S512x16_S512x8_0_8).toLoadRect (View.loadsAt_vmem h_S512x8))
  Prog.lift (.store M7 (Rect.unit (s := S512x16) ![0, 8] S512x8.size inb_S512x16_S512x8_0_8) wv Finset.univ (View.stores_vmem_bits_univ h_S512x8 rfl) (.inl rfl))
  k

theorem fill_spec (h7 : M7.IsWhole) (h8 : M8.IsWhole) (h9 : M9.IsWhole) (wv : FVec F S512x8 .f32) (k : TProg (F := F) α) (tv ti dd) (Q : α → sProp 𝕄) :
    iprop(scr d M7 M8 M9 tv ti dd ∗ (scr d M7 M8 M9 (VecWindow.put tv ![0, 8] S512x8.size wv) ti dd
        -∗ wp frame (wpE (defs₀ (F := F)) 𝒱₀ (T d) none) Set.univ k Q))
      ⊢ wp frame (wpE (defs₀ (F := F)) 𝒱₀ (T d) none) Set.univ (fillProg M7 wv k) Q := by
  unfold scr owns fillProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact (View.read_writes_cons_put _ _ _ _ [] rfl).trans (by rw [View.writes_nil, hf7])
  isplitl [H8]; · iexists _; isplitr; swap; (· iexact H8); ipureintro; exact hf8
  iexists _; isplitr; swap; (· iexact H9); ipureintro; exact hf9

/-- The lower eight columns of both candidates set. -/
def startProg (wv wi : FVec F S512x8 .f32) (k : TProg (F := F) α) : TProg (F := F) α := do
  let _ : Vec F S512x8 .f32 ← Prog.lift (.load M7 (Rect.unit (s := S512x16) ![0, 0] S512x8.size inb_S512x16_S512x8_0_0).toLoadRect (View.loadsAt_vmem h_S512x8))
  Prog.lift (.store M7 (Rect.unit (s := S512x16) ![0, 0] S512x8.size inb_S512x16_S512x8_0_0) wv Finset.univ (View.stores_vmem_bits_univ h_S512x8 rfl) (.inl rfl))
  let _ : Vec F S512x8 .f32 ← Prog.lift (.load M8 (Rect.unit (s := S512x16) ![0, 0] S512x8.size inb_S512x16_S512x8_0_0).toLoadRect (View.loadsAt_vmem h_S512x8))
  Prog.lift (.store M8 (Rect.unit (s := S512x16) ![0, 0] S512x8.size inb_S512x16_S512x8_0_0) wi Finset.univ (View.stores_vmem_bits_univ h_S512x8 rfl) (.inl rfl))
  k

theorem start_spec (h7 : M7.IsWhole) (h8 : M8.IsWhole) (h9 : M9.IsWhole) (wv wi : FVec F S512x8 .f32) (k : TProg (F := F) α) (tv ti dd) (Q : α → sProp 𝕄) :
    iprop(scr d M7 M8 M9 tv ti dd ∗ (scr d M7 M8 M9 (VecWindow.put tv ![0, 0] S512x8.size wv) (VecWindow.put ti ![0, 0] S512x8.size wi) dd
        -∗ wp frame (wpE (defs₀ (F := F)) 𝒱₀ (T d) none) Set.univ k Q))
      ⊢ wp frame (wpE (defs₀ (F := F)) 𝒱₀ (T d) none) Set.univ (startProg M7 M8 wv wi k) Q := by
  unfold scr owns startProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact (View.read_writes_cons_put _ _ _ _ [] rfl).trans (by rw [View.writes_nil, hf7])
  isplitl [H8]; · iexists _; isplitr; swap; (· iexact H8); ipureintro; exact (View.read_writes_cons_put _ _ _ _ [] rfl).trans (by rw [View.writes_nil, hf8])
  iexists _; isplitr; swap; (· iexact H9); ipureintro; exact hf9

/-- The eight best of both halves put into the lower half. -/
def joinProg (bv bi : Vec F S512x16 .f32 → Vec F S512x16 .f32 → FVec F S512x8 .f32) (k : TProg (F := F) α) : TProg (F := F) α := do
  let v80 : Vec F S512x16 .f32 ← Prog.lift (.load M7 (Rect.unit (s := S512x16) ![0, 0] S512x16.size inb_S512x16_S512x16_0_0).toLoadRect (View.loadsAt_vmem h_S512x16))
  let v81 : Vec F S512x16 .f32 ← Prog.lift (.load M8 (Rect.unit (s := S512x16) ![0, 0] S512x16.size inb_S512x16_S512x16_0_0).toLoadRect (View.loadsAt_vmem h_S512x16))
  let _ : Vec F S512x8 .f32 ← Prog.lift (.load M7 (Rect.unit (s := S512x16) ![0, 0] S512x8.size inb_S512x16_S512x8_0_0).toLoadRect (View.loadsAt_vmem h_S512x8))
  Prog.lift (.store M7 (Rect.unit (s := S512x16) ![0, 0] S512x8.size inb_S512x16_S512x8_0_0) (bv v80 v81) Finset.univ (View.stores_vmem_bits_univ h_S512x8 rfl) (.inl rfl))
  let _ : Vec F S512x8 .f32 ← Prog.lift (.load M8 (Rect.unit (s := S512x16) ![0, 0] S512x8.size inb_S512x16_S512x8_0_0).toLoadRect (View.loadsAt_vmem h_S512x8))
  Prog.lift (.store M8 (Rect.unit (s := S512x16) ![0, 0] S512x8.size inb_S512x16_S512x8_0_0) (bi v80 v81) Finset.univ (View.stores_vmem_bits_univ h_S512x8 rfl) (.inl rfl))
  k

theorem join_spec (h7 : M7.IsWhole) (h8 : M8.IsWhole) (h9 : M9.IsWhole) (bv bi : Vec F S512x16 .f32 → Vec F S512x16 .f32 → FVec F S512x8 .f32) (k : TProg (F := F) α) (tv ti dd) (Q : α → sProp 𝕄) :
    iprop(scr d M7 M8 M9 tv ti dd ∗ (scr d M7 M8 M9 (VecWindow.put tv ![0, 0] S512x8.size (bv tv ti)) (VecWindow.put ti ![0, 0] S512x8.size (bi tv ti)) dd
        -∗ wp frame (wpE (defs₀ (F := F)) 𝒱₀ (T d) none) Set.univ k Q))
      ⊢ wp frame (wpE (defs₀ (F := F)) 𝒱₀ (T d) none) Set.univ (joinProg M7 M8 bv bi k) Q := by
  unfold scr owns joinProg
  rw [h7.set_eq_univ, h8.set_eq_univ, h9.set_eq_univ]
  iintro ⟨⟨⟨%f7, %hf7, H7⟩, ⟨%f8, %hf8, H8⟩, ⟨%f9, %hf9, H9⟩⟩, Hk⟩
  sl_exec!
  iapply Hk
  isplitl [H7]; · iexists _; isplitr; swap; (· iexact H7); ipureintro; exact (View.read_writes_cons_put _ _ _ _ [] rfl).trans (by rw [View.writes_nil, View.readAt_full, View.readAt_full, hf7, hf8])
  isplitl [H8]; · iexists _; isplitr; swap; (· iexact H8); ipureintro; exact (View.read_writes_cons_put _ _ _ _ [] rfl).trans (by rw [View.writes_nil, View.readAt_full, View.readAt_full, hf7, hf8])
  iexists _; isplitr; swap; (· iexact H9); ipureintro; exact hf9

end Pieces

end Cert.Proof.KernelIdeal

end
-- ==== Proof.TopEight.lean ====
/-
  The eight nearest of a growing list, in extended reals: taking the least entry of a row out eight times, and joining
  the eight least so far with the entries taken out of the next block. No program is mentioned here.
-/
module

public import Idealize.ShloMosaic.PureOps.Ideal
public import Idealize.ShloMosaic.Lib.Pointwise

@[expose] public section

noncomputable section

namespace Cert.Proof.TopEight

/-! ## The least entry of a row, and the row without it -/

variable {n : ℕ}

theorem exists_first [NeZero n] (v : Fin n → EReal) : ∃ p : Fin n, (∀ c, v p ≤ v c) ∧ ∀ c, v c = v p → p ≤ c := by
  classical
  obtain ⟨m, -, hm⟩ := Finset.exists_min_image (Finset.univ : Finset (Fin n)) v ⟨0, Finset.mem_univ _⟩
  obtain ⟨p, hp, hpm⟩ := Finset.exists_min_image (Finset.univ.filter fun c => v c = v m) id ⟨m, by simp⟩
  have e : v p = v m := (Finset.mem_filter.1 hp).2
  exact ⟨p, fun c => e ▸ hm c (Finset.mem_univ c), fun c hc => hpm c (Finset.mem_filter.2 ⟨Finset.mem_univ c, hc.trans e⟩)⟩

/-- The first column holding the row's least entry. -/
def pick [NeZero n] (v : Fin n → EReal) : Fin n := Classical.choose (exists_first v)

theorem pick_le [NeZero n] (v : Fin n → EReal) (c : Fin n) : v (pick v) ≤ v c := (Classical.choose_spec (exists_first v)).1 c
theorem pick_first [NeZero n] (v : Fin n → EReal) (c : Fin n) (h : v c = v (pick v)) : pick v ≤ c :=
  (Classical.choose_spec (exists_first v)).2 c h

/-- The row after `k` times overwriting its first least entry by infinity. -/
def ext [NeZero n] (v : Fin n → EReal) : ℕ → Fin n → EReal
  | 0 => v
  | k + 1 => fun c => if c = pick (ext v k) then ⊤ else ext v k c

/-- The column overwritten at step `k`. -/
abbrev pk [NeZero n] (v : Fin n → EReal) (k : ℕ) : Fin n := pick (ext v k)

theorem ext_of_not [NeZero n] (v : Fin n → EReal) (k : ℕ) (c : Fin n) (h : ∀ j < k, pk v j ≠ c) : ext v k c = v c := by
  induction k with
  | zero => rfl
  | succ k ih =>
    show (if c = pick (ext v k) then ⊤ else ext v k c) = v c
    rw [if_neg fun e => h k (Nat.lt_succ_self k) e.symm]
    exact ih fun j hj => h j (by omega)

theorem ext_of_picked [NeZero n] (v : Fin n → EReal) (k j : ℕ) (hj : j < k) : ext v k (pk v j) = ⊤ := by
  induction k with
  | zero => omega
  | succ k ih =>
    show (if pk v j = pick (ext v k) then ⊤ else ext v k (pk v j)) = ⊤
    by_cases e : pk v j = pick (ext v k)
    · rw [if_pos e]
    · rw [if_neg e]
      refine ih (lt_of_le_of_ne (by omega) fun h => e ?_)
      subst h; rfl

/-- Columns in the order of their entries, ties by column. -/
def colKey (v : Fin n → EReal) (c : Fin n) : EReal ×ₗ Fin n := toLex (v c, c)

theorem colKey_lt (v : Fin n → EReal) (a b : Fin n) : colKey v a < colKey v b ↔ v a < v b ∨ v a = v b ∧ a < b :=
  Prod.Lex.toLex_lt_toLex

/-- While a finite entry is left, the column overwritten is a new one, its entry finite and before every entry left. -/
theorem pk_spec [NeZero n] (v : Fin n → EReal) (k : ℕ) (h : ∃ c, (∀ j < k, pk v j ≠ c) ∧ v c < ⊤) :
    (∀ j < k, pk v j ≠ pk v k) ∧ v (pk v k) < ⊤ ∧ ext v k (pk v k) = v (pk v k)
      ∧ ∀ c, (∀ j < k, pk v j ≠ c) → c ≠ pk v k → colKey v (pk v k) < colKey v c := by
  obtain ⟨c0, hc0, hf⟩ := h
  have hlt : ext v k (pk v k) < ⊤ := lt_of_le_of_lt (pick_le (ext v k) c0) ((ext_of_not v k c0 hc0).symm ▸ hf)
  have hnew : ∀ j < k, pk v j ≠ pk v k := fun j hj e => by
    rw [← e, ext_of_picked v k j hj] at hlt
    exact lt_irrefl _ hlt
  have he := ext_of_not v k (pk v k) hnew
  refine ⟨hnew, he ▸ hlt, he, fun c hc hne => (colKey_lt _ _ _).2 ?_⟩
  have hec := ext_of_not v k c hc
  have hle : v (pk v k) ≤ v c := by rw [← he, ← hec]; exact pick_le (ext v k) c
  rcases lt_or_eq_of_le hle with h | h
  · exact Or.inl h
  · refine Or.inr ⟨h, lt_of_le_of_ne (pick_first (ext v k) c ?_) (Ne.symm hne)⟩
    rw [hec, ← h, ← he]

theorem exists_left [NeZero n] (v : Fin n → EReal) (K k : ℕ) (hk : k < K)
    (h : K ≤ (Finset.univ.filter fun c => v c < ⊤).card) : ∃ c, (∀ j < k, pk v j ≠ c) ∧ v c < ⊤ := by
  classical
  by_contra hno
  push Not at hno
  have hsub : (Finset.univ.filter fun c => v c < ⊤) ⊆ (Finset.range k).image (pk v) := fun c hc => by
    have hf : v c < ⊤ := (Finset.mem_filter.1 hc).2
    by_contra hn
    refine absurd hf (not_lt.2 (hno c fun j hj e => hn ?_))
    exact Finset.mem_image.2 ⟨j, Finset.mem_range.2 hj, e⟩
  have := (Finset.card_le_card hsub).trans Finset.card_image_le
  rw [Finset.card_range] at this
  omega

section Many
variable [NeZero n] (v : Fin n → EReal) (K : ℕ) (h : K ≤ (Finset.univ.filter fun c => v c < ⊤).card)
include h

theorem pk_fin (k : ℕ) (hk : k < K) : v (pk v k) < ⊤ := (pk_spec v k (exists_left v K k hk h)).2.1
theorem pk_ext (k : ℕ) (hk : k < K) : ext v k (pk v k) = v (pk v k) := (pk_spec v k (exists_left v K k hk h)).2.2.1
theorem pk_new (i k : ℕ) (hi : i < k) (hk : k < K) : pk v i ≠ pk v k := (pk_spec v k (exists_left v K k hk h)).1 i hi
theorem pk_before (k : ℕ) (hk : k < K) (c : Fin n) (hc : ∀ j ≤ k, pk v j ≠ c) : colKey v (pk v k) < colKey v c :=
  (pk_spec v k (exists_left v K k hk h)).2.2.2 c (fun j hj => hc j hj.le) (hc k le_rfl).symm
theorem pk_mono (i k : ℕ) (hi : i < k) (hk : k < K) : colKey v (pk v i) < colKey v (pk v k) :=
  pk_before v K h i (by omega) _ fun j hj => pk_new v K h j k (by omega) hk

end Many

/-! ## The eight nearest of a set of nodes -/

/-- Nodes in the order of their distances, ties by number. -/
def nodeKey (D : ℕ → EReal) (a : ℕ) : EReal ×ₗ ℕ := toLex (D a, a)

theorem nodeKey_lt (D : ℕ → EReal) (a b : ℕ) : nodeKey D a < nodeKey D b ↔ D a < D b ∨ D a = D b ∧ a < b :=
  Prod.Lex.toLex_lt_toLex

theorem nodeKey_inj (D : ℕ → EReal) (a b : ℕ) (h : nodeKey D a = nodeKey D b) : a = b :=
  (Prod.mk.inj (toLex.injective h)).2

/-- `f` lists the eight nearest nodes of `S`, nearest first, ties by number. -/
structure IsBest (D : ℕ → EReal) (S : ℕ → Prop) (f : Fin 8 → ℕ) : Prop where
  mem : ∀ k, S (f k)
  mono : ∀ i j, i < j → nodeKey D (f i) < nodeKey D (f j)
  rest : ∀ a, S a → (∀ k, f k ≠ a) → nodeKey D (f 7) < nodeKey D a

theorem IsBest.le_last {D : ℕ → EReal} {S : ℕ → Prop} {f : Fin 8 → ℕ} (h : IsBest D S f) (k : Fin 8) :
    nodeKey D (f k) ≤ nodeKey D (f 7) := by
  rcases lt_or_eq_of_le (Fin.le_last k) with h1 | h1
  · exact (h.mono k 7 h1).le
  · exact le_of_eq (congrArg (fun k => nodeKey D (f k)) h1)

theorem IsBest.inj {D : ℕ → EReal} {S : ℕ → Prop} {f : Fin 8 → ℕ} (h : IsBest D S f) : Function.Injective f := fun i j e => by
  rcases lt_trichotomy i j with h1 | h1 | h1
  · exact absurd (h.mono i j h1) (by rw [e]; exact lt_irrefl _)
  · exact h1
  · exact absurd (h.mono j i h1) (by rw [e]; exact lt_irrefl _)

theorem IsBest.D_le_last {D : ℕ → EReal} {S : ℕ → Prop} {f : Fin 8 → ℕ} (h : IsBest D S f) (k : Fin 8) : D (f k) ≤ D (f 7) := by
  have := h.le_last k
  rcases lt_or_eq_of_le this with h1 | h1
  · rcases (nodeKey_lt _ _ _).1 h1 with h2 | h2
    · exact h2.le
    · exact h2.1.le
  · rw [nodeKey_inj _ _ _ h1]

/-- The eight nearest are one list. -/
theorem IsBest.unique {D : ℕ → EReal} {S : ℕ → Prop} {f g : Fin 8 → ℕ} (hf : IsBest D S f) (hg : IsBest D S g) : f = g := by
  classical
  have sub : ∀ {f g : Fin 8 → ℕ}, IsBest D S f → IsBest D S g → Finset.univ.image g ⊆ Finset.univ.image f := by
    intro f g hf hg a ha
    by_contra hna
    have hcf : (Finset.univ.image f).card = 8 := by rw [Finset.card_image_of_injective _ hf.inj]; rfl
    have hcg : (Finset.univ.image g).card = 8 := by rw [Finset.card_image_of_injective _ hg.inj]; rfl
    obtain ⟨k, -, rfl⟩ := Finset.mem_image.1 ha
    have h1 : nodeKey D (f 7) < nodeKey D (g k) := hf.rest _ (hg.mem k) fun j e => hna (Finset.mem_image.2 ⟨j, Finset.mem_univ _, e⟩)
    have hex : ∃ b ∈ Finset.univ.image f, b ∉ Finset.univ.image g := by
      by_contra hno
      push Not at hno
      exact hna ((Finset.eq_of_subset_of_card_le hno (by omega)).symm ▸ ha)
    obtain ⟨b, hb, hbg⟩ := hex
    obtain ⟨j, -, rfl⟩ := Finset.mem_image.1 hb
    have h2 : nodeKey D (g 7) < nodeKey D (f j) := hg.rest _ (hf.mem j) fun i e => hbg (Finset.mem_image.2 ⟨i, Finset.mem_univ _, e⟩)
    exact absurd (((hf.le_last j).trans_lt h1).trans_le (hg.le_last k)) (not_lt.2 h2.le)
  have hset : Finset.univ.image f = Finset.univ.image g := Finset.Subset.antisymm (sub hg hf) (sub hf hg)
  have hm : ∀ {f : Fin 8 → ℕ}, IsBest D S f → StrictMono fun k => nodeKey D (f k) := fun h => fun i j hij => h.mono i j hij
  have hr : Set.range (fun k => nodeKey D (f k)) = Set.range (fun k => nodeKey D (g k)) := by
    have e : ∀ f : Fin 8 → ℕ, Set.range (fun k => nodeKey D (f k)) = nodeKey D '' ((Finset.univ.image f : Finset ℕ) : Set ℕ) := by
      intro f; ext y; simp
    rw [e f, e g, hset]
  have := (StrictMono.range_inj (hm hf) (hm hg)).1 hr
  funext k
  exact nodeKey_inj _ _ _ (congrFun this k)

/-! ## One block -/

/-- What the eight slots hold after the first `N` nodes: nothing yet, or the eight nearest of them. -/
def Holds (D : ℕ → EReal) (N : ℕ) (T I : Fin 8 → EReal) : Prop :=
  (N = 0 ∧ ∀ k, T k = ⊤) ∨
    ∃ f, IsBest D (· < N) f ∧ ∀ k, D (f k) < ⊤ ∧ T k = D (f k) ∧ I k = ((f k : ℝ) : EReal)

/-- The columns of the eight slots, and of the eight entries taken out of the block. -/
abbrev lo (k : Fin 8) : Fin 16 := ⟨k.val, by omega⟩
abbrev hi (k : Fin 8) : Fin 16 := ⟨8 + k.val, by omega⟩

theorem lo_or_hi (c : Fin 16) : (∃ k, c = lo k) ∨ ∃ k, c = hi k := by
  by_cases h : c.val < 8
  · exact Or.inl ⟨⟨c.val, h⟩, rfl⟩
  · exact Or.inr ⟨⟨c.val - 8, by omega⟩, Fin.ext (by show c.val = 8 + (c.val - 8); omega)⟩

section Step

variable (D : ℕ → EReal) (b : ℕ) (d : Fin 2048 → EReal) (hd : ∀ c, d c = D (b + c.val)) (hfin : ∀ c, d c < ⊤)
  (T I : Fin 8 → EReal) (g : ℕ → Prop)
  (hg : ∀ j < 8, ¬ g j → (Finset.univ.filter fun c => d c < T 7).card ≤ j)

include hfin in
theorem all_fin (K : ℕ) (hK : K ≤ 2048) : K ≤ (Finset.univ.filter fun c => d c < ⊤).card := by
  rw [Finset.filter_true_of_mem fun c _ => hfin c, Finset.card_univ, Fintype.card_fin]; exact hK

include hfin hg in
theorem first_all (hT : ∀ k, T k = ⊤) (j : ℕ) (hj : j < 8) : g j := by
  by_contra h
  have := hg j hj h
  rw [hT 7] at this
  have h2 := all_fin d hfin 8 (by omega)
  omega

include hd hfin hg in
/-- A node of the block that was not taken out, some entry not having been taken, is no nearer than the last slot. -/
theorem far (j : ℕ) (hj : j < 8) (hnj : ¬ g j) (c : Fin 2048) (hc : ∀ i < j, pk d i ≠ c) : T 7 ≤ d c := by
  classical
  by_contra hlt
  rw [not_le] at hlt
  have hall := all_fin d hfin 8 (by omega)
  have hinj : Set.InjOn (pk d) (Finset.range j : Finset ℕ) := by
    intro a ha b' hb e
    have ha' : a < j := by simpa using ha
    have hb' : b' < j := by simpa using hb
    rcases lt_trichotomy a b' with h1 | h1 | h1
    · exact absurd e (pk_new d 8 hall a b' h1 (by omega))
    · exact h1
    · exact absurd e.symm (pk_new d 8 hall b' a h1 (by omega))
  have hsub : insert c ((Finset.range j).image (pk d)) ⊆ Finset.univ.filter fun c => d c < T 7 := by
    intro x hx
    refine Finset.mem_filter.2 ⟨Finset.mem_univ _, ?_⟩
    rcases Finset.mem_insert.1 hx with rfl | hx
    · exact hlt
    · obtain ⟨i, hi, rfl⟩ := Finset.mem_image.1 hx
      have hi' : i < j := Finset.mem_range.1 hi
      rcases (colKey_lt _ _ _).1 (pk_before d 8 hall i (by omega) c fun l hl => hc l (by omega)) with h | h
      · exact h.trans hlt
      · exact h.1 ▸ hlt
  have hcard := Finset.card_le_card hsub
  rw [Finset.card_insert_of_notMem, Finset.card_image_of_injOn hinj, Finset.card_range] at hcard
  · have := hg j hj hnj
    omega
  · intro hx
    obtain ⟨i, hi, e⟩ := Finset.mem_image.1 hx
    exact hc i (Finset.mem_range.1 hi) e

include hd hfin hg in
/-- No entry of the block was taken out: the slots hold the eight nearest still. -/
theorem holds_skip (h : Holds D b T I) (h0 : ¬ g 0) : Holds D (b + 2048) T I := by
  rcases h with ⟨-, hT⟩ | ⟨f, hf, hk⟩
  · exact absurd (first_all d hfin T g hg hT 0 (by omega)) h0
  · refine Or.inr ⟨f, ⟨fun k => ?_, hf.mono, fun a ha hne => ?_⟩, hk⟩
    · have := hf.mem k; omega
    · by_cases hab : a < b
      · exact hf.rest a hab hne
      · have hc : a - b < 2048 := by omega
        have hfar := far D b d hd hfin T g hg 0 (by omega) h0 ⟨a - b, hc⟩ (by omega)
        rw [hd, (hk 7).2.1, show b + (a - b) = a by omega] at hfar
        refine (nodeKey_lt _ _ _).2 ?_
        rcases lt_or_eq_of_le hfar with h1 | h1
        · exact Or.inl h1
        · exact Or.inr ⟨h1, by have := hf.mem 7; omega⟩

variable (u x : Fin 16 → EReal)

include hd hfin hg in
/-- The slots joined with the entries taken out of the block: the eight least of the sixteen are the eight nearest of all
    the nodes so far. -/
theorem holds_merge (h : Holds D b T I) (h0 : g 0) (hul : ∀ k, u (lo k) = T k) (hxl : ∀ k, x (lo k) = I k)
    (huh : ∀ k : Fin 8, g k.val → u (hi k) = d (pk d k.val)) (huh' : ∀ k : Fin 8, ¬ g k.val → u (hi k) = ⊤)
    (hxh : ∀ k : Fin 8, g k.val → x (hi k) = (((b + (pk d k.val).val : ℕ) : ℝ) : EReal)) :
    Holds D (b + 2048) (fun k => ext u k.val (pk u k.val)) (fun k => x (pk u k.val)) := by
  classical
  have hall := all_fin d hfin 8 (by omega)
  -- the labels
  obtain ⟨f, hold⟩ : ∃ f : Fin 8 → ℕ, (b = 0 ∧ ∀ k, T k = ⊤) ∨
      (IsBest D (· < b) f ∧ ∀ k, D (f k) < ⊤ ∧ T k = D (f k) ∧ I k = ((f k : ℝ) : EReal)) := by
    rcases h with h | ⟨f, hf⟩
    · exact ⟨fun _ => 0, Or.inl h⟩
    · exact ⟨f, Or.inr hf⟩
  let ν : Fin 16 → ℕ := fun c => if hc : c.val < 8 then f ⟨c.val, hc⟩ else b + (pk d (c.val - 8)).val
  have νlo : ∀ k, ν (lo k) = f k := fun k => dif_pos k.isLt
  have νhi : ∀ k, ν (hi k) = b + (pk d k.val).val := fun k => by
    show (if hc : 8 + k.val < 8 then f ⟨8 + k.val, hc⟩ else b + (pk d (8 + k.val - 8)).val) = _
    rw [dif_neg (by omega), Nat.add_sub_cancel_left]
  have lofin : ∀ k, u (lo k) < ⊤ → (IsBest D (· < b) f ∧ ∀ k, D (f k) < ⊤ ∧ T k = D (f k) ∧ I k = ((f k : ℝ) : EReal)) := by
    intro k hk
    rcases hold with ⟨-, hT⟩ | hold
    · rw [hul, hT] at hk; exact absurd hk (lt_irrefl _)
    · exact hold
  have hifin : ∀ k, u (hi k) < ⊤ → g k.val := fun k hk => by
    by_contra hn
    rw [huh' k hn] at hk; exact lt_irrefl _ hk
  have val : ∀ c, u c < ⊤ → u c = D (ν c) ∧ x c = ((ν c : ℝ) : EReal) ∧ ν c < b + 2048 := by
    intro c hc
    rcases lo_or_hi c with ⟨k, rfl⟩ | ⟨k, rfl⟩
    · obtain ⟨hf, hk⟩ := lofin k hc
      rw [νlo, hul, hxl]
      have := hf.mem k
      exact ⟨(hk k).2.1, (hk k).2.2, by omega⟩
    · have hgk := hifin k hc
      rw [νhi, huh k hgk, hxh k hgk, hd]
      have := (pk d k.val).isLt
      exact ⟨rfl, rfl, by omega⟩
  have tie : ∀ c c', u c < ⊤ → u c' < ⊤ → c < c' → u c = u c' → ν c < ν c' := by
    intro c c' hc hc' hlt he
    rcases lo_or_hi c with ⟨k, rfl⟩ | ⟨k, rfl⟩ <;> rcases lo_or_hi c' with ⟨k', rfl⟩ | ⟨k', rfl⟩
    · obtain ⟨hf, hk⟩ := lofin k hc
      rw [νlo, νlo]
      have hkk : k < k' := hlt
      rcases (nodeKey_lt _ _ _).1 (hf.mono k k' hkk) with h1 | h1
      · rw [hul, hul, (hk k).2.1, (hk k').2.1] at he
        exact absurd h1 (he ▸ lt_irrefl _)
      · exact h1.2
    · obtain ⟨hf, hk⟩ := lofin k hc
      rw [νlo, νhi]
      have := hf.mem k
      omega
    · exact absurd (show 8 + k.val < k'.val from hlt) (by omega)
    · have hkk : k.val < k'.val := by have : 8 + k.val < 8 + k'.val := hlt; omega
      rw [νhi, νhi]
      rcases (colKey_lt _ _ _).1 (pk_mono d 8 hall k.val k'.val hkk k'.isLt) with h1 | h1
      · rw [huh k (hifin k hc), huh k' (hifin k' hc')] at he
        exact absurd h1 (he ▸ lt_irrefl _)
      · have : (pk d k.val).val < (pk d k'.val).val := h1.2
        omega
  have key : ∀ c c', u c < ⊤ → u c' < ⊤ → colKey u c < colKey u c' → nodeKey D (ν c) < nodeKey D (ν c') := by
    intro c c' hc hc' hlt
    refine (nodeKey_lt _ _ _).2 ?_
    rw [← (val c hc).1, ← (val c' hc').1]
    rcases (colKey_lt _ _ _).1 hlt with h1 | h1
    · exact Or.inl h1
    · exact Or.inr ⟨h1.1, tie c c' hc hc' h1.2 h1.1⟩
  -- at least eight finite columns
  have oldfin : (IsBest D (· < b) f ∧ ∀ k, D (f k) < ⊤ ∧ T k = D (f k) ∧ I k = ((f k : ℝ) : EReal)) → ∀ k, u (lo k) < ⊤ :=
    fun ho k => by rw [hul, (ho.2 k).2.1]; exact (ho.2 k).1
  have newfin : (∀ j < 8, g j) → ∀ k, u (hi k) < ⊤ := fun hn k => by rw [huh k (hn k.val k.isLt)]; exact hfin _
  have loinj : Function.Injective lo := fun a b e => Fin.ext (Fin.mk.inj e)
  have hiinj : Function.Injective hi := fun a b e => Fin.ext (by have := Fin.mk.inj e; omega)
  have count : 8 ≤ (Finset.univ.filter fun c => u c < ⊤).card := by
    rcases hold with ⟨-, hT⟩ | ho
    · have := newfin (first_all d hfin T g hg hT)
      have hs : Finset.univ.image hi ⊆ Finset.univ.filter fun c => u c < ⊤ := fun c hc => by
        obtain ⟨k, -, rfl⟩ := Finset.mem_image.1 hc
        exact Finset.mem_filter.2 ⟨Finset.mem_univ _, this k⟩
      have := Finset.card_le_card hs
      rwa [Finset.card_image_of_injective _ hiinj, Finset.card_univ, Fintype.card_fin] at this
    · have := oldfin ho
      have hs : Finset.univ.image lo ⊆ Finset.univ.filter fun c => u c < ⊤ := fun c hc => by
        obtain ⟨k, -, rfl⟩ := Finset.mem_image.1 hc
        exact Finset.mem_filter.2 ⟨Finset.mem_univ _, this k⟩
      have := Finset.card_le_card hs
      rwa [Finset.card_image_of_injective _ loinj, Finset.card_univ, Fintype.card_fin] at this
  have pf := fun k (hk : k < 8) => pk_fin u 8 count k hk
  refine Or.inr ⟨fun k => ν (pk u k.val), ⟨fun k => (val _ (pf k.val k.isLt)).2.2, fun i j hij => ?_, fun a ha hne => ?_⟩,
    fun k => ?_⟩
  · exact key _ _ (pf _ i.isLt) (pf _ j.isLt) (pk_mono u 8 count i.val j.val hij j.isLt)
  · -- a node that is not among the eight least
    have lab : ∀ c, u c < ⊤ → ν c = a → nodeKey D (ν (pk u 7)) < nodeKey D a := by
      intro c hc e
      rw [← e]
      refine key _ _ (pf 7 (by omega)) hc (pk_before u 8 count 7 (by omega) c fun j hj e' => ?_)
      exact hne ⟨j, by omega⟩ (by show ν (pk u j) = a; rw [e', e])
    have eight : ∀ A : Fin 8 → Fin 16, Function.Injective A → (∀ i, u (A i) < ⊤) → (∀ i, nodeKey D (ν (A i)) < nodeKey D a) →
        nodeKey D (ν (pk u 7)) < nodeKey D a := by
      intro A hA hAf hAk
      have : ∃ i, ∀ j < 7, pk u j ≠ A i := by
        by_contra hno
        push Not at hno
        have hs : Finset.univ.image A ⊆ (Finset.range 7).image (pk u) := fun c hc => by
          obtain ⟨i, -, rfl⟩ := Finset.mem_image.1 hc
          obtain ⟨j, hj, e⟩ := hno i
          exact Finset.mem_image.2 ⟨j, Finset.mem_range.2 hj, e⟩
        have := (Finset.card_le_card hs).trans Finset.card_image_le
        rw [Finset.card_image_of_injective _ hA, Finset.card_univ, Fintype.card_fin, Finset.card_range] at this
        omega
      obtain ⟨i, hi'⟩ := this
      by_cases e : pk u 7 = A i
      · rw [e]; exact hAk i
      · refine (key _ _ (pf 7 (by omega)) (hAf i) (pk_before u 8 count 7 (by omega) _ fun j hj => ?_)).trans (hAk i)
        rcases Nat.lt_or_ge j 7 with h1 | h1
        · exact hi' j h1
        · obtain rfl : j = 7 := by omega
          exact e
    by_cases hab : a < b
    · rcases hold with ⟨hb, -⟩ | ho
      · omega
      · by_cases hin : ∃ k, f k = a
        · obtain ⟨k, rfl⟩ := hin
          exact lab (lo k) (oldfin ho k) (νlo k)
        · push Not at hin
          exact eight lo loinj (oldfin ho) fun i => by
            rw [νlo]; exact (ho.1.le_last i).trans_lt (ho.1.rest a hab hin)
    · have hc : a - b < 2048 := by have : a < b + 2048 := ha; omega
      have ea : a = b + (a - b) := by omega
      by_cases hgall : ∀ j < 8, g j
      · by_cases hin : ∃ k : Fin 8, pk d k.val = ⟨a - b, hc⟩
        · obtain ⟨k, e⟩ := hin
          exact lab (hi k) (newfin hgall k) (by rw [νhi, e]; exact ea.symm)
        · push Not at hin
          refine eight hi hiinj (newfin hgall) fun i => ?_
          rw [νhi]
          have hb := pk_before d 8 hall i.val i.isLt ⟨a - b, hc⟩ fun j hj => hin ⟨j, by omega⟩
          refine (nodeKey_lt _ _ _).2 ?_
          rw [show D a = d ⟨a - b, hc⟩ by rw [hd]; exact congrArg D ea, ← hd]
          rcases (colKey_lt _ _ _).1 hb with h1 | h1
          · exact Or.inl h1
          · refine Or.inr ⟨h1.1, ?_⟩
            have : (pk d i.val).val < a - b := h1.2
            omega
      · rcases hold with ⟨-, hT⟩ | ho
        · exact absurd (first_all d hfin T g hg hT) hgall
        · have hex : ∃ j, j < 8 ∧ ¬ g j := by push Not at hgall; obtain ⟨j, h1, h2⟩ := hgall; exact ⟨j, h1, h2⟩
          obtain ⟨hj, hnj⟩ := Nat.find_spec hex
          have hmin : ∀ i < Nat.find hex, g i := fun i hi' => by
            by_contra hn
            exact Nat.find_min hex hi' ⟨by omega, hn⟩
          by_cases hin : ∃ i < Nat.find hex, pk d i = ⟨a - b, hc⟩
          · obtain ⟨i, hi', e⟩ := hin
            have hi8 : i < 8 := by omega
            refine lab (hi ⟨i, hi8⟩) ?_ (by rw [νhi]; show b + (pk d i).val = a; rw [e]; exact ea.symm)
            rw [huh ⟨i, hi8⟩ (hmin i hi')]; exact hfin _
          · push Not at hin
            have hfar := far D b d hd hfin T g hg _ hj hnj ⟨a - b, hc⟩ hin
            refine eight lo loinj (oldfin ho) fun i => ?_
            rw [νlo]
            have h7 : D (f i) ≤ D a := (ho.1.D_le_last i).trans (by
              rw [← (ho.2 7).2.1, show D a = d ⟨a - b, hc⟩ by rw [hd]; exact congrArg D ea]; exact hfar)
            refine (nodeKey_lt _ _ _).2 ?_
            have := ho.1.mem i
            rcases lt_or_eq_of_le h7 with h1 | h1
            · exact Or.inl h1
            · exact Or.inr ⟨h1, by omega⟩
  · have hk := pf k.val k.isLt
    have hv := val _ hk
    refine ⟨hv.1 ▸ hk, ?_, hv.2.1⟩
    show ext u k.val (pk u k.val) = _
    rw [pk_ext u 8 count k.val k.isLt, hv.1]

end Step

/-- Nodes farther than every node below `M` are never among the eight nearest, eight nodes lying below `M`. -/
theorem IsBest.drop {D : ℕ → EReal} {N M : ℕ} {f : Fin 8 → ℕ} (h : IsBest D (· < N) f) (hM : 8 < M) (hMN : M ≤ N)
    (hfar : ∀ a, a < M → ∀ b, M ≤ b → b < N → D a < D b) : IsBest D (· < M) f := by
  classical
  refine ⟨fun k => ?_, h.mono, fun a ha => h.rest a (lt_of_lt_of_le ha hMN)⟩
  by_contra hk
  have hs : Finset.range M ⊆ Finset.univ.image f := fun a ha => by
    have ha' : a < M := Finset.mem_range.1 ha
    by_contra hn
    have h1 := h.rest a (lt_of_lt_of_le ha' hMN) fun j e => hn (Finset.mem_image.2 ⟨j, Finset.mem_univ _, e⟩)
    have h2 : nodeKey D a < nodeKey D (f k) := (nodeKey_lt _ _ _).2 (Or.inl (hfar a ha' (f k) (not_lt.1 hk) (h.mem k)))
    exact absurd (h2.trans_le (h.le_last k)) (not_lt.2 h1.le)
  have := (Finset.card_le_card hs).trans Finset.card_image_le
  rw [Finset.card_range, Finset.card_univ, Fintype.card_fin] at this
  omega

end Cert.Proof.TopEight

end
-- ==== Proof.KernelPay.lean ====
/-
  The top-8 body's stored values, read at an index over the extended reals.
-/
module

public import proofs.«01_k».proof.Proof.Gen.KernelIdeal.Skeleton
public import proofs.«01_k».proof.Proof.TopEight
public import Idealize.ShloMosaic.Lib.Pointwise
public import Idealize.ShloMosaic.Lib.ValueIdx
public import Idealize.ShloMosaic.PureOps.Ideal

@[expose] public section

noncomputable section

namespace Cert.Proof.KernelPay

open Cert.KernelIdeal Cert.KernelIdeal.Gen
open Idealize.ShloMosaic
open Cert.Proof.TopEight

/-! ## Constants -/

theorem f_inf : Ideal.ofBits FTy.f32 0x7F800000#32 = ⊤ := by simp [Ideal.ofBits, Ideal.ieee]
theorem f_ninf : Ideal.ofBits FTy.f32 0xFF800000#32 = ⊥ := by simp [Ideal.ofBits, Ideal.ieee]
theorem f_big : Ideal.ofBits FTy.f32 0x4E6E6B28#32 = ((1000000000 : ℝ) : EReal) := by
  simp [Ideal.ofBits, Ideal.ieee, -EReal.coe_mul]; norm_num
theorem f_two : Ideal.ofBits FTy.f32 0x40000000#32 = ((2 : ℝ) : EReal) := by
  simp [Ideal.ofBits, Ideal.ieee, -EReal.coe_mul]; norm_num
theorem f_three : Ideal.ofBits FTy.f32 0x40400000#32 = ((3 : ℝ) : EReal) := by
  simp [Ideal.ofBits, Ideal.ieee, -EReal.coe_mul]; norm_num
theorem f_four : Ideal.ofBits FTy.f32 0x40800000#32 = ((4 : ℝ) : EReal) := by
  simp [Ideal.ofBits, Ideal.ieee, -EReal.coe_mul]; norm_num
theorem f_five : Ideal.ofBits FTy.f32 0x40A00000#32 = ((5 : ℝ) : EReal) := by
  simp [Ideal.ofBits, Ideal.ieee, -EReal.coe_mul]; norm_num
theorem f_six : Ideal.ofBits FTy.f32 0x40C00000#32 = ((6 : ℝ) : EReal) := by
  simp [Ideal.ofBits, Ideal.ieee, -EReal.coe_mul]; norm_num
theorem f_seven : Ideal.ofBits FTy.f32 0x40E00000#32 = ((7 : ℝ) : EReal) := by
  simp [Ideal.ofBits, Ideal.ieee, -EReal.coe_mul]; norm_num
theorem f_eps : Ideal.ofBits FTy.f32 0x322BCC77#32 = (((11258999 : ℝ) / 2 ^ 50 : ℝ) : EReal) := by
  simp [Ideal.ofBits, Ideal.ieee, -EReal.coe_mul]; norm_num
theorem f_mil : Ideal.ofBits FTy.f32 0x49742400#32 = ((1000000 : ℝ) : EReal) := by
  simp [Ideal.ofBits, Ideal.ieee, -EReal.coe_mul]; norm_num
theorem f_hun : Ideal.ofBits FTy.f32 0x47C35000#32 = ((100000 : ℝ) : EReal) := by
  simp [Ideal.ofBits, Ideal.ieee, -EReal.coe_mul]; norm_num

theorem toInt_ofNat (c : ℕ) (h : c < 2 ^ 31) : (BitVec.ofNat 32 c).toInt = c := by
  rw [BitVec.toInt_eq_toNat_of_lt (by rw [BitVec.toNat_ofNat]; omega), BitVec.toNat_ofNat]
  congr 1
  omega

theorem sitofp_ofNat (c : ℕ) (h : c < 2 ^ 31) : FloatOps.sitofp (F := Ideal) FTy.f32 (BitVec.ofNat 32 c) = ((c : ℝ) : EReal) := by
  show (((BitVec.ofNat 32 c).toInt : ℝ) : EReal) = _
  rw [toInt_ofNat c h]
  norm_num

theorem base_eq (c : ℕ) (h : c < 49) : (((Scalar.muli (BitVec.ofNat 32 c) 2048#32).toInt : ℝ) : EReal) = ((2048 * c : ℕ) : ℝ) := by
  have e : Scalar.muli (BitVec.ofNat 32 c) 2048#32 = BitVec.ofNat 32 (2048 * c) := by
    show BitVec.ofNat 32 c * BitVec.ofNat 32 2048 = _
    rw [← BitVec.ofNat_mul, Nat.mul_comm]
  rw [e, toInt_ofNat _ (by omega)]
  norm_num

/-! ## The least entry and the first column holding it -/

section Row
variable {n : ℕ} [NeZero n] (hn : n ≤ 2048)

theorem fold_min (v : Fin n → EReal) : Finset.fold min (⊤ : EReal) v Finset.univ = v (pick v) :=
  le_antisymm ((Finset.fold_min_le _).2 (Or.inr ⟨pick v, Finset.mem_univ _, le_rfl⟩))
    ((Finset.le_fold_min _).2 ⟨le_top, fun c _ => pick_le v c⟩)

/-- The column where the row's least entry stands, a number larger than any column elsewhere. -/
def cand (v : Fin n → EReal) (c : Fin n) : EReal :=
  if v c = v (pick v) then FloatOps.sitofp (F := Ideal) FTy.f32 (BitVec.ofNat 32 c.val) else Ideal.ofBits FTy.f32 0x4E6E6B28#32

include hn

theorem cand_eq (v : Fin n → EReal) (c : Fin n) : cand v c = if v c = v (pick v) then ((c.val : ℝ) : EReal) else ((1000000000 : ℝ) : EReal) := by
  unfold cand
  rw [sitofp_ofNat _ (by omega), f_big]

theorem pick_le_cand (v : Fin n → EReal) (c : Fin n) : (((pick v).val : ℝ) : EReal) ≤ cand v c := by
  rw [cand_eq hn]
  have hp := (pick v).isLt
  split
  next h => exact EReal.coe_le_coe_iff.2 (Nat.cast_le.2 (pick_first v c h))
  next h =>
    refine EReal.coe_le_coe_iff.2 ?_
    have : ((pick v).val : ℝ) ≤ (2048 : ℕ) := Nat.cast_le.2 (by omega)
    norm_num at this ⊢
    linarith

theorem fold_cand (v : Fin n → EReal) : Finset.fold min (⊤ : EReal) (cand v) Finset.univ = (((pick v).val : ℝ) : EReal) := by
  refine le_antisymm ((Finset.fold_min_le _).2 (Or.inr ⟨pick v, Finset.mem_univ _, ?_⟩))
    ((Finset.le_fold_min _).2 ⟨le_top, fun c _ => pick_le_cand hn v c⟩)
  rw [cand_eq hn, if_pos rfl]

theorem cand_eq_pick (v : Fin n → EReal) (c : Fin n) : cand v c = (((pick v).val : ℝ) : EReal) ↔ c = pick v := by
  rw [cand_eq hn]
  constructor
  · intro h
    have hp := (pick v).isLt
    split at h
    · exact Fin.ext (Nat.cast_injective (EReal.coe_injective h))
    · exfalso
      have h1 : (1000000000 : ℝ) = ((pick v).val : ℝ) := EReal.coe_injective h
      have : ((pick v).val : ℝ) ≤ (2048 : ℕ) := Nat.cast_le.2 (by omega)
      rw [← h1] at this
      norm_num at this
  · rintro rfl
    rw [if_pos rfl]

end Row

/-- A row of a matrix. -/
abbrev row {m n : ℕ} (v : (⟨2, ![m, n]⟩ : Shape).Idx → EReal) (r : Fin m) : Fin n → EReal := fun c => v (ix2 r c)

/-! ## One entry taken out of the distances -/

section Take
variable (v : FVec Ideal S512x2048 .f32) (r : Fin 512)

theorem min_apply : k0_pay65 (F := Ideal) v (ix2 r (0 : Fin 1)) = row v r (pick (row v r)) := by
  rw [← fold_min (row v r), ← f_inf]
  pointwise [k0_pay65, k0_pay62]

theorem idx_apply (a : ℕ) (ha : a < 49) :
    k0_pay66 (F := Ideal) (BitVec.ofNat 32 a) v (ix2 r (0 : Fin 1)) = (((2048 * a + (pick (row v r)).val : ℕ) : ℝ) : EReal) := by
  have e : ∀ b : BitVec 32, k0_pay66 (F := Ideal) b v (ix2 r (0 : Fin 1))
      = Finset.fold min (⊤ : EReal) (cand (row v r)) Finset.univ + (((Scalar.muli b 2048#32).toInt : ℝ) : EReal) := by
    intro b
    unfold cand
    rw [← fold_min (row v r), ← f_inf]
    pointwise [k0_pay66, k0_pay61, k0_pay64, k0_pay63, k0_pay60, k0_pay62]
  rw [e, fold_cand le_rfl, base_eq a ha, ← EReal.coe_add]
  congr 1
  push_cast
  ring

theorem next_apply (c : Fin 2048) : k0_pay67 (F := Ideal) v (ix2 r c) = if c = pick (row v r) then ⊤ else v (ix2 r c) := by
  have e : k0_pay67 (F := Ideal) v (ix2 r c)
      = if cand (row v r) c = Finset.fold min (⊤ : EReal) (cand (row v r)) Finset.univ then ⊤ else v (ix2 r c) := by
    unfold cand
    rw [← fold_min (row v r), ← f_inf]
    pointwise [k0_pay67, k0_pay64, k0_pay63, k0_pay60, k0_pay62]
  rw [e, fold_cand le_rfl]
  exact if_congr (cand_eq_pick le_rfl _ _) rfl rfl

end Take

/-! ## One entry taken out of the sixteen candidates -/

section Merge
variable (v x : FVec Ideal S512x16 .f32) (r : Fin 512)

/-- The number no column reaches. -/
abbrev big : Ideal .f32 := Scalar.ofBits .f32 0x4E6E6B28#32

theorem mmin_apply : k0_pay20 (F := Ideal) v (ix2 r (0 : Fin 1)) = row v r (pick (row v r)) := by
  rw [← fold_min (row v r), ← f_inf]
  pointwise [k0_pay20]

theorem midx_apply : k0_pay22 (F := Ideal) big v x (ix2 r (0 : Fin 1)) = row x r (pick (row v r)) := by
  have e : k0_pay22 (F := Ideal) big v x (ix2 r (0 : Fin 1))
      = ∑ c, if cand (row v r) c = Finset.fold min (⊤ : EReal) (cand (row v r)) Finset.univ then row x r c else 0 := by
    unfold cand
    rw [← fold_min (row v r), ← f_inf]
    pointwise [k0_pay22, k0_pay21, k0_pay20, k0_pay19, big]
  rw [e, fold_cand (by norm_num)]
  simp only [cand_eq_pick (by norm_num : 16 ≤ 2048)]
  rw [Finset.sum_ite_eq' Finset.univ (pick (row v r)) (row x r), if_pos (Finset.mem_univ _)]

theorem mnext_apply (c : Fin 16) : k0_pay23 (F := Ideal) big v (ix2 r c) = if c = pick (row v r) then ⊤ else v (ix2 r c) := by
  have e : k0_pay23 (F := Ideal) big v (ix2 r c)
      = if cand (row v r) c = Finset.fold min (⊤ : EReal) (cand (row v r)) Finset.univ then ⊤ else v (ix2 r c) := by
    unfold cand
    rw [← fold_min (row v r), ← f_inf]
    pointwise [k0_pay23, k0_pay21, k0_pay20, k0_pay19, big]
  rw [e, fold_cand (by norm_num)]
  exact if_congr (cand_eq_pick (by norm_num) _ _) rfl rfl

/-- The candidates after `k` entries have been taken out. -/
def left : ℕ → FVec Ideal S512x16 .f32
  | 0 => v
  | k + 1 => k0_pay23 (F := Ideal) big (left k)

theorem left_apply (k : ℕ) : row (left v k) r = ext (row v r) k := by
  induction k with
  | zero => rfl
  | succ k ih =>
    funext c
    show k0_pay23 (F := Ideal) big (left v k) (ix2 r c) = if c = pick (ext (row v r) k) then ⊤ else ext (row v r) k c
    rw [mnext_apply, ih]
    exact congrArg (fun z => if c = pick (ext (row v r) k) then ⊤ else z) (congrFun ih c)

/-- The eight least distances, least first. -/
def bestVal : FVec Ideal S512x8 .f32 :=
  k0_pay16 (k0_pay20 (left v 0)) (k0_pay20 (left v 1)) (k0_pay20 (left v 2)) (k0_pay20 (left v 3)) (k0_pay20 (left v 4)) (k0_pay20 (left v 5))
    (k0_pay20 (left v 6)) (k0_pay20 (left v 7))

/-- The numbers standing with them. -/
def bestIdx : FVec Ideal S512x8 .f32 :=
  k0_pay16 (k0_pay22 big (left v 0) x) (k0_pay22 big (left v 1) x) (k0_pay22 big (left v 2) x) (k0_pay22 big (left v 3) x)
    (k0_pay22 big (left v 4) x) (k0_pay22 big (left v 5) x) (k0_pay22 big (left v 6) x) (k0_pay22 big (left v 7) x)

theorem cat_apply (f : ℕ → FVec Ideal S512x1 .f32) (k : Fin 8) :
    k0_pay16 (F := Ideal) (f 0) (f 1) (f 2) (f 3) (f 4) (f 5) (f 6) (f 7) (ix2 r k) = f k.val (ix2 r (0 : Fin 1)) := by
  pointwise [k0_pay16]
  fin_cases k <;> rfl

theorem bestVal_apply (k : Fin 8) : bestVal v (ix2 r k) = ext (row v r) k.val (pk (row v r) k.val) :=
  (cat_apply r (fun k => k0_pay20 (left v k)) k).trans ((mmin_apply _ r).trans (by rw [left_apply]))

theorem bestIdx_apply (k : Fin 8) : bestIdx v x (ix2 r k) = row x r (pk (row v r) k.val) :=
  (cat_apply r (fun k => k0_pay22 big (left v k) x) k).trans ((midx_apply _ x r).trans (by rw [left_apply]))

end Merge

end Cert.Proof.KernelPay

end
-- ==== Proof.KernelMid.lean ====
/-
  The state of the top-8 body between two of its steps, over the extended reals: which columns of the candidates hold
  what, and what each step makes of it.
-/
module

public import proofs.«01_k».proof.Proof.KernelPay
public import Idealize.ShloMosaic.Lib.VecWindow

@[expose] public section

noncomputable section

namespace Cert.Proof.KernelMid

open Cert.KernelIdeal Cert.KernelIdeal.Gen
open Idealize.ShloMosaic
open Cert.Proof.TopEight Cert.Proof.KernelPay

/-! ## Windows of the candidates -/

section Put
variable (x : S512x16.Idx → EReal) (r : Fin 512) (c : Fin 16)

theorem put1_same (col : ℕ) (w : S512x1.Idx → EReal) (h : c.val = col) :
    VecWindow.put x ![0, col] S512x1.size w (ix2 r c) = w (ix2 r (0 : Fin 1)) := by
  subst h
  unfold VecWindow.put
  rw [dif_pos (fun a => by
    fin_cases a
    · exact ⟨Nat.zero_le _, by show r.val < 0 + 512; omega⟩
    · exact ⟨le_rfl, by show c.val < c.val + 1; omega⟩)]
  congr 1
  funext a; fin_cases a
  · exact Fin.ext (by show r.val - 0 = r.val; omega)
  · exact Fin.ext (by show c.val - c.val = 0; omega)

theorem put1_ne (col : ℕ) (w : S512x1.Idx → EReal) (h : c.val ≠ col) :
    VecWindow.put x ![0, col] S512x1.size w (ix2 r c) = x (ix2 r c) := by
  unfold VecWindow.put
  rw [dif_neg fun hall => by
    have h1 : col ≤ c.val ∧ c.val < col + 1 := hall 1
    omega]

theorem put8_in (off : ℕ) (w : S512x8.Idx → EReal) (k : Fin 8) (h : c.val = off + k.val) :
    VecWindow.put x ![0, off] S512x8.size w (ix2 r c) = w (ix2 r k) := by
  unfold VecWindow.put
  rw [dif_pos (fun a => by
    fin_cases a
    · exact ⟨Nat.zero_le _, by show r.val < 0 + 512; omega⟩
    · exact ⟨by show off ≤ c.val; omega, by show c.val < off + 8; omega⟩)]
  congr 1
  funext a; fin_cases a
  · exact Fin.ext (by show r.val - 0 = r.val; omega)
  · exact Fin.ext (by show c.val - off = k.val; omega)

theorem put8_out (off : ℕ) (w : S512x8.Idx → EReal) (h : c.val < off ∨ off + 8 ≤ c.val) :
    VecWindow.put x ![0, off] S512x8.size w (ix2 r c) = x (ix2 r c) := by
  unfold VecWindow.put
  rw [dif_neg fun hall => by
    have h1 : off ≤ c.val ∧ c.val < off + 8 := hall 1
    omega]

theorem window1 (col : ℕ) (inb) (h : c.val = col) :
    VecWindow.window x ![0, col] S512x1.size inb (ix2 r (0 : Fin 1)) = x (ix2 r c) := by
  unfold VecWindow.window
  congr 1
  funext a; fin_cases a
  · exact Fin.ext (by show 0 + 1 * r.val = r.val; omega)
  · exact Fin.ext (by show col + 1 * 0 = c.val; omega)

theorem window8 (off : ℕ) (inb) (k : Fin 8) (h : c.val = off + k.val) :
    VecWindow.window x ![0, off] S512x8.size inb (ix2 r k) = x (ix2 r c) := by
  unfold VecWindow.window
  congr 1
  funext a; fin_cases a
  · exact Fin.ext (by show 0 + 1 * r.val = r.val; omega)
  · exact Fin.ext (by show off + 1 * k.val = c.val; omega)

end Put

/-! ## The conditions -/

/-- A step's condition: the largest count of a row exceeds a constant. -/
abbrev hit (m : Ideal .f32) (w : BitVec 32) : BitVec 1 :=
  Scalar.cmpi .ne (Scalar.extui (Scalar.cmpf (F := Ideal) .ogt m (Scalar.ofBits .f32 w)) : BitVec 32) 0#32

theorem hit_iff (m : Ideal .f32) (w : BitVec 32) : hit m w = 1#1 ↔ Ideal.ofBits FTy.f32 w < m := by
  show Scalar.cmpi .ne (Scalar.extui (BitVec.ofBool (decide (Ideal.ofBits FTy.f32 w < m))) : BitVec 32) 0#32 = 1#1 ↔ _
  by_cases h : Ideal.ofBits FTy.f32 w < m
  · rw [decide_eq_true h]; exact iff_of_true (by decide) h
  · rw [decide_eq_false h]; exact iff_of_false (by decide) h

/-- Some row has more than `j` entries below its bound. -/
def G (m : EReal) (j : ℕ) : Prop := ((j : ℝ) : EReal) < m

theorem G_anti (m : EReal) (j : ℕ) (h : G m (j + 1)) : G m j :=
  lt_of_le_of_lt (EReal.coe_le_coe_iff.2 (by norm_num)) h

theorem hit0 (m) : hit m 0x00000000#32 = 1#1 ↔ G m 0 := by
  rw [hit_iff, Ideal.ofBits_zero_f32]; unfold G; norm_num
theorem hit1 (m) : hit m 0x3F800000#32 = 1#1 ↔ G m 1 := by
  rw [hit_iff, Ideal.ofBits_one_f32]; unfold G; norm_num
theorem hit2 (m) : hit m 0x40000000#32 = 1#1 ↔ G m 2 := by rw [hit_iff, f_two]; unfold G; norm_num
theorem hit3 (m) : hit m 0x40400000#32 = 1#1 ↔ G m 3 := by rw [hit_iff, f_three]; unfold G; norm_num
theorem hit4 (m) : hit m 0x40800000#32 = 1#1 ↔ G m 4 := by rw [hit_iff, f_four]; unfold G; norm_num
theorem hit5 (m) : hit m 0x40A00000#32 = 1#1 ↔ G m 5 := by rw [hit_iff, f_five]; unfold G; norm_num
theorem hit6 (m) : hit m 0x40C00000#32 = 1#1 ↔ G m 6 := by rw [hit_iff, f_six]; unfold G; norm_num
theorem hit7 (m) : hit m 0x40E00000#32 = 1#1 ↔ G m 7 := by rw [hit_iff, f_seven]; unfold G; norm_num

theorem count_apply (c : FVec Ideal S512x64 .f32) (p : FVec Ideal S64x2048 .f32) (w : FVec Ideal S1x2048 .f32)
    (u : FVec Ideal S512x1 .f32) (r : Fin 512) : k0_pay57 (F := Ideal) c p w u (ix1 r)
      = ((((Finset.univ.filter fun x => row (k0_pay56 (F := Ideal) c p w) r x < u (ix2 r (0 : Fin 1))).card : ℕ) : ℝ) : EReal) := by
  have e : k0_pay57 (F := Ideal) c p w u (ix1 r)
      = ∑ x, if row (k0_pay56 (F := Ideal) c p w) r x < u (ix2 r (0 : Fin 1)) then (1 : EReal) else 0 := by
    pointwise [k0_pay57]
  rw [e, Finset.sum_boole]
  norm_cast

theorem max_apply (v : FVec Ideal S512 .f32) (r : Fin 512) : v (ix1 r) ≤ k0_pay59 (F := Ideal) v := by
  have e : k0_pay59 (F := Ideal) v = Finset.fold max (Ideal.ofBits FTy.f32 0xFF800000#32) (fun x : Fin 512 × Fin 1 => v (ix1 x.1)) Finset.univ := by
    pointwise [k0_pay59]
  rw [e]
  exact (Finset.le_fold_max _).2 (Or.inr ⟨(r, 0), Finset.mem_univ _, le_rfl⟩)

/-- Where a condition fails, no row has more entries below its bound than the condition's constant. -/
theorem few (c p w u) (r : Fin 512) (j : ℕ) (h : ¬ G (k0_pay59 (F := Ideal) (k0_pay57 (F := Ideal) c p w u)) j) :
    (Finset.univ.filter fun x => row (k0_pay56 (F := Ideal) c p w) r x < u (ix2 r (0 : Fin 1))).card ≤ j := by
  have h1 := (max_apply (k0_pay57 (F := Ideal) c p w u) r).trans (not_lt.1 h)
  rw [count_apply] at h1
  exact Nat.cast_le.1 (EReal.coe_le_coe_iff.1 h1)

/-! ## The state -/

/-- After `k` steps on the distances `v` of the nodes from `b` on, from candidates `tv0`, `ti0`. -/
structure Mid (k : ℕ) (g : ℕ → Prop) (b : ℕ) (v : FVec Ideal S512x2048 .f32) (tv0 ti0 tv ti : S512x16.Idx → EReal)
    (dd : S512x2048.Idx → EReal) : Prop where
  lowT : ∀ r (j : Fin 8), tv (ix2 r (lo j)) = tv0 (ix2 r (lo j))
  lowI : ∀ r (j : Fin 8), ti (ix2 r (lo j)) = ti0 (ix2 r (lo j))
  got : ∀ r (j : Fin 8), j.val < k → g j.val → tv (ix2 r (hi j)) = ext (row v r) j.val (pk (row v r) j.val)
    ∧ ti (ix2 r (hi j)) = (((b + (pk (row v r) j.val).val : ℕ) : ℝ) : EReal)
  top : ∀ r (j : Fin 8), ¬ (j.val < k ∧ g j.val) → tv (ix2 r (hi j)) = ⊤
  dist : 1 ≤ k → k < 8 → g k → ∀ r, row dd r = ext (row v r) k

section Steps
variable {g : ℕ → Prop} (hg : ∀ j, g (j + 1) → g j) {b : ℕ} {v : FVec Ideal S512x2048 .f32} {tv0 ti0 tv ti : S512x16.Idx → EReal}
  {dd : S512x2048.Idx → EReal}

theorem lo_val (j : Fin 8) : (lo j).val = j.val := rfl
theorem hi_val (j : Fin 8) : (hi j).val = 8 + j.val := rfl

theorem fill_apply (r : Fin 512) (k : Fin 8) : k0_pay58 (F := Ideal) (ix2 r k) = ⊤ := by
  rw [← f_inf]; pointwise [k0_pay58]

/-- The upper half filled: nothing taken out yet. -/
theorem mid_fill (tv ti dd) : Mid 0 g b v tv ti (VecWindow.put tv ![0, 8] S512x8.size (k0_pay58 (F := Ideal))) ti dd where
  lowT r j := put8_out _ _ _ _ _ (Or.inl (by rw [lo_val]; exact j.isLt))
  lowI r j := rfl
  got r j h := absurd h (Nat.not_lt_zero _)
  top r j _ := (put8_in _ _ _ _ _ j (hi_val j)).trans (fill_apply r j)
  dist h := absurd h (by omega)

/-- A step whose condition fails leaves the state as it is. -/
theorem mid_no {k : ℕ} (hg : ∀ j, g (j + 1) → g j) (hk : ¬ g k) (h : Mid k g b v tv0 ti0 tv ti dd) : Mid (k + 1) g b v tv0 ti0 tv ti dd where
  lowT := h.lowT
  lowI := h.lowI
  got r j hj hgj := h.got r j (by
    rcases Nat.lt_succ_iff_lt_or_eq.1 hj with h1 | h1
    · exact h1
    · rw [h1] at hgj; exact absurd hgj hk) hgj
  top r j hn := h.top r j fun h1 => hn ⟨by omega, h1.2⟩
  dist _ _ h1 := absurd (hg k h1) hk

/-- A step that takes an entry out. -/
theorem mid_put {k : ℕ} (hk8 : k < 8) (hk : g k) (h : Mid k g b v tv0 ti0 tv ti dd) (wv wi : S512x1.Idx → EReal) (dd' : S512x2048.Idx → EReal)
    (hv : ∀ r, wv (ix2 r (0 : Fin 1)) = ext (row v r) k (pk (row v r) k))
    (hi' : ∀ r, wi (ix2 r (0 : Fin 1)) = (((b + (pk (row v r) k).val : ℕ) : ℝ) : EReal))
    (hd : k + 1 < 8 → g (k + 1) → ∀ r, row dd' r = ext (row v r) (k + 1)) :
    Mid (k + 1) g b v tv0 ti0 (VecWindow.put tv ![0, 8 + k] S512x1.size wv) (VecWindow.put ti ![0, 8 + k] S512x1.size wi) dd' where
  lowT r j := (put1_ne _ _ _ _ _ (by rw [lo_val]; omega)).trans (h.lowT r j)
  lowI r j := (put1_ne _ _ _ _ _ (by rw [lo_val]; omega)).trans (h.lowI r j)
  got r j hj hgj := by
    rcases Nat.lt_succ_iff_lt_or_eq.1 hj with h1 | h1
    · have hn : (hi j).val ≠ 8 + k := by rw [hi_val]; omega
      rw [put1_ne _ _ _ _ _ hn, put1_ne _ _ _ _ _ hn]
      exact h.got r j h1 hgj
    · have he : (hi j).val = 8 + k := by rw [hi_val, h1]
      rw [put1_same _ _ _ _ _ he, put1_same _ _ _ _ _ he, hv, hi', h1]
      exact ⟨rfl, rfl⟩
  top r j hn := by
    have hn' : (hi j).val ≠ 8 + k := fun e => hn ⟨by rw [hi_val] at e; omega, by
      have : j.val = k := by rw [hi_val] at e; omega
      rw [this]; exact hk⟩
    rw [put1_ne _ _ _ _ _ hn']
    exact h.top r j fun h1 => hn ⟨by omega, h1.2⟩
  dist _ h8 h1 := hd h8 h1

theorem row_next (w : FVec Ideal S512x2048 .f32) (r : Fin 512) (k : ℕ) (h : row w r = ext (row v r) k) :
    row (k0_pay67 (F := Ideal) w) r = ext (row v r) (k + 1) := by
  funext c
  refine (next_apply w r c).trans ?_
  show (if c = pick (row w r) then ⊤ else row w r c) = if c = pick (ext (row v r) k) then ⊤ else ext (row v r) k c
  rw [h]

variable {a : ℕ} (ha : a < 49)

/-- The first step: out of the distances as computed, which are put into scratch where a second step will follow. -/
theorem mid_first (ha : a < 49) (hk : g 0) (h : Mid 0 g (2048 * a) v tv0 ti0 tv ti dd) (dd' : S512x2048.Idx → EReal)
    (hd : g 1 → dd' = k0_pay67 (F := Ideal) v) :
    Mid 1 g (2048 * a) v tv0 ti0 (VecWindow.put tv ![0, 8] S512x1.size (k0_pay65 (F := Ideal) v))
      (VecWindow.put ti ![0, 8] S512x1.size (k0_pay66 (F := Ideal) (BitVec.ofNat 32 a) v)) dd' :=
  mid_put (k := 0) (by omega) hk h _ _ dd' (fun r => min_apply v r) (fun r => idx_apply v r a ha)
    fun _ h1 r => by rw [hd h1]; exact row_next v r 0 rfl

/-- A later step: out of the distances in scratch. -/
theorem mid_take (ha : a < 49) {k : ℕ} (hk1 : 1 ≤ k) (hk8 : k < 8) (hk : g k) (h : Mid k g (2048 * a) v tv0 ti0 tv ti dd)
    (dd' : S512x2048.Idx → EReal) (hd : k + 1 < 8 → dd' = k0_pay67 (F := Ideal) dd) :
    Mid (k + 1) g (2048 * a) v tv0 ti0 (VecWindow.put tv ![0, 8 + k] S512x1.size (k0_pay65 (F := Ideal) dd))
      (VecWindow.put ti ![0, 8 + k] S512x1.size (k0_pay66 (F := Ideal) (BitVec.ofNat 32 a) dd)) dd' := by
  have hr := h.dist hk1 hk8 hk
  refine mid_put hk8 hk h _ _ dd' (fun r => (min_apply dd r).trans (by rw [hr])) (fun r => (idx_apply dd r a ha).trans (by rw [hr]))
    fun h8 _ r => ?_
  rw [hd h8]
  exact row_next dd r k (hr r)

end Steps

/-! ## Before and after the steps -/

section Ends
variable {g : ℕ → Prop} {b : ℕ} {v : FVec Ideal S512x2048 .f32} {tv0 ti0 tv ti : S512x16.Idx → EReal} {dd : S512x2048.Idx → EReal}
  (D : Fin 512 → ℕ → EReal)

/-- The lower half of the candidates holds the eight nearest of the first `N` nodes of each row. -/
def Best (N : ℕ) (tv ti : S512x16.Idx → EReal) : Prop :=
  ∀ r, Holds (D r) N (fun k => tv (ix2 r (lo k))) (fun k => ti (ix2 r (lo k)))

theorem start_apply (r : Fin 512) (k : Fin 8) : k0_pay54 (F := Ideal) (ix2 r k) = ⊤ := by
  rw [← f_inf]; pointwise [k0_pay54]

theorem best_start (tv wi ti) : Best D 0 (VecWindow.put tv ![0, 0] S512x8.size (k0_pay54 (F := Ideal))) (VecWindow.put ti ![0, 0] S512x8.size wi) :=
  fun r => Or.inl ⟨rfl, fun k => (put8_in _ _ _ _ _ k (by rw [lo_val]; omega)).trans (start_apply r k)⟩

variable (hd : ∀ r c, row v r c = D r (b + c.val)) (hfin : ∀ r c, row v r c < ⊤)
  (hg : ∀ r, ∀ j < 8, ¬ g j → (Finset.univ.filter fun c => row v r c < tv0 (ix2 r (lo 7))).card ≤ j)
include hd hfin hg

/-- The eight best of both halves joined: the eight nearest of the nodes so far. -/
theorem best_join (h0 : g 0) (hb : Best D b tv0 ti0) (h : Mid 8 g b v tv0 ti0 tv ti dd) :
    Best D (b + 2048) (VecWindow.put tv ![0, 0] S512x8.size (bestVal tv)) (VecWindow.put ti ![0, 0] S512x8.size (bestIdx tv ti)) := fun r => by
  have e1 : (fun k => VecWindow.put tv ![0, 0] S512x8.size (bestVal tv) (ix2 r (lo k))) = fun k => ext (row tv r) k.val (pk (row tv r) k.val) :=
    funext fun k => (put8_in _ _ _ _ _ k (by rw [lo_val]; omega)).trans (bestVal_apply tv r k)
  have e2 : (fun k => VecWindow.put ti ![0, 0] S512x8.size (bestIdx tv ti) (ix2 r (lo k))) = fun k => row ti r (pk (row tv r) k.val) :=
    funext fun k => (put8_in _ _ _ _ _ k (by rw [lo_val]; omega)).trans (bestIdx_apply tv ti r k)
  rw [e1, e2]
  have hall : ∀ (j : Fin 8), g j.val → row tv r (hi j) = row v r (pk (row v r) j.val) := fun j hj => by
    refine (h.got r j j.isLt hj).1.trans (pk_ext (row v r) 8 ?_ j.val j.isLt)
    rw [Finset.filter_true_of_mem fun c _ => hfin r c]
    simp
  exact holds_merge (D r) b (row v r) (hd r) (hfin r) _ _ g (hg r) (row tv r) (row ti r) (hb r) h0 (h.lowT r) (h.lowI r) hall
    (fun j hj => h.top r j fun h1 => hj h1.2) (fun j hj => (h.got r j j.isLt hj).2)

/-- No row has an entry below its bound: the eight nearest so far stay. -/
theorem best_skip (h0 : ¬ g 0) (hb : Best D b tv0 ti0) (h : Mid 8 g b v tv0 ti0 tv ti dd) : Best D (b + 2048) tv ti := fun r => by
  rw [show (fun k => tv (ix2 r (lo k))) = fun k => tv0 (ix2 r (lo k)) from funext (h.lowT r),
    show (fun k => ti (ix2 r (lo k))) = fun k => ti0 (ix2 r (lo k)) from funext (h.lowI r)]
  exact holds_skip (D r) b (row v r) (hd r) (hfin r) _ _ g (hg r) (hb r) h0

end Ends

end Cert.Proof.KernelMid

end
-- ==== Proof.KernelRuns.lean ====
/-
  Programs that run from any scratch in a set of states: the top-8 body's pieces in that form, over the extended reals.
-/
module

public import proofs.«01_k».proof.Proof.KernelStep
public import proofs.«01_k».proof.Proof.KernelMid

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.TopEight Cert.Proof.KernelPay Cert.Proof.KernelMid

local notation "𝕄" => MT nD τ sig (HIx 1) (Elt Ideal) ℕ UU ℕ
local notation "Scr" => (S512x16.Idx → Elt Ideal EltTy.f32) → (S512x16.Idx → Elt Ideal EltTy.f32) → (S512x2048.Idx → Elt Ideal EltTy.f32) → Prop

variable {α : Type} (d : Dev nD) (M7 : Memref sig .tc .vmem S512x16 .f32) (M8 : Memref sig .tc .vmem S512x16 .f32)
  (M9 : Memref sig .tc .vmem S512x2048 .f32) (h7 : M7.IsWhole) (h8 : M8.IsWhole) (h9 : M9.IsWhole)

/-- A program that may run from any scratch in a set of states, beside `R`. -/
def Runs (R : sProp 𝕄) (E : Scr) (p : TProg (F := Ideal) α) (Q : α → sProp 𝕄) : Prop :=
  ∀ tv ti dd, E tv ti dd → iprop(R ∗ scr (F := Ideal) d M7 M8 M9 tv ti dd) ⊢ wp frame (wpE (defs₀ (F := Ideal)) 𝒱₀ (T d) none) Set.univ p Q

variable {d M7 M8 M9} {R : sProp 𝕄} {E E' : Scr} {Q : α → sProp 𝕄}

theorem runs_of {p k : TProg (F := Ideal) α} {f : (S512x16.Idx → Elt Ideal EltTy.f32) → (S512x16.Idx → Elt Ideal EltTy.f32) → (S512x2048.Idx → Elt Ideal EltTy.f32) → (S512x16.Idx → Elt Ideal EltTy.f32)}
    {f' : (S512x16.Idx → Elt Ideal EltTy.f32) → (S512x16.Idx → Elt Ideal EltTy.f32) → (S512x2048.Idx → Elt Ideal EltTy.f32) → (S512x16.Idx → Elt Ideal EltTy.f32)}
    {f'' : (S512x16.Idx → Elt Ideal EltTy.f32) → (S512x16.Idx → Elt Ideal EltTy.f32) → (S512x2048.Idx → Elt Ideal EltTy.f32) → (S512x2048.Idx → Elt Ideal EltTy.f32)}
    (hs : ∀ tv ti dd, iprop(scr (F := Ideal) d M7 M8 M9 tv ti dd ∗ (scr (F := Ideal) d M7 M8 M9 (f tv ti dd) (f' tv ti dd) (f'' tv ti dd)
        -∗ wp frame (wpE (defs₀ (F := Ideal)) 𝒱₀ (T d) none) Set.univ k Q))
      ⊢ wp frame (wpE (defs₀ (F := Ideal)) 𝒱₀ (T d) none) Set.univ p Q)
    (hE : ∀ tv ti dd, E tv ti dd → E' (f tv ti dd) (f' tv ti dd) (f'' tv ti dd))
    (hk : Runs d M7 M8 M9 R E' k Q) : Runs d M7 M8 M9 R E p Q := fun tv ti dd hp => by
  have h1 := hk _ _ _ (hE tv ti dd hp)
  iintro ⟨HR, Hs⟩
  iapply (hs tv ti dd)
  isplitl [Hs]; · iexact Hs
  iintro Hs
  iapply h1
  isplitl [HR]; · iexact HR
  iexact Hs

theorem runs_if {c : Prop} [Decidable c] {p q : TProg (F := Ideal) α} (h1 : c → Runs d M7 M8 M9 R E p Q) (h0 : ¬ c → Runs d M7 M8 M9 R E q Q) :
    Runs d M7 M8 M9 R E (if c then p else q) Q := by
  by_cases h : c
  · rw [if_pos h]; exact h1 h
  · rw [if_neg h]; exact h0 h

theorem runs_mono {p : TProg (F := Ideal) α} (hE : ∀ tv ti dd, E tv ti dd → E' tv ti dd) (h : Runs d M7 M8 M9 R E' p Q) :
    Runs d M7 M8 M9 R E p Q := fun tv ti dd hp => h tv ti dd (hE tv ti dd hp)

include h7 h8 h9

/-- One of the later steps: an entry taken out of the distances in scratch where its condition holds. -/
theorem runs_take {c : BitVec 1} (col : ℕ) (inb) {pv pi pd} {k : TProg (F := Ideal) α}
    (h1 : c = 1#1 → ∀ tv ti dd, E tv ti dd → E' (VecWindow.put tv ![0, col] S512x1.size (pv dd)) (VecWindow.put ti ![0, col] S512x1.size (pi dd)) (pd dd))
    (h0 : ¬ c = 1#1 → ∀ tv ti dd, E tv ti dd → E' tv ti dd) (hk : Runs d M7 M8 M9 R E' k Q) :
    Runs d M7 M8 M9 R E (if c = 1#1 then takeProg M7 M8 M9 col inb pv pi pd k else k) Q :=
  runs_if (fun h => runs_of (f := fun tv ti dd => (VecWindow.put tv ![0, col] S512x1.size (pv dd))) (f' := fun tv ti dd => (VecWindow.put ti ![0, col] S512x1.size (pi dd))) (f'' := fun tv ti dd => pd dd)
    (fun tv ti dd => take_spec d M7 M8 M9 h7 h8 h9 col inb pv pi pd k tv ti dd Q) (h1 h) hk) (fun h => runs_mono (h0 h) hk)

theorem runs_last {c : BitVec 1} (col : ℕ) (inb) {pv pi} {k : TProg (F := Ideal) α}
    (h1 : c = 1#1 → ∀ tv ti dd, E tv ti dd → E' (VecWindow.put tv ![0, col] S512x1.size (pv dd)) (VecWindow.put ti ![0, col] S512x1.size (pi dd)) dd)
    (h0 : ¬ c = 1#1 → ∀ tv ti dd, E tv ti dd → E' tv ti dd) (hk : Runs d M7 M8 M9 R E' k Q) :
    Runs d M7 M8 M9 R E (if c = 1#1 then lastProg M7 M8 M9 col inb pv pi k else k) Q :=
  runs_if (fun h => runs_of (f := fun tv ti dd => (VecWindow.put tv ![0, col] S512x1.size (pv dd))) (f' := fun tv ti dd => (VecWindow.put ti ![0, col] S512x1.size (pi dd))) (f'' := fun tv ti dd => dd)
    (fun tv ti dd => last_spec d M7 M8 M9 h7 h8 h9 col inb pv pi k tv ti dd Q) (h1 h) hk) (fun h => runs_mono (h0 h) hk)

theorem runs_first (col : ℕ) (inb) {wv wi : FVec Ideal S512x1 .f32} {k : TProg (F := Ideal) α}
    (h1 : ∀ tv ti dd, E tv ti dd → E' (VecWindow.put tv ![0, col] S512x1.size wv) (VecWindow.put ti ![0, col] S512x1.size wi) dd)
    (hk : Runs d M7 M8 M9 R E' k Q) : Runs d M7 M8 M9 R E (firstProg M7 M8 col inb wv wi k) Q :=
  runs_of (f := fun tv ti dd => (VecWindow.put tv ![0, col] S512x1.size wv)) (f' := fun tv ti dd => (VecWindow.put ti ![0, col] S512x1.size wi)) (f'' := fun tv ti dd => dd)
    (fun tv ti dd => first_spec d M7 M8 M9 h7 h8 h9 col inb wv wi k tv ti dd Q) h1 hk

theorem runs_spill {c : BitVec 1} {wd} {k : TProg (F := Ideal) α}
    (h1 : c = 1#1 → ∀ tv ti dd, E tv ti dd → E' tv ti wd) (h0 : ¬ c = 1#1 → ∀ tv ti dd, E tv ti dd → E' tv ti dd)
    (hk : Runs d M7 M8 M9 R E' k Q) : Runs d M7 M8 M9 R E (if c = 1#1 then spillProg M9 wd k else k) Q :=
  runs_if (fun h => runs_of (f := fun tv ti dd => tv) (f' := fun tv ti dd => ti) (f'' := fun tv ti dd => wd)
    (fun tv ti dd => spill_spec d M7 M8 M9 h7 h8 h9 wd k tv ti dd Q) (h1 h) hk) (fun h => runs_mono (h0 h) hk)

theorem runs_begin {c c' : BitVec 1} (col : ℕ) (inb) {wv wi : FVec Ideal S512x1 .f32} {wd : FVec Ideal S512x2048 .f32} {k : TProg (F := Ideal) α}
    (h1 : c = 1#1 → ∀ tv ti dd, E tv ti dd → ∀ dd', (c' = 1#1 → dd' = wd) →
      E' (VecWindow.put tv ![0, col] S512x1.size wv) (VecWindow.put ti ![0, col] S512x1.size wi) dd')
    (h0 : ¬ c = 1#1 → ∀ tv ti dd, E tv ti dd → E' tv ti dd) (hk : Runs d M7 M8 M9 R E' k Q) :
    Runs d M7 M8 M9 R E (if c = 1#1 then firstProg M7 M8 col inb wv wi (if c' = 1#1 then spillProg M9 wd k else k) else k) Q :=
  runs_if (fun h => runs_first h7 h8 h9 (E' := fun tv ti _ => ∀ dd', (c' = 1#1 → dd' = wd) → E' tv ti dd') col inb (h1 h)
    (runs_spill h7 h8 h9 (fun _ _ _ _ hE => hE _ fun _ => rfl) (fun h' _ _ _ hE => hE _ fun h2 => absurd h2 h') hk))
    (fun h => runs_mono (h0 h) hk)

theorem runs_fill {wv : FVec Ideal S512x8 .f32} {k : TProg (F := Ideal) α}
    (h1 : ∀ tv ti dd, E tv ti dd → E' (VecWindow.put tv ![0, 8] S512x8.size wv) ti dd)
    (hk : Runs d M7 M8 M9 R E' k Q) : Runs d M7 M8 M9 R E (fillProg M7 wv k) Q :=
  runs_of (f := fun tv ti dd => (VecWindow.put tv ![0, 8] S512x8.size wv)) (f' := fun tv ti dd => ti) (f'' := fun tv ti dd => dd)
    (fun tv ti dd => fill_spec d M7 M8 M9 h7 h8 h9 wv k tv ti dd Q) h1 hk

theorem runs_join {bv bi} {k : TProg (F := Ideal) α}
    (h1 : ∀ tv ti dd, E tv ti dd → E' (VecWindow.put tv ![0, 0] S512x8.size (bv tv ti)) (VecWindow.put ti ![0, 0] S512x8.size (bi tv ti)) dd)
    (hk : Runs d M7 M8 M9 R E' k Q) : Runs d M7 M8 M9 R E (joinProg M7 M8 bv bi k) Q :=
  runs_of (f := fun tv ti dd => (VecWindow.put tv ![0, 0] S512x8.size (bv tv ti))) (f' := fun tv ti dd => (VecWindow.put ti ![0, 0] S512x8.size (bi tv ti))) (f'' := fun tv ti dd => dd)
    (fun tv ti dd => join_spec d M7 M8 M9 h7 h8 h9 bv bi k tv ti dd Q) h1 hk

theorem runs_start {wv wi : FVec Ideal S512x8 .f32} {k : TProg (F := Ideal) α}
    (h1 : ∀ tv ti dd, E tv ti dd → E' (VecWindow.put tv ![0, 0] S512x8.size wv) (VecWindow.put ti ![0, 0] S512x8.size wi) dd)
    (hk : Runs d M7 M8 M9 R E' k Q) : Runs d M7 M8 M9 R E (startProg M7 M8 wv wi k) Q :=
  runs_of (f := fun tv ti dd => (VecWindow.put tv ![0, 0] S512x8.size wv)) (f' := fun tv ti dd => (VecWindow.put ti ![0, 0] S512x8.size wi)) (f'' := fun tv ti dd => dd)
    (fun tv ti dd => start_spec d M7 M8 M9 h7 h8 h9 wv wi k tv ti dd Q) h1 hk

omit h7 h8 h9 in
theorem runs_dite {c : Prop} [Decidable c] {p : c → TProg (F := Ideal) α} {q : ¬ c → TProg (F := Ideal) α} (h1 : ∀ h : c, Runs d M7 M8 M9 R E (p h) Q)
    (h0 : ∀ h : ¬ c, Runs d M7 M8 M9 R E (q h) Q) : Runs d M7 M8 M9 R E (if h : c then p h else q h) Q := by
  by_cases h : c
  · rw [dif_pos h]; exact h1 h
  · rw [dif_neg h]; exact h0 h

omit h7 h8 h9 in
theorem runs_bind {β : Type} {p : TProg (F := Ideal) β} {k : β → TProg (F := Ideal) α}
    (h : Runs d M7 M8 M9 R E p fun b => wp frame (wpE (defs₀ (F := Ideal)) 𝒱₀ (T d) none) Set.univ (k b) Q) :
    Runs d M7 M8 M9 R E (p >>= k) Q := fun tv ti dd hp => by
  rw [wp_bind]; exact h tv ti dd hp

omit h7 h8 h9 in
theorem runs_pure (a : α) (h : ∀ tv ti dd, E tv ti dd → iprop(R ∗ scr (F := Ideal) d M7 M8 M9 tv ti dd) ⊢ Q a) :
    Runs d M7 M8 M9 R E (pure a) Q := fun tv ti dd hp => by
  rw [wp_pure]
  exact (h tv ti dd hp).trans fupd_intro

end Cert.Proof.KernelIdeal

end
-- ==== Proof.KernelFive.lean ====
/-
  The first five steps of the top-8 body, over the extended reals.
-/
module

public import proofs.«01_k».proof.Proof.KernelRuns

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.TopEight Cert.Proof.KernelPay Cert.Proof.KernelMid

local notation "𝕄" => MT nD τ sig (HIx 1) (Elt Ideal) ℕ UU ℕ
local notation "Scr" => (S512x16.Idx → Elt Ideal EltTy.f32) → (S512x16.Idx → Elt Ideal EltTy.f32) → (S512x2048.Idx → Elt Ideal EltTy.f32) → Prop

variable {α : Type} {d : Dev nD} {M7 : Memref sig .tc .vmem S512x16 .f32} {M8 : Memref sig .tc .vmem S512x16 .f32}
  {M9 : Memref sig .tc .vmem S512x2048 .f32} (h7 : M7.IsWhole) (h8 : M8.IsWhole) (h9 : M9.IsWhole)
variable {R : sProp 𝕄}

section Body
variable (i : grid0.Coords) (M2 : Memref sig .tc .vmem S512x64 .f32) (h2 : M2.IsWhole) (M3 : Memref sig .tc .vmem S64x2048 .f32) (h3 : M3.IsWhole)
  (M4 : Memref sig .tc .vmem S1x2048 .f32) (h4 : M4.IsWhole) (M5 : Memref sig .tc .vmem S512x8 .i32) (h5 : M5.IsWhole)
  (M6 : Memref sig .tc .vmem S512x8 .f32) (h6 : M6.IsWhole)

theorem ni_lt (i : grid0.Coords) : (i 1).val < 49 := (i 1).isLt

set_option maxHeartbeats 1000000 in
/-- The steps one to five. -/
theorem part5_runs (v : FVec Ideal S512x2048 .f32) (cnt : FVec Ideal S512 .f32) (tv0 ti0 : S512x16.Idx → Elt Ideal EltTy.f32)
    (Q : (Σ' (v45 : Ideal .f32) (v47 : FVec Ideal S512x2048 .f32) (v49 : Ideal .f32) (cst_35 : Ideal .f32), BitVec 1) → sProp 𝕄)
    (hQ : ∀ tv ti dd, Mid 5 (G (k0_pay59 (F := Ideal) cnt)) (2048 * (i 1).val) v tv0 ti0 tv ti dd → iprop(R ∗ scr (F := Ideal) d M7 M8 M9 tv ti dd)
      ⊢ Q ⟨k0_pay59 (F := Ideal) cnt, k0_pay60 (F := Ideal), k0_pay61 (F := Ideal) (BitVec.ofNat 32 (i 1).val), Scalar.ofBits .f32 0x4E6E6B28#32,
        hit (k0_pay59 (F := Ideal) cnt) 0x40A00000#32⟩) :
    Runs d M7 M8 M9 R (fun tv ti _ => tv = tv0 ∧ ti = ti0)
      (k0_part5 (F := Ideal) i M2 h2 M3 h3 M4 h4 M5 h5 M6 h6 M7 h7 M8 h8 M9 h9 (BitVec.ofNat 32 (i 1).val) v cnt) Q := by
  rw [k0_part5_eq_skeleton]
  unfold k0_part5_skel
  have hn := ni_lt i
  have ga := G_anti (k0_pay59 (F := Ideal) cnt)
  refine runs_fill h7 h8 h9 (E' := Mid 0 (G (k0_pay59 (F := Ideal) cnt)) (2048 * (i 1).val) v tv0 ti0) (wv := k0_pay58 (F := Ideal)) (fun tv ti dd ⟨e1, e2⟩ => by
    subst e1 e2; exact mid_fill tv ti dd) ?_
  refine runs_begin h7 h8 h9 (E' := Mid 1 (G (k0_pay59 (F := Ideal) cnt)) (2048 * (i 1).val) v tv0 ti0) 8 inb_S512x16_S512x1_0_8
    (wv := k0_pay65 (F := Ideal) v) (wi := k0_pay66 (F := Ideal) (BitVec.ofNat 32 (i 1).val) v) (wd := k0_pay67 (F := Ideal) v)
    (c := hit (k0_pay59 (F := Ideal) cnt) 0x00000000#32) (c' := hit (k0_pay59 (F := Ideal) cnt) 0x3F800000#32)
    (fun h tv ti dd hE dd' hd => mid_first hn ((hit0 _).1 h) hE dd' fun h1 => hd ((hit1 _).2 h1))
    (fun h tv ti dd hE => mid_no ga (fun h1 => h ((hit0 _).2 h1)) hE) ?_
  refine runs_take h7 h8 h9 (E' := Mid 2 (G (k0_pay59 (F := Ideal) cnt)) (2048 * (i 1).val) v tv0 ti0) 9 inb_S512x16_S512x1_0_9
    (pv := k0_pay65 (F := Ideal)) (pi := k0_pay66 (F := Ideal) (BitVec.ofNat 32 (i 1).val)) (pd := k0_pay67 (F := Ideal))
    (c := hit (k0_pay59 (F := Ideal) cnt) 0x3F800000#32)
    (fun h tv ti dd hE => mid_take hn (by omega) (by omega) ((hit1 _).1 h) hE _ fun _ => rfl)
    (fun h tv ti dd hE => mid_no ga (fun h1 => h ((hit1 _).2 h1)) hE) ?_
  refine runs_take h7 h8 h9 (E' := Mid 3 (G (k0_pay59 (F := Ideal) cnt)) (2048 * (i 1).val) v tv0 ti0) 10 inb_S512x16_S512x1_0_10
    (pv := k0_pay65 (F := Ideal)) (pi := k0_pay66 (F := Ideal) (BitVec.ofNat 32 (i 1).val)) (pd := k0_pay67 (F := Ideal))
    (c := hit (k0_pay59 (F := Ideal) cnt) 0x40000000#32)
    (fun h tv ti dd hE => mid_take hn (by omega) (by omega) ((hit2 _).1 h) hE _ fun _ => rfl)
    (fun h tv ti dd hE => mid_no ga (fun h1 => h ((hit2 _).2 h1)) hE) ?_
  refine runs_take h7 h8 h9 (E' := Mid 4 (G (k0_pay59 (F := Ideal) cnt)) (2048 * (i 1).val) v tv0 ti0) 11 inb_S512x16_S512x1_0_11
    (pv := k0_pay65 (F := Ideal)) (pi := k0_pay66 (F := Ideal) (BitVec.ofNat 32 (i 1).val)) (pd := k0_pay67 (F := Ideal))
    (c := hit (k0_pay59 (F := Ideal) cnt) 0x40400000#32)
    (fun h tv ti dd hE => mid_take hn (by omega) (by omega) ((hit3 _).1 h) hE _ fun _ => rfl)
    (fun h tv ti dd hE => mid_no ga (fun h1 => h ((hit3 _).2 h1)) hE) ?_
  refine runs_take h7 h8 h9 (E' := Mid 5 (G (k0_pay59 (F := Ideal) cnt)) (2048 * (i 1).val) v tv0 ti0) 12 inb_S512x16_S512x1_0_12
    (pv := k0_pay65 (F := Ideal)) (pi := k0_pay66 (F := Ideal) (BitVec.ofNat 32 (i 1).val)) (pd := k0_pay67 (F := Ideal))
    (c := hit (k0_pay59 (F := Ideal) cnt) 0x40800000#32)
    (fun h tv ti dd hE => mid_take hn (by omega) (by omega) ((hit4 _).1 h) hE _ fun _ => rfl)
    (fun h tv ti dd hE => mid_no ga (fun h1 => h ((hit4 _).2 h1)) hE) ?_
  exact runs_pure _ hQ

end Body

end Cert.Proof.KernelIdeal

end
-- ==== Proof.KernelEnds.lean ====
/-
  The top-8 body's loads of its block and its stores of the two outputs, over the extended reals.
-/
module

public import proofs.«01_k».proof.Proof.KernelRuns

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.TopEight Cert.Proof.KernelPay Cert.Proof.KernelMid

local notation "𝕄" => MT nD τ sig (HIx 1) (Elt Ideal) ℕ UU ℕ
local notation "Scr" => (S512x16.Idx → Elt Ideal EltTy.f32) → (S512x16.Idx → Elt Ideal EltTy.f32) → (S512x2048.Idx → Elt Ideal EltTy.f32) → Prop

variable {α : Type} (d : Dev nD) {M7 : Memref sig .tc .vmem S512x16 .f32} {M8 : Memref sig .tc .vmem S512x16 .f32}
  {M9 : Memref sig .tc .vmem S512x2048 .f32} (h7 : M7.IsWhole) (h8 : M8.IsWhole) (h9 : M9.IsWhole)
variable (M2 : Memref sig .tc .vmem S512x64 .f32) (h2 : M2.IsWhole) (M3 : Memref sig .tc .vmem S64x2048 .f32) (h3 : M3.IsWhole)
  (M4 : Memref sig .tc .vmem S1x2048 .f32) (h4 : M4.IsWhole) (M5 : Memref sig .tc .vmem S512x8 .i32) (h5 : M5.IsWhole)
  (M6 : Memref sig .tc .vmem S512x8 .f32) (h6 : M6.IsWhole)

/-- The five staging buffers by values. -/
abbrev stg (c : S512x64.Idx → Elt Ideal EltTy.f32) (p : S64x2048.Idx → Elt Ideal EltTy.f32) (w : S1x2048.Idx → Elt Ideal EltTy.f32)
    (y5 : S512x8.Idx → Elt Ideal EltTy.i32) (y6 : S512x8.Idx → Elt Ideal EltTy.f32) : sProp 𝕄 :=
  iprop(owns (T d) M2 fullShare c ∗ owns (T d) M3 fullShare p ∗ owns (T d) M4 fullShare w ∗ owns (T d) M5 fullShare y5 ∗ owns (T d) M6 fullShare y6)

/-- The loads of a block's coordinates, positions and weights, and of the bound on each row. -/
def loadsProg (M2 : Memref sig .tc .vmem S512x64 .f32) (M3 : Memref sig .tc .vmem S64x2048 .f32) (M4 : Memref sig .tc .vmem S1x2048 .f32)
    (M7 : Memref sig .tc .vmem S512x16 .f32)
    (k : Vec Ideal S512x64 .f32 → Vec Ideal S64x2048 .f32 → Vec Ideal S1x2048 .f32 → Vec Ideal S512x1 .f32 → TProg (F := Ideal) α) : TProg (F := Ideal) α := do
  let v3 : Vec Ideal S512x64 .f32 ← Prog.lift (.load M2 (Rect.unit (s := S512x64) ![0, 0] S512x64.size inb_S512x64_S512x64_0_0).toLoadRect (View.loadsAt_vmem h_S512x64))
  let v4 : Vec Ideal S64x2048 .f32 ← Prog.lift (.load M3 (Rect.unit (s := S64x2048) ![0, 0] S64x2048.size inb_S64x2048_S64x2048_0_0).toLoadRect (View.loadsAt_vmem h_S64x2048))
  let v6 : Vec Ideal S1x2048 .f32 ← Prog.lift (.load M4 (Rect.unit (s := S1x2048) ![0, 0] S1x2048.size inb_S1x2048_S1x2048_0_0).toLoadRect (View.loadsAt_vmem h_S1x2048))
  let v30 : Vec Ideal S512x1 .f32 ← Prog.lift (.load M7 (Rect.unit (s := S512x16) ![0, 7] S512x1.size inb_S512x16_S512x1_0_7).toLoadRect (View.loadsAt_vmem h_S512x1))
  k v3 v4 v6 v30

include h7 h8 h9 h2 h3 h4 h5 h6

set_option maxHeartbeats 1000000 in
theorem loads_runs (c : Vec Ideal S512x64 .f32) (p : Vec Ideal S64x2048 .f32) (w : Vec Ideal S1x2048 .f32) (y5 : Vec Ideal S512x8 .i32) (y6 : Vec Ideal S512x8 .f32)
    (E : (S512x16.Idx → Elt Ideal EltTy.f32) → (S512x16.Idx → Elt Ideal EltTy.f32) → (S512x2048.Idx → Elt Ideal EltTy.f32) → Prop)
    (k : Vec Ideal S512x64 .f32 → Vec Ideal S64x2048 .f32 → Vec Ideal S1x2048 .f32 → Vec Ideal S512x1 .f32 → TProg (F := Ideal) α) (Q : α → sProp 𝕄)
    (hk : ∀ tv ti dd, E tv ti dd → iprop(stg d M2 M3 M4 M5 M6 c p w y5 y6 ∗ scr (F := Ideal) d M7 M8 M9 tv ti dd)
      ⊢ wp frame (wpE (defs₀ (F := Ideal)) 𝒱₀ (T d) none) Set.univ (k c p w (VecWindow.window tv ![0, 7] S512x1.size inb_S512x16_S512x1_0_7)) Q) :
    Runs d M7 M8 M9 (stg d M2 M3 M4 M5 M6 c p w y5 y6) E (loadsProg M2 M3 M4 M7 k) Q := fun tv ti dd hE => by
  have hk := hk tv ti dd hE
  unfold stg scr owns loadsProg at *
  rw [h7.set_eq_univ, h8.set_eq_univ, h9.set_eq_univ, h2.set_eq_univ, h3.set_eq_univ, h4.set_eq_univ, h5.set_eq_univ, h6.set_eq_univ] at *
  iintro ⟨⟨⟨%f2, %hf2, H2⟩, ⟨%f3, %hf3, H3⟩, ⟨%f4, %hf4, H4⟩, H5, H6⟩, ⟨%f7, %hf7, H7⟩, H8, H9⟩
  sl_exec!
  rw [View.readAt_full, View.readAt_full, View.readAt_full, View.readAt_unit _ _ _ rfl inb_S512x16_S512x1_0_7, hf2, hf3, hf4, hf7]
  iapply hk
  isplitl [H2 H3 H4 H5 H6]
  · isplitl [H2]; · iexists f2; isplitr; swap; (· iexact H2); ipureintro; exact hf2
    isplitl [H3]; · iexists f3; isplitr; swap; (· iexact H3); ipureintro; exact hf3
    isplitl [H4]; · iexists f4; isplitr; swap; (· iexact H4); ipureintro; exact hf4
    isplitl [H5]; · iexact H5
    iexact H6
  isplitl [H7]; · iexists f7; isplitr; swap; (· iexact H7); ipureintro; exact hf7
  isplitl [H8]; · iexact H8
  iexact H9

/-- The two outputs of a block's last step. -/
def emitProg (M5 : Memref sig .tc .vmem S512x8 .i32) (M6 : Memref sig .tc .vmem S512x8 .f32) (M7 M8 : Memref sig .tc .vmem S512x16 .f32)
    (k : TProg (F := Ideal) α) : TProg (F := Ideal) α := do
  let v80 : Vec Ideal S512x8 .f32 ← Prog.lift (.load M7 (Rect.unit (s := S512x16) ![0, 0] S512x8.size inb_S512x16_S512x8_0_0).toLoadRect (View.loadsAt_vmem h_S512x8))
  let v81 : Vec Ideal S512x8 .f32 ← Prog.lift (.load M8 (Rect.unit (s := S512x16) ![0, 0] S512x8.size inb_S512x16_S512x8_0_0).toLoadRect (View.loadsAt_vmem h_S512x8))
  let _ : Vec Ideal S512x8 .f32 ← Prog.lift (.load M6 (Rect.unit (s := S512x8) ![0, 0] S512x8.size inb_S512x8_S512x8_0_0).toLoadRect (View.loadsAt_vmem h_S512x8))
  Prog.lift (.store M6 (Rect.unit (s := S512x8) ![0, 0] S512x8.size inb_S512x8_S512x8_0_0) (k0_pay17 v80) Finset.univ (View.stores_vmem_bits_univ h_S512x8 rfl) (.inl rfl))
  let _ : Vec Ideal S512x8 .i32 ← Prog.lift (.load M5 (Rect.unit (s := S512x8) ![0, 0] S512x8.size inb_S512x8_S512x8_0_0).toLoadRect (View.loadsAt_vmem h_S512x8))
  Prog.lift (.store M5 (Rect.unit (s := S512x8) ![0, 0] S512x8.size inb_S512x8_S512x8_0_0) (k0_pay18 (F := Ideal) v81) Finset.univ (View.stores_vmem_bits_univ h_S512x8 rfl) (.inl rfl))
  k

/-- The lower half of the candidates. -/
abbrev lower (x : S512x16.Idx → Elt Ideal EltTy.f32) : FVec Ideal S512x8 .f32 := VecWindow.window x ![0, 0] S512x8.size inb_S512x16_S512x8_0_0

set_option maxHeartbeats 1000000 in
theorem emit_runs (c : Vec Ideal S512x64 .f32) (p : Vec Ideal S64x2048 .f32) (w : Vec Ideal S1x2048 .f32) (y5 : Vec Ideal S512x8 .i32) (y6 : Vec Ideal S512x8 .f32)
    (E : (S512x16.Idx → Elt Ideal EltTy.f32) → (S512x16.Idx → Elt Ideal EltTy.f32) → (S512x2048.Idx → Elt Ideal EltTy.f32) → Prop)
    (k : TProg (F := Ideal) α) (Q : α → sProp 𝕄)
    (hk : ∀ tv ti dd, E tv ti dd → iprop(stg d M2 M3 M4 M5 M6 c p w (k0_pay18 (F := Ideal) (lower ti)) (k0_pay17 (F := Ideal) (lower tv)) ∗ scr (F := Ideal) d M7 M8 M9 tv ti dd)
      ⊢ wp frame (wpE (defs₀ (F := Ideal)) 𝒱₀ (T d) none) Set.univ k Q) :
    Runs d M7 M8 M9 (stg d M2 M3 M4 M5 M6 c p w y5 y6) E (emitProg M5 M6 M7 M8 k) Q := fun tv ti dd hE => by
  have hk := hk tv ti dd hE
  unfold stg scr owns emitProg at *
  rw [h7.set_eq_univ, h8.set_eq_univ, h9.set_eq_univ, h2.set_eq_univ, h3.set_eq_univ, h4.set_eq_univ, h5.set_eq_univ, h6.set_eq_univ] at *
  iintro ⟨⟨H2, H3, H4, ⟨%f5, %hf5, H5⟩, ⟨%f6, %hf6, H6⟩⟩, ⟨%f7, %hf7, H7⟩, ⟨%f8, %hf8, H8⟩, H9⟩
  sl_exec!
  iapply hk
  isplitl [H2 H3 H4 H5 H6]
  · isplitl [H2]; · iexact H2
    isplitl [H3]; · iexact H3
    isplitl [H4]; · iexact H4
    isplitl [H5]
    · iexists _; isplitr; swap; (· iexact H5); ipureintro
      exact (View.read_writes_full _ _ _ _ []).trans (by rw [View.readAt_unit _ _ _ rfl inb_S512x16_S512x8_0_0, hf8])
    iexists _; isplitr; swap; (· iexact H6); ipureintro
    exact (View.read_writes_full _ _ _ _ []).trans (by rw [View.readAt_unit _ _ _ rfl inb_S512x16_S512x8_0_0, hf7])
  isplitl [H7]; · iexists f7; isplitr; swap; (· iexact H7); ipureintro; exact hf7
  isplitl [H8]; · iexists f8; isplitr; swap; (· iexact H8); ipureintro; exact hf8
  iexact H9

end Cert.Proof.KernelIdeal

end
-- ==== Proof.KernelBody.lean ====
/-
  The top-8 body over the extended reals: from candidates holding the eight nearest of the nodes before its block, to
  candidates holding the eight nearest of the nodes up to the block's end.
-/
module

public import proofs.«01_k».proof.Proof.KernelFive
public import proofs.«01_k».proof.Proof.KernelEnds

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.TopEight Cert.Proof.KernelPay Cert.Proof.KernelMid

local notation "𝕄" => MT nD τ sig (HIx 1) (Elt Ideal) ℕ UU ℕ
local notation "Scr" => (S512x16.Idx → Elt Ideal EltTy.f32) → (S512x16.Idx → Elt Ideal EltTy.f32) → (S512x2048.Idx → Elt Ideal EltTy.f32) → Prop

variable (d : Dev nD) {M7 : Memref sig .tc .vmem S512x16 .f32} {M8 : Memref sig .tc .vmem S512x16 .f32}
  {M9 : Memref sig .tc .vmem S512x2048 .f32} (h7 : M7.IsWhole) (h8 : M8.IsWhole) (h9 : M9.IsWhole)
variable (i : grid0.Coords) (M2 : Memref sig .tc .vmem S512x64 .f32) (h2 : M2.IsWhole) (M3 : Memref sig .tc .vmem S64x2048 .f32) (h3 : M3.IsWhole)
  (M4 : Memref sig .tc .vmem S1x2048 .f32) (h4 : M4.IsWhole) (M5 : Memref sig .tc .vmem S512x8 .i32) (h5 : M5.IsWhole)
  (M6 : Memref sig .tc .vmem S512x8 .f32) (h6 : M6.IsWhole)
  (c : Vec Ideal S512x64 .f32) (p : Vec Ideal S64x2048 .f32) (w : Vec Ideal S1x2048 .f32) (y5 : Vec Ideal S512x8 .i32) (y6 : Vec Ideal S512x8 .f32)
  (D : Fin 512 → ℕ → EReal)

theorem first_cond (n : ℕ) (hn : n < 49) :
    Scalar.cmpi .ne (Scalar.extui (Scalar.cmpi .eq (BitVec.ofNat 32 n) 0#32) : BitVec 32) 0#32 = 1#1 ↔ n = 0 := by
  interval_cases n <;> decide

/-- The candidates before the block: the eight nearest so far, unless the block is its row's first. -/
abbrev Before (tv ti : S512x16.Idx → Elt Ideal EltTy.f32) (_ : S512x2048.Idx → Elt Ideal EltTy.f32) : Prop :=
  (i 1).val = 0 ∨ Best D (2048 * (i 1).val) tv ti

set_option maxHeartbeats 1000000 in
/-- The block's distances and the counts of the entries below each row's bound. -/
theorem part4_runs (Q : (Σ' (arg1 : BitVec 32) (v29 : FVec Ideal S512x2048 .f32), FVec Ideal S512 .f32) → sProp 𝕄)
    (hQ : ∀ tv ti dd, Best D (2048 * (i 1).val) tv ti → iprop(stg d M2 M3 M4 M5 M6 c p w y5 y6 ∗ scr (F := Ideal) d M7 M8 M9 tv ti dd)
      ⊢ Q ⟨BitVec.ofNat 32 (i 1).val, k0_pay56 (F := Ideal) c p w, k0_pay57 (F := Ideal) c p w (VecWindow.window tv ![0, 7] S512x1.size inb_S512x16_S512x1_0_7)⟩) :
    Runs d M7 M8 M9 (stg d M2 M3 M4 M5 M6 c p w y5 y6) (Before i D)
      (k0_part4 (F := Ideal) i M2 h2 M3 h3 M4 h4 M5 h5 M6 h6 M7 h7 M8 h8 M9 h9) Q := by
  rw [k0_part4_eq_skeleton]
  unfold k0_part4_skel
  have hn := ni_lt i
  have hl := loads_runs d h7 h8 h9 M2 h2 M3 h3 M4 h4 M5 h5 M6 h6 c p w y5 y6 (fun tv ti _ => Best D (2048 * (i 1).val) tv ti)
    (fun v3 v4 v6 v30 => pure ⟨BitVec.ofNat 32 (i 1).val, k0_pay56 (F := Ideal) v3 v4 v6, k0_pay57 (F := Ideal) v3 v4 v6 v30⟩) Q
    (fun tv ti dd hE => by rw [wp_pure]; exact (hQ tv ti dd hE).trans fupd_intro)
  refine runs_dite (fun h => ?_) (fun h => ?_)
  · refine runs_start h7 h8 h9 (E' := fun tv ti _ => Best D (2048 * (i 1).val) tv ti) (wv := k0_pay54 (F := Ideal)) (wi := k0_pay55 (F := Ideal))
      (fun tv ti dd _ => by
        rw [(first_cond _ hn).1 h]; exact best_start D tv _ ti) ?_
    exact hl
  · refine runs_mono (E' := fun tv ti _ => Best D (2048 * (i 1).val) tv ti) (fun tv ti dd hE => hE.resolve_left fun h0 => h ((first_cond _ hn).2 h0)) ?_
    exact hl

variable (hd : ∀ r x, row (k0_pay56 (F := Ideal) c p w) r x = D r (2048 * (i 1).val + x.val))
  (hfin : ∀ r x, row (k0_pay56 (F := Ideal) c p w) r x < ⊤)

/-- What the body leaves: the eight nearest of the nodes up to the block's end, the outputs stored at a row's last block. -/
def bodyPost : sProp 𝕄 :=
  iprop(∃ (tv ti : S512x16.Idx → Elt Ideal EltTy.f32) (dd : S512x2048.Idx → Elt Ideal EltTy.f32), ⌜Best D (2048 * (i 1).val + 2048) tv ti⌝
    ∗ stg d M2 M3 M4 M5 M6 c p w (if k0_cond12 i = 1#1 then k0_pay18 (F := Ideal) (lower ti) else y5) (if k0_cond12 i = 1#1 then k0_pay17 (F := Ideal) (lower tv) else y6)
    ∗ scr (F := Ideal) d M7 M8 M9 tv ti dd)

include hd hfin

set_option maxHeartbeats 2000000 in
set_option maxRecDepth 65536 in
/-- The body, from the candidates before its block to the candidates after it. -/
theorem body_runs : Runs d M7 M8 M9 (stg d M2 M3 M4 M5 M6 c p w y5 y6) (Before i D)
    (cc0__topk_body (F := Ideal) i M2 h2 M3 h3 M4 h4 M5 h5 M6 h6 M7 h7 M8 h8 M9 h9) (fun _ => bodyPost d i M2 M3 M4 M5 M6 c p w y5 y6 D (M7 := M7) (M8 := M8) (M9 := M9)) := by
  have hn := ni_lt i
  rw [cc0__topk_body_eq_skeleton]
  unfold cc0__topk_body_skel
  refine runs_bind ?_
  refine part4_runs d h7 h8 h9 i M2 h2 M3 h3 M4 h4 M5 h5 M6 h6 c p w y5 y6 D _ fun tv0 ti0 dd0 hb => ?_
  generalize hu : VecWindow.window tv0 ![0, 7] S512x1.size inb_S512x16_S512x1_0_7 = u
  refine (?_ : Runs d M7 M8 M9 (stg d M2 M3 M4 M5 M6 c p w y5 y6) (fun tv ti _ => tv = tv0 ∧ ti = ti0) _ _) tv0 ti0 dd0 ⟨rfl, rfl⟩
  refine runs_bind ?_
  refine part5_runs h7 h8 h9 i M2 h2 M3 h3 M4 h4 M5 h5 M6 h6 (k0_pay56 (F := Ideal) c p w) (k0_pay57 (F := Ideal) c p w u) tv0 ti0 _ ?_
  have ga := G_anti (k0_pay59 (F := Ideal) (k0_pay57 (F := Ideal) c p w u))
  have hg : ∀ r, ∀ j < 8, ¬ G (k0_pay59 (F := Ideal) (k0_pay57 (F := Ideal) c p w u)) j →
      (Finset.univ.filter fun x => row (k0_pay56 (F := Ideal) c p w) r x < tv0 (ix2 r (lo 7))).card ≤ j := fun r j _ hj => by
    have h1 := few c p w u r j hj
    have h2 : u (ix2 r (0 : Fin 1)) = tv0 (ix2 r (lo 7)) := by rw [← hu]; exact window1 tv0 r (lo 7) 7 _ rfl
    rw [h2] at h1
    exact h1
  refine (?_ : Runs d M7 M8 M9 (stg d M2 M3 M4 M5 M6 c p w y5 y6) (Mid 5 (G (k0_pay59 (F := Ideal) (k0_pay57 (F := Ideal) c p w u))) (2048 * (i 1).val) (k0_pay56 (F := Ideal) c p w) tv0 ti0) _ _)
  refine runs_take h7 h8 h9 (E' := Mid 6 (G (k0_pay59 (F := Ideal) (k0_pay57 (F := Ideal) c p w u))) (2048 * (i 1).val) (k0_pay56 (F := Ideal) c p w) tv0 ti0) 13 inb_S512x16_S512x1_0_13
    (pv := k0_pay65 (F := Ideal)) (pi := k0_pay66 (F := Ideal) (BitVec.ofNat 32 (i 1).val)) (pd := k0_pay67 (F := Ideal))
    (c := hit (k0_pay59 (F := Ideal) (k0_pay57 (F := Ideal) c p w u)) 0x40A00000#32)
    (fun h tv ti dd hE => mid_take hn (by omega) (by omega) ((hit5 _).1 h) hE _ fun _ => rfl)
    (fun h tv ti dd hE => mid_no ga (fun h1 => h ((hit5 _).2 h1)) hE) ?_
  refine runs_take h7 h8 h9 (E' := Mid 7 (G (k0_pay59 (F := Ideal) (k0_pay57 (F := Ideal) c p w u))) (2048 * (i 1).val) (k0_pay56 (F := Ideal) c p w) tv0 ti0) 14 inb_S512x16_S512x1_0_14
    (pv := k0_pay65 (F := Ideal)) (pi := k0_pay66 (F := Ideal) (BitVec.ofNat 32 (i 1).val)) (pd := k0_pay67 (F := Ideal))
    (c := hit (k0_pay59 (F := Ideal) (k0_pay57 (F := Ideal) c p w u)) 0x40C00000#32)
    (fun h tv ti dd hE => mid_take hn (by omega) (by omega) ((hit6 _).1 h) hE _ fun _ => rfl)
    (fun h tv ti dd hE => mid_no ga (fun h1 => h ((hit6 _).2 h1)) hE) ?_
  refine runs_last h7 h8 h9 (E' := Mid 8 (G (k0_pay59 (F := Ideal) (k0_pay57 (F := Ideal) c p w u))) (2048 * (i 1).val) (k0_pay56 (F := Ideal) c p w) tv0 ti0) 15 inb_S512x16_S512x1_0_15
    (pv := k0_pay65 (F := Ideal)) (pi := k0_pay66 (F := Ideal) (BitVec.ofNat 32 (i 1).val))
    (c := hit (k0_pay59 (F := Ideal) (k0_pay57 (F := Ideal) c p w u)) 0x40E00000#32)
    (fun h tv ti dd hE => mid_take hn (by omega) (by omega) ((hit7 _).1 h) hE _ fun h8 => absurd h8 (by omega))
    (fun h tv ti dd hE => mid_no ga (fun h1 => h ((hit7 _).2 h1)) hE) ?_
  have hjoin : ∀ k : TProg (F := Ideal) PUnit, Runs d M7 M8 M9 (stg d M2 M3 M4 M5 M6 c p w y5 y6) (fun tv ti _ => Best D (2048 * (i 1).val + 2048) tv ti) k
        (fun _ => bodyPost d i M2 M3 M4 M5 M6 c p w y5 y6 D (M7 := M7) (M8 := M8) (M9 := M9)) →
      Runs d M7 M8 M9 (stg d M2 M3 M4 M5 M6 c p w y5 y6) (Mid 8 (G (k0_pay59 (F := Ideal) (k0_pay57 (F := Ideal) c p w u))) (2048 * (i 1).val) (k0_pay56 (F := Ideal) c p w) tv0 ti0)
        (if hit (k0_pay59 (F := Ideal) (k0_pay57 (F := Ideal) c p w u)) 0x00000000#32 = 1#1 then joinProg M7 M8 (fun v _ => bestVal v) bestIdx k else k)
        (fun _ => bodyPost d i M2 M3 M4 M5 M6 c p w y5 y6 D (M7 := M7) (M8 := M8) (M9 := M9)) := fun k hk =>
    runs_if (fun h => runs_join h7 h8 h9 (E' := fun tv ti _ => Best D (2048 * (i 1).val + 2048) tv ti)
        (fun tv ti dd hE => best_join D hd hfin hg ((hit0 _).1 h) hb hE) hk)
      (fun h => runs_mono (E' := fun tv ti _ => Best D (2048 * (i 1).val + 2048) tv ti)
        (fun tv ti dd hE => best_skip D hd hfin hg (fun h1 => h ((hit0 _).2 h1)) hb hE) hk)
  refine hjoin _ ?_
  refine runs_dite (fun h => ?_) (fun h => ?_)
  · refine emit_runs d h7 h8 h9 M2 h2 M3 h3 M4 h4 M5 h5 M6 h6 c p w y5 y6 _ _ _ fun tv ti dd hE => ?_
    rw [wp_pure]
    refine Entails.trans ?_ fupd_intro
    unfold bodyPost
    simp only [if_pos h]
    iintro H
    iexists tv, ti, dd
    isplitr; · ipureintro; exact hE
    iexact H
  · refine runs_pure _ fun tv ti dd hE => ?_
    unfold bodyPost
    simp only [if_neg h]
    iintro H
    iexists tv, ti, dd
    isplitr; · ipureintro; exact hE
    iexact H

end Cert.Proof.KernelIdeal

end
-- ==== Proof.KernelTop.lean ====
/-
  The top-8's pipeline over the extended reals: the distance of a row's point to a node as the body computes it, the
  eight nearest nodes, the pipeline's proof data, and what its region leaves in the two result arrays.
-/
module

public import proofs.«01_k».proof.Proof.KernelBody
public import proofs.«01_k».proof.Proof.KernelSum

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)
open Cert.Proof.TopEight Cert.Proof.KernelPay Cert.Proof.KernelMid

local notation "𝕄" => MT nD τ sig (HIx 1) (Elt Ideal) ℕ UU ℕ

/-! ## Distances -/

/-- The weighted squared distance of a point to a node, as the body computes it. -/
def dcell (C P : Fin 64 → EReal) (w : EReal) : EReal :=
  max (∑ x, C x * C x + ∑ x, P x * P x - Ideal.ofBits .f32 0x40000000#32 * ∑ x, C x * P x) 0
    * Ideal.div 1 (w * w + Ideal.ofBits .f32 0x322BCC77#32)

theorem pay56_apply (c : Vec Ideal S512x64 .f32) (p : Vec Ideal S64x2048 .f32) (w : Vec Ideal S1x2048 .f32) (r : Fin 512) (j : Fin 2048) :
    k0_pay56 (F := Ideal) c p w (ix2 r j) = dcell (fun x => c (ix2 r x)) (fun x => p (ix2 x j)) (w (ix2 (0 : Fin 1) j)) := by
  unfold dcell
  pointwise [k0_pay56]
  done

/-- The distance of query row `R` to node `a` of the padded arrays. -/
def distOf (C : S4096x64.Idx → EReal) (P : S64x100352.Idx → EReal) (W : S1x100352.Idx → EReal) (R : Fin 4096) (a : ℕ) : EReal :=
  if h : a < 100352 then
    dcell (fun x => C (ix2 (n0 := 4096) (n1 := 64) R x)) (fun x => P (ix2 (n0 := 64) (n1 := 100352) x ⟨a, h⟩)) (W (ix2 (n0 := 1) (n1 := 100352) 0 ⟨a, h⟩))
  else ⊤

/-- The eight nearest of the padded nodes. -/
def near (D : ℕ → EReal) : Fin 8 → ℕ := open Classical in if h : ∃ f, IsBest D (· < 100352) f then Classical.choose h else fun _ => 0

theorem near_eq (D : ℕ → EReal) (f : Fin 8 → ℕ) (h : IsBest D (· < 100352) f) : near D = f := by
  have hex : ∃ f, IsBest D (· < 100352) f := ⟨f, h⟩
  unfold near
  rw [dif_pos hex]
  exact (Classical.choose_spec hex).unique h

/-! ## The pipeline's proof data -/

variable (V : (c : Dev nD) → (b : Ref sig .tc) → Buf (Elt Ideal) ((c : Thread nD τ).loc b)) (O : Dev nD → CellTallies nD τ sig (HIx 1)) (n : ℕ)

/-- The blocks of the coordinates, of the positions and of the weights at point `t`. -/
abbrev cBlk (c : Dev nD) (t : Fin cfg0.N) : (cfg0.win 0).block.Idx → Elt Ideal (cfg0.win 0).elt :=
  ((cfg0.win 0).blk t).view.read (Elt Ideal) (V c main_arg0)
abbrev pBlk (c : Dev nD) (t : Fin cfg0.N) : (cfg0.win 1).block.Idx → Elt Ideal (cfg0.win 1).elt :=
  ((cfg0.win 1).blk t).view.read (Elt Ideal) (V c main_v2)
abbrev wBlk (c : Dev nD) (t : Fin cfg0.N) : (cfg0.win 2).block.Idx → Elt Ideal (cfg0.win 2).elt :=
  ((cfg0.win 2).blk t).view.read (Elt Ideal) (V c main_v3)

/-- The distances of the region's arrays. -/
abbrev DV (c : Dev nD) (R : Fin 4096) : ℕ → EReal := distOf (V c main_arg0) (V c main_v2) (V c main_v3) R

theorem qlt (t : Fin cfg0.N) : t.val / 49 < 8 := by
  have : t.val < 392 := lt_of_lt_of_eq t.isLt N_0
  omega

/-- The eight nearest of a block's rows, and their distances. -/
def nearBlk (c : Dev nD) (q : ℕ) (hq : q < 8) : S512x8.Idx → EReal := fun z => ((near (DV V c (rowAt q hq (z 0))) (z 1) : ℝ) : EReal)
def distBlk (c : Dev nD) (q : ℕ) (hq : q < 8) : S512x8.Idx → EReal := fun z => DV V c (rowAt q hq (z 0)) (near (DV V c (rowAt q hq (z 0))) (z 1))

/-- The scoped buffers the top-8 does not touch. -/
abbrev spare (c : Dev nD) : sProp 𝕄 :=
  Pipeline.scopedRestBut (Ix := HIx 1) (Name := ℕ) (U := UU) (Lvl := ℕ) (Val := Elt Ideal) spec0 c [cc0_scratch0, cc0_scratch1, cc0_scratch2]

/-- The three scratch buffers at given contents. -/
abbrev scrAt (c : Dev nD) (tv ti : S512x16.Idx → Elt Ideal EltTy.f32) (dd : S512x2048.Idx → Elt Ideal EltTy.f32) : sProp 𝕄 :=
  scr (F := Ideal) c (Memref.whole cc0_scratch0) (Memref.whole cc0_scratch1) (Memref.whole cc0_scratch2) tv ti dd

theorem scoped_split (c : Dev nD) :
    (Pipeline.scopedRest (Ix := HIx 1) (Name := ℕ) (U := UU) (Lvl := ℕ) (Val := Elt Ideal) spec0 c : sProp 𝕄)
      = iprop(((∃ f : Buf (Elt Ideal) ((c : Thread nD τ).loc cc0_scratch0), ((c : Thread nD τ).loc cc0_scratch0) ↦{fullShare} f)
          ∗ (∃ f : Buf (Elt Ideal) ((c : Thread nD τ).loc cc0_scratch1), ((c : Thread nD τ).loc cc0_scratch1) ↦{fullShare} f)
          ∗ (∃ f : Buf (Elt Ideal) ((c : Thread nD τ).loc cc0_scratch2), ((c : Thread nD τ).loc cc0_scratch2) ↦{fullShare} f)) ∗ spare c) :=
  Pipeline.scopedRest_split_of_list spec0 c [cc0_scratch0, cc0_scratch1, cc0_scratch2] (by decide) (by decide)

/-- The candidates before point `t`: at a row block's first node block anything, later the eight nearest so far. -/
def CandOK (c : Dev nD) (t : ℕ) (tv ti : S512x16.Idx → Elt Ideal EltTy.f32) : Prop :=
  t % 49 = 0 ∨ ∃ hq : t / 49 < 8, Best (fun r => DV V c (rowAt (t / 49) hq r)) (2048 * (t % 49)) tv ti

/-- The body's invariant before point `t`. -/
def Inv (c : Dev nD) (t : ℕ) : sProp 𝕄 :=
  iprop(∃ (tv ti : S512x16.Idx → Elt Ideal EltTy.f32) (dd : S512x2048.Idx → Elt Ideal EltTy.f32), ⌜CandOK V c t tv ti⌝ ∗ scrAt c tv ti dd ∗ spare c)

/-- The invariant holds of any scratch contents at the start, and gives the scratch back at the end. -/
theorem inv_start (c : Dev nD) : (Pipeline.scopedRest (Ix := HIx 1) (Name := ℕ) (U := UU) (Lvl := ℕ) (Val := Elt Ideal) spec0 c : sProp 𝕄) ⊢ Inv V c 0 := by
  rw [scoped_split]
  unfold Inv scrAt scr
  iintro ⟨⟨⟨%f0, H0⟩, ⟨%f1, H1⟩, ⟨%f2, H2⟩⟩, Hs⟩
  iexists f0, f1, f2
  rw [owns_whole, owns_whole, owns_whole]
  isplitr; · ipureintro; exact .inl rfl
  isplitr [Hs]; swap; (· iexact Hs)
  isplitl [H0]; · iexact H0
  isplitl [H1]; · iexact H1
  iexact H2
theorem inv_end (c : Dev nD) (t : ℕ) : Inv V c t ⊢ (Pipeline.scopedRest (Ix := HIx 1) (Name := ℕ) (U := UU) (Lvl := ℕ) (Val := Elt Ideal) spec0 c : sProp 𝕄) := by
  rw [scoped_split]
  unfold Inv scrAt scr
  simp only [owns_whole]
  iintro ⟨%f0, %f1, %f2, -, ⟨H0, H1, H2⟩, Hs⟩
  isplitr [Hs]; swap; (· iexact Hs)
  isplitl [H0]; · iexists _; iexact H0
  isplitl [H1]; · iexists _; iexact H1
  iexists _; iexact H2

/-- The proof data of the region entered at `V`, the core owing `O c` and having waited at or below level `n`: the inputs'
    buffers left as fetched, the outputs' at the eight nearest and at their weights. -/
def dat0 (c : Dev nD) : Dat τ (Elt Ideal) (HIx 1) ℕ UU ℕ cfg0 c where
  A w := V c (Pipeline.arrRef spec0 w)
  after w t := match w with
    | ⟨0, _⟩ => cBlk V c t
    | ⟨1, _⟩ => pBlk V c t
    | ⟨2, _⟩ => wBlk V c t
    | ⟨3, _⟩ => k0_pay18 (F := Ideal) (nearBlk V c (t.val / 49) (qlt t))
    | ⟨4, _⟩ => k0_pay17 (F := Ideal) (distBlk V c (t.val / 49) (qlt t))
  Φ t := Inv V c t.val
  q _ := fullShare
  owed _ := O c
  recorded _ := {p | (K (F := Ideal)).lev ((c : Thread nD τ), p.1) p.2 ≤ n}

theorem before0_0 (c : Dev nD) (t : Fin cfg0.N) (x : (cfg0.win 0).block.Idx → Elt Ideal (cfg0.win 0).elt) :
    (dat0 V O n c).before 0 t x = cBlk V c t :=
  ((dat0 V O n c).before_in_eq_fetched 0 rfl (fun _ => rfl) (fun _ _ _ => rfl) (fun _ => rfl) t x).trans rfl
theorem before0_1 (c : Dev nD) (t : Fin cfg0.N) (x : (cfg0.win 1).block.Idx → Elt Ideal (cfg0.win 1).elt) :
    (dat0 V O n c).before 1 t x = pBlk V c t :=
  ((dat0 V O n c).before_fetched 1 t (fetch0_1 t) x).trans rfl
theorem before0_2 (c : Dev nD) (t : Fin cfg0.N) (x : (cfg0.win 2).block.Idx → Elt Ideal (cfg0.win 2).elt) :
    (dat0 V O n c).before 2 t x = wBlk V c t :=
  ((dat0 V O n c).before_fetched 2 t (fetch0_2 t) x).trans rfl

/-! ## Where a block lies in its array -/

theorem coords0_0 (t : Fin cfg0.N) : ((grid0.coords t) 0).val = t.val / 49 := by
  refine (Pipeline.Grid.coords_val t 0 (S := 49) (B := 8) (by decide) (by decide)).trans ?_
  have := qlt t; omega
theorem coords0_1 (t : Fin cfg0.N) : ((grid0.coords t) 1).val = t.val % 49 := by
  refine (Pipeline.Grid.coords_val t 1 (S := 1) (B := 49) (by decide) (by decide)).trans ?_
  omega

theorem index0_0 : ∀ t : Fin grid0.N, win0_0.index t = ![t.val / 49, 0] := by decide +kernel
theorem index0_1 : ∀ t : Fin grid0.N, win0_1.index t = ![0, t.val % 49] := by decide +kernel
theorem index0_2 : ∀ t : Fin grid0.N, win0_2.index t = ![0, t.val % 49] := by decide +kernel
theorem index0_3 : ∀ t : Fin grid0.N, win0_3.index t = ![t.val / 49, 0] := by decide +kernel
theorem index0_4 : ∀ t : Fin grid0.N, win0_4.index t = ![t.val / 49, 0] := by decide +kernel

/-- Node `x` of the node block of point `t`. -/
def nodeAt (t : ℕ) (x : Fin 2048) : Fin 100352 := ⟨2048 * (t % 49) + x.val, by omega⟩

theorem emb0_0 (t : Fin cfg0.N) (y : S512x64.Idx) : ((cfg0.win 0).blk t).view.emb y
    = ix2 (n0 := 4096) (n1 := 64) (rowAt (t.val / 49) (qlt t) (y 0)) (y 1) := by
  funext a; apply Fin.ext
  refine (win0_0.rect_emb_val t y a).trans ?_
  rw [index0_0 t]
  fin_cases a
  · exact congrArg (· + (y 0).val) (Nat.mul_comm _ _)
  · show 0 * 64 + (y 1).val = (y 1).val; omega
theorem emb0_1 (t : Fin cfg0.N) (y : S64x2048.Idx) : ((cfg0.win 1).blk t).view.emb y
    = ix2 (n0 := 64) (n1 := 100352) (y 0) (nodeAt t.val (y 1)) := by
  funext a; apply Fin.ext
  refine (win0_1.rect_emb_val t y a).trans ?_
  rw [index0_1 t]
  fin_cases a
  · show 0 * 64 + (y 0).val = (y 0).val; omega
  · exact congrArg (· + (y 1).val) (Nat.mul_comm _ _)
theorem emb0_2 (t : Fin cfg0.N) (y : S1x2048.Idx) : ((cfg0.win 2).blk t).view.emb y
    = ix2 (n0 := 1) (n1 := 100352) (y 0) (nodeAt t.val (y 1)) := by
  funext a; apply Fin.ext
  refine (win0_2.rect_emb_val t y a).trans ?_
  rw [index0_2 t]
  fin_cases a
  · show 0 * 1 + (y 0).val = (y 0).val; omega
  · exact congrArg (· + (y 1).val) (Nat.mul_comm _ _)
theorem emb0_3 (t : Fin cfg0.N) (y : S512x8.Idx) : ((cfg0.win 3).blk t).view.emb y
    = ix2 (n0 := 4096) (n1 := 8) (rowAt (t.val / 49) (qlt t) (y 0)) (y 1) := by
  funext a; apply Fin.ext
  refine (win0_3.rect_emb_val t y a).trans ?_
  rw [index0_3 t]
  fin_cases a
  · exact congrArg (· + (y 0).val) (Nat.mul_comm _ _)
  · show 0 * 8 + (y 1).val = (y 1).val; omega
theorem emb0_4 (t : Fin cfg0.N) (y : S512x8.Idx) : ((cfg0.win 4).blk t).view.emb y
    = ix2 (n0 := 4096) (n1 := 8) (rowAt (t.val / 49) (qlt t) (y 0)) (y 1) := by
  funext a; apply Fin.ext
  refine (win0_4.rect_emb_val t y a).trans ?_
  rw [index0_4 t]
  fin_cases a
  · exact congrArg (· + (y 0).val) (Nat.mul_comm _ _)
  · show 0 * 8 + (y 1).val = (y 1).val; omega

/-- A block's distances are the arrays' distances of its rows to its nodes. -/
theorem blk_dist (c : Dev nD) (t : Fin cfg0.N) (r : Fin 512) (x : Fin 2048) :
    row (k0_pay56 (F := Ideal) (cBlk V c t) (pBlk V c t) (wBlk V c t)) r x
      = DV V c (rowAt (t.val / 49) (qlt t) r) (2048 * ((grid0.coords t) 1).val + x.val) := by
  refine (pay56_apply _ _ _ r x).trans ?_
  rw [coords0_1]
  have h : 2048 * (t.val % 49) + x.val < 100352 := (nodeAt t.val x).isLt
  unfold DV distOf
  rw [dif_pos h]
  have e0 : ∀ y, cBlk V c t (ix2 r y) = V c main_arg0 (ix2 (n0 := 4096) (n1 := 64) (rowAt (t.val / 49) (qlt t) r) y) :=
    fun y => congrArg (V c main_arg0) (emb0_0 t (ix2 r y))
  have e1 : ∀ y, pBlk V c t (ix2 y x) = V c main_v2 (ix2 (n0 := 64) (n1 := 100352) y (nodeAt t.val x)) :=
    fun y => congrArg (V c main_v2) (emb0_1 t (ix2 y x))
  have e2 : wBlk V c t (ix2 (0 : Fin 1) x) = V c main_v3 (ix2 (n0 := 1) (n1 := 100352) 0 (nodeAt t.val x)) :=
    congrArg (V c main_v3) (emb0_2 t (ix2 (0 : Fin 1) x))
  exact congr (congrArg₂ dcell (funext e0) (funext e1)) e2

/-! ## The body at a point -/

theorem last_cond (i : grid0.Coords) : k0_cond12 i = 1#1 ↔ (i 1).val = 48 := by
  have h := ni_lt i
  unfold k0_cond12
  dsimp only
  generalize (i 1).val = m at h ⊢
  interval_cases m <;> decide

/-- The candidates after a row block's last node block are its eight nearest, with their distances. -/
theorem lower_of_best (c : Dev nD) (q : ℕ) (hq : q < 8) (tv ti : S512x16.Idx → Elt Ideal EltTy.f32)
    (h : Best (fun r => DV V c (rowAt q hq r)) 100352 tv ti) : lower ti = nearBlk V c q hq ∧ lower tv = distBlk V c q hq := by
  have key : ∀ (r : Fin 512) (k : Fin 8), ti (ix2 r (lo k)) = ((near (DV V c (rowAt q hq r)) k : ℝ) : EReal)
      ∧ tv (ix2 r (lo k)) = DV V c (rowAt q hq r) (near (DV V c (rowAt q hq r)) k) := by
    intro r k
    rcases h r with ⟨h0, -⟩ | ⟨f, hf, hk⟩
    · exact absurd h0 (by decide)
    · rw [near_eq _ f hf]
      exact ⟨(hk k).2.2, (hk k).2.1⟩
  have e : ∀ (x : S512x16.Idx → Elt Ideal EltTy.f32) (z : S512x8.Idx), lower x z = x (ix2 (z 0) (lo (z 1))) := by
    intro x z
    have hz : z = ix2 (z 0) (z 1) := by funext a; fin_cases a <;> rfl
    exact (congrArg (lower x) hz).trans (window8 x (z 0) (lo (z 1)) 0 _ (z 1) (Nat.zero_add _).symm)
  exact ⟨funext fun z => (e ti z).trans (key (z 0) (z 1)).1, funext fun z => (e tv z).trans (key (z 0) (z 1)).2⟩

/-- The staging buffers at point `t`, the outputs' at `y5` and `y6`. -/
abbrev stgAt (c : Dev nD) (t : Fin cfg0.N) (y5 : S512x8.Idx → Elt Ideal EltTy.i32) (y6 : S512x8.Idx → Elt Ideal EltTy.f32) : sProp 𝕄 :=
  stg c (st0_0 t) (st0_1 t) (st0_2 t) (st0_3 t) (st0_4 t) (cBlk V c t) (pBlk V c t) (wBlk V c t) y5 y6

/-- The body at point `t`: from the invariant before it to the invariant after it, the outputs stored at a row block's last point. -/
theorem body_at (hfin : ∀ (c : Dev nD) (R : Fin 4096) (a : ℕ), a < 100352 → DV V c R a < ⊤) (c : Dev nD) (t : Fin cfg0.N)
    (y5 : S512x8.Idx → Elt Ideal EltTy.i32) (y6 : S512x8.Idx → Elt Ideal EltTy.f32) :
    iprop(Inv V c t.val ∗ stgAt V c t y5 y6)
      ⊢ wp frame (wpE (defs₀ (F := Ideal)) 𝒱₀ (T c) none) Set.univ (bodyAt0 (F := Ideal) t)
          fun _ => iprop(Inv V c (t.val + 1) ∗ stgAt V c t
            (if k0_cond12 (grid0.coords t) = 1#1 then k0_pay18 (F := Ideal) (nearBlk V c (t.val / 49) (qlt t)) else y5)
            (if k0_cond12 (grid0.coords t) = 1#1 then k0_pay17 (F := Ideal) (distBlk V c (t.val / 49) (qlt t)) else y6)) := by
  have hruns := body_runs c (Memref.isWhole_whole (cc0_scratch0 : Ref sig .tc)) (Memref.isWhole_whole (cc0_scratch1 : Ref sig .tc)) (Memref.isWhole_whole (cc0_scratch2 : Ref sig .tc))
    (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (cBlk V c t) (pBlk V c t) (wBlk V c t) y5 y6 (fun r => DV V c (rowAt (t.val / 49) (qlt t) r))
    (blk_dist V c t) (fun r x => by
      rw [blk_dist V c t r x, coords0_1]; exact hfin c _ _ (nodeAt t.val x).isLt)
  conv_lhs => unfold Inv
  iintro ⟨⟨%tv, %ti, %dd, %hc, Hscr, Hsp⟩, Hstg⟩
  iapply (wp_wand frame (wpE (defs₀ (F := Ideal)) 𝒱₀ (T c) none) Set.univ) $$ [Hscr Hstg]
  · iapply (hruns tv ti dd (by
      rcases hc with h | ⟨hq, h⟩
      · exact .inl ((coords0_1 t).trans h)
      · right; rw [coords0_1]; exact h))
    isplitl [Hstg]; · iexact Hstg
    iexact Hscr
  iintro %_ Hpost
  unfold bodyPost
  icases Hpost with ⟨%tv', %ti', %dd', %hb, Hstg, Hscr⟩
  rw [coords0_1] at hb
  have hm : t.val % 49 < 49 := Nat.mod_lt _ (by decide)
  isplitl [Hscr Hsp]
  · unfold Inv
    iexists tv', ti', dd'
    isplitr
    · ipureintro
      by_cases h48 : t.val % 49 = 48
      · left; omega
      · right
        have e1 : (t.val + 1) / 49 = t.val / 49 := by omega
        have e2 : (t.val + 1) % 49 = t.val % 49 + 1 := by omega
        rw [e1, e2]
        exact ⟨qlt t, hb⟩
    isplitl [Hscr]; · iexact Hscr
    iexact Hsp
  by_cases h : k0_cond12 (grid0.coords t) = 1#1
  · have h48 : t.val % 49 = 48 := by rw [← coords0_1]; exact (last_cond _).1 h
    rw [h48] at hb
    obtain ⟨e1, e2⟩ := lower_of_best V c _ (qlt t) tv' ti' hb
    rw [← e1, ← e2]
    iexact Hstg
  · simp only [if_neg h]
    iexact Hstg

theorem idle_3 (t : Fin cfg0.N) : idle0 3 (grid0.coords t) = !(k0_cond12 (grid0.coords t) == 1#1) := rfl

/-- The body meets the pipeline's obligation. -/
theorem obligation0 (hfin : ∀ (c : Dev nD) (R : Fin 4096) (a : ℕ), a < 100352 → DV V c R a < ⊤) (c : Dev nD) :
    Pipeline.BodyObligation (dat0 V O n c) (defs₀ (F := Ideal)) 𝒱₀ none Set.univ := fun t => by
  rw [bigSep_W0, bigSep_W0]
  rw [show (dat0 V O n c).Φ t.castSucc = Inv V c t.val from rfl, show (dat0 V O n c).Φ t.succ = Inv V c (t.val + 1) from rfl,
    show (dat0 V O n c).owesAt none t.succ = (dat0 V O n c).owesAt none t.castSucc from rfl]
  have hm : t.val % 49 < 49 := Nat.mod_lt _ (by decide)
  dsimp only
  rw [idle_3 t]
  by_cases h : k0_cond12 (grid0.coords t) = 1#1
  · rw [show (!(k0_cond12 (grid0.coords t) == 1#1)) = false by rw [h]; rfl]
    dsimp only
    iintro ⟨HΦ, Howes, ⟨%d0, H0⟩, ⟨%d1, H1⟩, ⟨%d2, H2⟩, ⟨%d3, H3⟩, ⟨%d4, H4⟩⟩
    rw [before0_0, before0_1, before0_2]
    iapply (wp_wand frame (wpE (defs₀ (F := Ideal)) 𝒱₀ (T c) none) Set.univ) $$ [HΦ H0 H1 H2 H3 H4]
    · iapply (body_at V hfin c t ((dat0 V O n c).before 3 t d3) ((dat0 V O n c).before 4 t d4))
      isplitl [HΦ]; · iexact HΦ
      isplitl [H0]; · iexact H0
      isplitl [H1]; · iexact H1
      isplitl [H2]; · iexact H2
      isplitl [H3]; · iexact H3
      iexact H4
    simp only [if_pos h]
    iintro %_ ⟨HΦ, H0, H1, H2, H3, H4⟩
    isplitl [HΦ]; · iexact HΦ
    isplitl [Howes]; · iexact Howes
    isplitl [H0]; · iexact H0
    isplitl [H1]; · iexact H1
    isplitl [H2]; · iexact H2
    isplitl [H3]; · iexact H3
    iexact H4
  · have h48 : ¬ t.val % 49 = 48 := fun e => h ((last_cond _).2 ((coords0_1 t).trans e))
    have f3 : (win0 3).flush t = false := by rw [← Bool.not_eq_true]; exact fun e => h48 ((flush0_3 t).1 e)
    have f4 : (win0 4).flush t = false := by rw [← Bool.not_eq_true]; exact fun e => h48 ((flush0_4 t).1 e)
    rw [show (!(k0_cond12 (grid0.coords t) == 1#1)) = true by simp [h], f3, f4]
    dsimp only
    iintro ⟨HΦ, Howes, ⟨%d0, H0⟩, ⟨%d1, H1⟩, ⟨%d2, H2⟩, ⟨%d3, H3⟩, ⟨%d4, H4⟩⟩
    rw [before0_0, before0_1, before0_2]
    iapply (wp_wand frame (wpE (defs₀ (F := Ideal)) 𝒱₀ (T c) none) Set.univ) $$ [HΦ H0 H1 H2 H3 H4]
    · iapply (body_at V hfin c t ((dat0 V O n c).before 3 t d3) ((dat0 V O n c).before 4 t d4))
      isplitl [HΦ]; · iexact HΦ
      isplitl [H0]; · iexact H0
      isplitl [H1]; · iexact H1
      isplitl [H2]; · iexact H2
      isplitl [H3]; · iexact H3
      iexact H4
    simp only [if_neg h]
    iintro %_ ⟨HΦ, H0, H1, H2, H3, H4⟩
    isplitl [HΦ]; · iexact HΦ
    isplitl [Howes]; · iexact Howes
    isplitl [H0]; · iexact H0
    isplitl [H1]; · iexact H1
    isplitl [H2]; · iexact H2
    isplitl [H3]; · iexists d3; iexact H3
    iexists d4; iexact H4

/-! ## What the region leaves -/

/-- The eight nearest of every row, as written; and their weights. -/
def idxArr (D : Fin 4096 → ℕ → EReal) : S4096x8.Idx → BitVec 32 := fun j =>
  k0_pay18 (F := Ideal) (fun z : S512x8.Idx => ((near (D (rowAt ((j 0).val / 512) (by have := (j 0).isLt; change (j 0).val < 4096 at this; omega) (z 0))) (z 1) : ℝ) : EReal))
    (ix2 (n0 := 512) (n1 := 8) ⟨(j 0).val % 512, Nat.mod_lt _ (by decide)⟩ (j 1))
def wtArr (D : Fin 4096 → ℕ → EReal) : S4096x8.Idx → EReal := fun j =>
  k0_pay17 (F := Ideal) (fun z : S512x8.Idx => D (rowAt ((j 0).val / 512) (by have := (j 0).isLt; change (j 0).val < 4096 at this; omega) (z 0))
      (near (D (rowAt ((j 0).val / 512) (by have := (j 0).isLt; change (j 0).val < 4096 at this; omega) (z 0))) (z 1)))
    (ix2 (n0 := 512) (n1 := 8) ⟨(j 0).val % 512, Nat.mod_lt _ (by decide)⟩ (j 1))

/-- An array read at a row of a block, split back into the block and the row in it. -/
theorem at_row {α : Type} (g : (q : ℕ) → q < 8 → S512x8.Idx → α) (q : ℕ) (hq : q < 8) (y : S512x8.Idx) (h : (rowAt q hq (y 0)).val / 512 < 8) :
    g ((rowAt q hq (y 0)).val / 512) h (ix2 (n0 := 512) (n1 := 8) ⟨(rowAt q hq (y 0)).val % 512, Nat.mod_lt _ (by decide)⟩ (y 1)) = g q hq y := by
  have hy : (y 0).val < 512 := (y 0).isLt
  have h1 : (rowAt q hq (y 0)).val / 512 = q := by show (512 * q + (y 0).val) / 512 = q; omega
  have h2 : (rowAt q hq (y 0)).val % 512 = (y 0).val := by show (512 * q + (y 0).val) % 512 = _; omega
  have e : ix2 (n0 := 512) (n1 := 8) ⟨(rowAt q hq (y 0)).val % 512, Nat.mod_lt _ (by decide)⟩ (y 1) = y := by
    funext a; fin_cases a
    · exact Fin.ext h2
    · rfl
  rw [e]
  congr 1

theorem covers0_3 : win0_3.Covers := by decide +kernel
theorem covers0_4 : win0_4.Covers := by decide +kernel

theorem final0_3 (c : Dev nD) : (dat0 V O n c).arrAt 3 cfg0.N = idxArr (DV V c) := by
  refine (dat0 V O n c).arrAt_eq_of_cover 3 (idxArr (DV V c)) ?_ (covers0_3.cover _ (Memref.isWhole_whole _))
  intro t _
  funext y
  show k0_pay18 (F := Ideal) (nearBlk V c (t.val / 49) (qlt t)) y = idxArr (DV V c) (((cfg0.win 3).blk t).view.emb y)
  rw [emb0_3 t y]
  exact (at_row (fun q hq => k0_pay18 (F := Ideal) (nearBlk V c q hq)) _ (qlt t) y _).symm
theorem final0_4 (c : Dev nD) : (dat0 V O n c).arrAt 4 cfg0.N = wtArr (DV V c) := by
  refine (dat0 V O n c).arrAt_eq_of_cover 4 (wtArr (DV V c)) ?_ (covers0_4.cover _ (Memref.isWhole_whole _))
  intro t _
  funext y
  show k0_pay17 (F := Ideal) (distBlk V c (t.val / 49) (qlt t)) y = wtArr (DV V c) (((cfg0.win 4).blk t).view.emb y)
  rw [emb0_4 t y]
  exact (at_row (fun q hq => k0_pay17 (F := Ideal) (distBlk V c q hq)) _ (qlt t) y _).symm

end Cert.Proof.KernelIdeal

end
-- ==== Proof.KernelRegs.lean ====
/-
  The kernel's two TensorCore regions over the extended reals, one per pipeline of @main: the top-8's, entered before the
  core's SparseCore call, and the weighted sum's, entered after it.
-/
module

public import proofs.«01_k».proof.Proof.KernelTop

@[expose] public section

noncomputable section

namespace Cert.Proof.KernelIdeal

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat)

local notation "𝕄" => MT nD τ sig (HIx 1) (Elt Ideal) ℕ UU ℕ

/-- The contents of a core's buffers. -/
abbrev Cont : Type := (c : Dev nD) → (b : Ref sig .tc) → Buf (Elt Ideal) ((c : Thread nD τ).loc b)

/-- The launch's tables of prefetched words: none. -/
abbrev adm : (p : Fin 2) → (pcfgs (F := Ideal) p).Adm := fun p => (cfgs p).toPCfg_adm

/-- The proof data of the program's pipelines, entered at `V`, `O` owed and `n` the highest level waited at, each its own. -/
def pdats (V₀ V₁ : Cont) (O₀ O₁ : Dev nD → CellTallies nD τ sig (HIx 1)) (n₀ n₁ : ℕ) :
    (p : Fin 2) → (c : Dev nD) → Dat τ (Elt Ideal) (HIx 1) ℕ UU ℕ (Pipeline.pin (pcfgs (F := Ideal)) adm p) c
  | ⟨0, _⟩ => fun c => dat0 V₀ O₀ n₀ c
  | ⟨1, _⟩ => fun c => dat1 V₁ O₁ n₁ c

variable (V₀ V₁ : Cont) (O₀ O₁ : Dev nD → CellTallies nD τ sig (HIx 1)) (n₀ n₁ : ℕ) (V' : Cont)

/-- What the core owes, and where it has waited. -/
abbrev owesB (O : Dev nD → CellTallies nD τ sig (HIx 1)) (n : ℕ) (c : Dev nD) : sProp 𝕄 :=
  iprop(∃ W, ⌜(K (F := Ideal)).WBelow (T c) W n⌝ ∗ owes (T c) (O c) W)

set_option backward.isDefEq.respectTransparency.types false in
/-- The top-8's region: entered with the unscoped buffers at `V₀`, left with them at `V'`, which is `V₀` but for the
    two results' arrays, at the eight nearest and at their weights. -/
def reg0 (hO : ∀ c g, O₀ c g none = 0) (hfin : ∀ (c : Dev nD) (R : Fin 4096) (a : ℕ), a < 100352 → DV V₀ c R a < ⊤)
    (hV'_idx : ∀ c, V' c main_v4_0 = idxArr (DV V₀ c)) (hV'_wt : ∀ c, V' c main_v4_1 = wtArr (DV V₀ c))
    (hV'_ne : ∀ c (b : Ref sig .tc), b ≠ main_v4_0 → b ≠ main_v4_1 → V' c b = V₀ c b) :
    Pipeline.RegionSeg (pcfgs (F := Ideal)) adm (pdats V₀ V₁ O₀ O₁ n₀ n₁) none defs₀ 𝒱₀ (K (F := Ideal)).L (K (F := Ideal)).lev 0 where
  win := launch0.win.to₀
  block_pos := launch0.block_pos
  stage_whole := launch0.stage_whole
  K := PEmpty
  osem k := k.elim
  ho := Pipeline.OwnSemFacts.none _
  hbody c := (obligation0 V₀ O₀ n₀ hfin c).loose
  hwaits c := Pipeline.cellsWaits_intro (Pipeline.pin (pcfgs (F := Ideal)) adm) (pdats V₀ V₁ O₀ O₁ n₀ n₁) none 0 c fun w s t =>
    (K (F := Ideal)).mayWait_none _ (hO c)
  pre c := iprop(unscopedBufs c (V₀ c) ∗ owesB O₀ n₀ c)
  post c := iprop(unscopedBufs c (V' c) ∗ owesB O₀ n₀ c)
  X _ := BI.emp
  Y _ := BI.emp
  Z c := Pipeline.unscopedRest (Ix := HIx 1) (Name := ℕ) (U := UU) (Lvl := ℕ) spec0 c (V₀ c)
  hentry c := by
    rw [Pipeline.ownSems0_none]
    have hsplit := Pipeline.arrays_of_unscopedBufs (p := 0) (pcfgs (F := Ideal)) adm (pdats V₀ V₁ O₀ O₁ n₀ n₁) launch0.win launch0.arr_whole c
      ((pdats V₀ V₁ O₀ O₁ n₀ n₁ 0 c).share_full fun _ => rfl) (V₀ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V₀ V₁ O₀ O₁ n₀ n₁ 0 c).Φ 0 = Inv V₀ c 0 from rfl]
    iintro ⟨-, -, Hr⟩; iapply (inv_start V₀ c); iexact Hr
  hout c := by
    rw [Pipeline.ownSems0_none, show (pdats V₀ V₁ O₀ O₁ n₀ n₁ 0 c).Φ (Fin.last (Pipeline.pin (pcfgs (F := Ideal)) adm 0).N) = Inv V₀ c (Pipeline.pin (pcfgs (F := Ideal)) adm 0).N from rfl]
    iintro Hr
    isplitr; · iempintro
    isplitr; · iempintro
    iapply (inv_end V₀ c _); iexact Hr
  hexit c := by
    have hjoin := Pipeline.unscopedBufs_of_arrays (p := 0) (pcfgs (F := Ideal)) adm (Ix := HIx 1) (Name := ℕ) (U := UU) (Lvl := ℕ) launch0.win launch0.arr_whole c
      (pdats V₀ V₁ O₀ O₁ n₀ n₁) ((pdats V₀ V₁ O₀ O₁ n₀ n₁ 0 c).share_full fun _ => rfl) (V₀ c) (V' c) ((pdats V₀ V₁ O₀ O₁ n₀ n₁ 0 c).arrAt · cfg0.N)
      (fun w => by
        fin_cases w
        · exact ((pdats V₀ V₁ O₀ O₁ n₀ n₁ 0 c).arrAt_in 0 rfl _).trans (hV'_ne c main_arg0 (by decide) (by decide)).symm
        · exact ((pdats V₀ V₁ O₀ O₁ n₀ n₁ 0 c).arrAt_in 1 rfl _).trans (hV'_ne c main_v2 (by decide) (by decide)).symm
        · exact ((pdats V₀ V₁ O₀ O₁ n₀ n₁ 0 c).arrAt_in 2 rfl _).trans (hV'_ne c main_v3 (by decide) (by decide)).symm
        · exact (final0_3 V₀ O₀ n₀ c).trans (hV'_idx c).symm
        · exact (final0_4 V₀ O₀ n₀ c).trans (hV'_wt c).symm)
      (fun b hb => hV'_ne c b (fun h => hb (h ▸ Finset.mem_image.mpr ⟨3, Finset.mem_univ _, rfl⟩)) (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

set_option backward.isDefEq.respectTransparency.types false in
/-- The weighted sum's region: entered with the unscoped buffers at `V₁`, left with them at `V'`, which is `V₁` but for the
    result's array, at the weighted sum. -/
def reg1 (hO : ∀ c g, O₁ c g none = 0) (hV'_out : ∀ c, V' c main_v8 = sumArr (F := Ideal) (V₁ c main_v7) (V₁ c main_v4_1))
    (hV'_ne : ∀ c (b : Ref sig .tc), b ≠ main_v8 → V' c b = V₁ c b) :
    Pipeline.RegionSeg (pcfgs (F := Ideal)) adm (pdats V₀ V₁ O₀ O₁ n₀ n₁) none defs₀ 𝒱₀ (K (F := Ideal)).L (K (F := Ideal)).lev 1 where
  win := launch2.win.to₀
  block_pos := launch2.block_pos
  stage_whole := launch2.stage_whole
  K := PEmpty
  osem k := k.elim
  ho := Pipeline.OwnSemFacts.none _
  hbody c := (obligation1 V₁ O₁ n₁ c).loose
  hwaits c := Pipeline.cellsWaits_intro (Pipeline.pin (pcfgs (F := Ideal)) adm) (pdats V₀ V₁ O₀ O₁ n₀ n₁) none 1 c fun w s t =>
    (K (F := Ideal)).mayWait_none _ (hO c)
  pre c := iprop(unscopedBufs c (V₁ c) ∗ owesB O₁ n₁ c)
  post c := iprop(unscopedBufs c (V' c) ∗ owesB O₁ n₁ c)
  X _ := BI.emp
  Y _ := BI.emp
  Z c := Pipeline.unscopedRest (Ix := HIx 1) (Name := ℕ) (U := UU) (Lvl := ℕ) spec2 c (V₁ c)
  hentry c := by
    rw [Pipeline.ownSems0_none]
    have hsplit := Pipeline.arrays_of_unscopedBufs (p := 1) (pcfgs (F := Ideal)) adm (pdats V₀ V₁ O₀ O₁ n₀ n₁) launch2.win launch2.arr_whole c
      ((pdats V₀ V₁ O₀ O₁ n₀ n₁ 1 c).share_full fun _ => rfl) (V₁ c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V₀ V₁ O₀ O₁ n₀ n₁ 1 c).Φ 0 = Pipeline.scopedRest (Ix := HIx 1) (Name := ℕ) (U := UU) (Lvl := ℕ) (Val := Elt Ideal) spec2 c from rfl]
    iintro ⟨-, -, Hr⟩; iexact Hr
  hout c := by
    rw [Pipeline.ownSems0_none, show (pdats V₀ V₁ O₀ O₁ n₀ n₁ 1 c).Φ (Fin.last (Pipeline.pin (pcfgs (F := Ideal)) adm 1).N)
      = Pipeline.scopedRest (Ix := HIx 1) (Name := ℕ) (U := UU) (Lvl := ℕ) (Val := Elt Ideal) spec2 c from rfl]
    iintro Hr
    isplitr; · iempintro
    isplitr; · iempintro
    iexact Hr
  hexit c := by
    have hjoin := Pipeline.unscopedBufs_of_arrays (p := 1) (pcfgs (F := Ideal)) adm (Ix := HIx 1) (Name := ℕ) (U := UU) (Lvl := ℕ) launch2.win launch2.arr_whole c
      (pdats V₀ V₁ O₀ O₁ n₀ n₁) ((pdats V₀ V₁ O₀ O₁ n₀ n₁ 1 c).share_full fun _ => rfl) (V₁ c) (V' c) ((pdats V₀ V₁ O₀ O₁ n₀ n₁ 1 c).arrAt · cfg2.N)
      (fun w => by
        fin_cases w
        · exact ((pdats V₀ V₁ O₀ O₁ n₀ n₁ 1 c).arrAt_in 0 rfl _).trans (hV'_ne c main_v7 (by decide)).symm
        · exact ((pdats V₀ V₁ O₀ O₁ n₀ n₁ 1 c).arrAt_in 1 rfl _).trans (hV'_ne c main_v4_1 (by decide)).symm
        · exact (final1 V₁ O₁ n₁ c).trans (hV'_out c).symm)
      (fun b hb => hV'_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.KernelIdeal

end
-- ==== Proof.KernelRun.lean ====
/-
  The whole kernel, run over the extended reals: @main on the TensorCore (the padding and transposition, the top-8's
  region, the row numbers flattened, the SparseCore call, the gathered rows shaped, the weighted sum's region), the
  launch's ghost state, and the program's run with the values it leaves.
-/
module

public import proofs.«01_k».proof.Proof.KernelRegs

@[expose] public section

noncomputable section

namespace Cert.Proof.KernelIdeal

open Cert.KernelIdeal Cert.KernelIdeal.Gen

open Idealize.ShloMosaic
open Idealize.ShloMosaic.TcCoe
open Idealize.ShloMosaic.StableHlo (held wp_hlo_within)
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.TopEight Cert.Proof.KernelPay Cert.Proof.KernelMid

local notation "𝕄" => MT nD τ sig (HIx 1) (Elt Ideal) ℕ UU ℕ

variable (m : (ℓ : Loc nD τ sig) → Buf (Elt Ideal) ℓ) (ρ : Dev nD → PrngReg)

/-! ## The host's operations and the contents they leave -/

abbrev dref (b : Ref sig .tc) : DevRef τ sig := Proc.devRef .tc b

abbrev opFar : HloOp τ sig (Elt Ideal) := StableHlo.nullary main_cst (constant (F := Ideal) S_ .f32 0x49742400#32)
abbrev opFarC : HloOp τ sig (Elt Ideal) := StableHlo.TRef.unary (.of main_cst : StableHlo.TRef sig ⟨S_, .f32⟩) main_call0.v0 id
abbrev opPad : HloOp τ sig (Elt Ideal) := StableHlo.TRef.binary (.of main_arg1 : StableHlo.TRef sig ⟨S100000x64, .f32⟩) main_call0.v0 main_call0.v1
  (fun x v => pad S100352x64 ![0, 0] ![352, 0] ![0, 0] x v pads_S100000x64_S100352x64_03520_000 h_S_)
abbrev opZero : HloOp τ sig (Elt Ideal) := StableHlo.nullary main_c (constantI S_ 32 0#32)
abbrev opZeroC : HloOp τ sig (Elt Ideal) := StableHlo.TRef.unary (.of main_c : StableHlo.TRef sig ⟨S_, .i32⟩) main_call1.v0 (sitofp (F := Ideal) .f32)
abbrev opPadW : HloOp τ sig (Elt Ideal) := StableHlo.TRef.binary (.of main_arg2 : StableHlo.TRef sig ⟨S100000, .f32⟩) main_call1.v0 main_call1.v1
  (fun x v => pad S100352 ![0] ![352] ![0] x v pads_S100000_S100352_03520 h_S_)
abbrev opTr : HloOp τ sig (Elt Ideal) := StableHlo.unary main_v0 main_v2
  ((transpose S64x100352 [1, 0] · transposes_S100352x64_S64x100352_1_0) : (⟨S100352x64, .f32⟩ : BufTy).Contents (Elt Ideal) → (⟨S64x100352, .f32⟩ : BufTy).Contents (Elt Ideal))
abbrev opRow : HloOp τ sig (Elt Ideal) := StableHlo.unary main_v1 main_v3
  (broadcastInDim S1x100352 ![1] bcast_S100352_S1x100352_1 : (⟨S100352, .f32⟩ : BufTy).Contents (Elt Ideal) → (⟨S1x100352, .f32⟩ : BufTy).Contents (Elt Ideal))
abbrev opFlat : HloOp τ sig (Elt Ideal) := StableHlo.reshape main_v4_0 main_v5 (rfl : (.i32 : EltTy) = .i32) shapeCasts_S4096x8_S32768
abbrev opShape : HloOp τ sig (Elt Ideal) := StableHlo.reshape main_v6 main_v7 (rfl : (.f32 : EltTy) = .f32) shapeCasts_S32768x128_S4096x8x128

/-- The buffers @main's host operations run on. -/
abbrev SU : Finset (DevRef τ sig) := Pipeline.ucRefs τ sig

def V0 (d : Dev nD) : Valuation τ sig (Elt Ideal) := fun b => m (d, b)
def W1 (d : Dev nD) : Valuation τ sig (Elt Ideal) := opFar.result (V0 m d)
def W2 (d : Dev nD) : Valuation τ sig (Elt Ideal) := opFarC.result (W1 m d)
def W3 (d : Dev nD) : Valuation τ sig (Elt Ideal) := opPad.result (W2 m d)
def W4 (d : Dev nD) : Valuation τ sig (Elt Ideal) := opZero.result (W3 m d)
def W5 (d : Dev nD) : Valuation τ sig (Elt Ideal) := opZeroC.result (W4 m d)
def W6 (d : Dev nD) : Valuation τ sig (Elt Ideal) := opPadW.result (W5 m d)
def W7 (d : Dev nD) : Valuation τ sig (Elt Ideal) := opTr.result (W6 m d)
/-- As the top-8's region is entered. -/
def Va (d : Dev nD) : Valuation τ sig (Elt Ideal) := opRow.result (W7 m d)

/-- The contents the regions speak of. -/
abbrev cont (W : Dev nD → Valuation τ sig (Elt Ideal)) : Cont := fun c b => W c (Proc.devRef .tc b)
/-- The distances of the padded arrays. -/
abbrev DA (d : Dev nD) : Fin 4096 → ℕ → EReal := DV (cont (Va m)) d

/-- After the top-8; with the row numbers flattened; after the gather; with the gathered rows shaped; after the weighted sum. -/
def Vb (d : Dev nD) : Valuation τ sig (Elt Ideal) := Function.update (Function.update (Va m d) (dref main_v4_0) (idxArr (DA m d))) (dref main_v4_1) (wtArr (DA m d))
def Vc (d : Dev nD) : Valuation τ sig (Elt Ideal) := opFlat.result (Vb m d)
abbrev cx0 (d : Dev nD) : Buf (Elt Ideal) (xLoc d) := Vc m d (dref main_arg3)
abbrev ci0 (d : Dev nD) : Buf (Elt Ideal) (iLoc d) := Vc m d (dref main_v5)
abbrev co0 (d : Dev nD) : Buf (Elt Ideal) (oLoc d) := Vc m d (dref main_v6)
def Vd (d : Dev nD) : Valuation τ sig (Elt Ideal) := Function.update (Vc m d) (dref main_v6) (gathAt (cx0 m) (ci0 m) d)
def Ve (d : Dev nD) : Valuation τ sig (Elt Ideal) := opShape.result (Vd m d)
/-- The result: the weighted sum of the gathered rows. -/
def out (d : Dev nD) : S4096x128.Idx → EReal := sumArr (F := Ideal) (Ve m d (dref main_v7)) (Ve m d (dref main_v4_1))
def Vf (d : Dev nD) : Valuation τ sig (Elt Ideal) := Function.update (Ve m d) (dref main_v8) (out m d)

theorem Vf_out (d : Dev nD) : Vf m d (dref main_v8) = out m d := Function.update_self _ _ _
theorem Vf_ne (d : Dev nD) (b : DevRef τ sig) (hb : b ≠ dref main_v8) : Vf m d b = Ve m d b := Function.update_of_ne hb _ _
theorem Ve_ne (d : Dev nD) (b : DevRef τ sig) (hb : b ≠ dref main_v7) : Ve m d b = Vd m d b :=
  opShape.result_of_not_mem _ (show b ∉ ({dref main_v7} : Finset (DevRef τ sig)) from fun h => hb (Finset.mem_singleton.1 h))
theorem Vd_ne (d : Dev nD) (b : DevRef τ sig) (hb : b ≠ dref main_v6) : Vd m d b = Vc m d b := Function.update_of_ne hb _ _
theorem Vd_o (d : Dev nD) : Vd m d (dref main_v6) = gathAt (cx0 m) (ci0 m) d := Function.update_self _ _ _
theorem Vc_ne (d : Dev nD) (b : DevRef τ sig) (hb : b ≠ dref main_v5) : Vc m d b = Vb m d b :=
  opFlat.result_of_not_mem _ (show b ∉ ({dref main_v5} : Finset (DevRef τ sig)) from fun h => hb (Finset.mem_singleton.1 h))
theorem Vb_wt (d : Dev nD) : Vb m d (dref main_v4_1) = wtArr (DA m d) := Function.update_self _ _ _
theorem Vb_idx (d : Dev nD) : Vb m d (dref main_v4_0) = idxArr (DA m d) :=
  (Function.update_of_ne (by decide) _ _).trans (Function.update_self _ _ _)
theorem Vb_ne (d : Dev nD) (b : DevRef τ sig) (h0 : b ≠ dref main_v4_0) (h1 : b ≠ dref main_v4_1) : Vb m d b = Va m d b :=
  (Function.update_of_ne h1 _ _).trans (Function.update_of_ne h0 _ _)
theorem Va_ne (d : Dev nD) (b : DevRef τ sig) (hb : b ∉ ({dref main_cst, dref main_call0_v0, dref main_v0, dref main_c, dref main_call1_v0, dref main_v1, dref main_v2, dref main_v3} : Finset (DevRef τ sig))) :
    Va m d b = m (d, b) := by
  simp only [Finset.mem_insert, Finset.mem_singleton, not_or] at hb
  obtain ⟨h1, h2, h3, h4, h5, h6, h7, h8⟩ := hb
  have e (op : HloOp τ sig (Elt Ideal)) (r : DevRef τ sig) (hw : op.writes = {r}) (hr : b ≠ r) (W : Valuation τ sig (Elt Ideal)) : op.result W b = W b :=
    op.result_of_not_mem _ (by rw [hw]; exact fun h => hr (Finset.mem_singleton.1 h))
  unfold Va W7 W6 W5 W4 W3 W2 W1 V0
  rw [e opRow _ rfl h8, e opTr _ rfl h7, e opPadW _ rfl h6, e opZeroC _ rfl h5, e opZero _ rfl h4, e opPad _ rfl h3, e opFarC _ rfl h2, e opFar _ rfl h1]

/-- The arguments end as they began. -/
theorem Vf_arg (d : Dev nD) (b : Ref sig .tc) (hb : b ∈ ({main_arg0, main_arg1, main_arg2, main_arg3} : Finset (Ref sig .tc))) :
    Vf m d (dref b) = m ((SparseCore.T d).loc b) := by
  simp only [Finset.mem_insert, Finset.mem_singleton] at hb
  rcases hb with rfl | rfl | rfl | rfl <;>
    rw [Vf_ne _ _ _ (by decide), Ve_ne _ _ _ (by decide), Vd_ne _ _ _ (by decide), Vc_ne _ _ _ (by decide), Vb_ne _ _ _ (by decide) (by decide), Va_ne _ _ _ (by decide)]

/-- The gather's arrays out of the rest, and back. -/
theorem held_gather (d : Dev nD) (W : Valuation τ sig (Elt Ideal)) :
    (held (SparseCore.T d) SU W : sProp 𝕄)
      = iprop(((xLoc d ↦{fullShare} W (dref main_arg3)) ∗ (iLoc d ↦{fullShare} W (dref main_v5)) ∗ (oLoc d ↦{fullShare} W (dref main_v6)))
          ∗ held (SparseCore.T d) (SU \ {dref main_arg3, dref main_v5, dref main_v6}) W) := by
  unfold held
  rw [SparseCore.bigSep_sdiff_split' (show ({dref main_arg3, dref main_v5, dref main_v6} : Finset (DevRef τ sig)) ⊆ SU by decide)]
  rw [SparseCore.bigSep_insert' (by decide), SparseCore.bigSep_insert' (by decide), bigSep_singleton]

theorem held_rest (d : Dev nD) :
    (held (SparseCore.T d) (SU \ {dref main_arg3, dref main_v5, dref main_v6}) (Vc m d) : sProp 𝕄)
      = held (SparseCore.T d) (SU \ {dref main_arg3, dref main_v5, dref main_v6}) (Vd m d) := by
  unfold held
  refine bigSep_congr fun b hb => ?_
  rw [Vd_ne]
  intro h
  exact (Finset.mem_sdiff.1 hb).2 (by rw [h]; decide)

/-! ## The launch's ghost state -/

/-- The handshakes' cells, the staging pipelines' cells, nothing on the counters. -/
def u₀ : UU := (initOf (K (F := Ideal)).hsCells (K (F := Ideal)).hsToks,
  (initOf (Pipeline.cells (nD := nD) (τ := τ) (Pipeline.pin (pcfgs (F := Ideal)) adm) cellOf_inj) (Pipeline.launchToks (Pipeline.pin (pcfgs (F := Ideal)) adm) cellOf_inj), 1))

/-- What the launch deals a device for the two pipelines. -/
abbrev G (d : Dev nD) : sProp 𝕄 :=
  iprop((bigSep Finset.univ fun p : Fin 2 => Pipeline.cellsGhost (Pipeline.pin (pcfgs (F := Ideal)) adm) EP p d)
    ∗ bigSep Finset.univ fun p : Fin 2 => Pipeline.toksInit (Pipeline.pin (pcfgs (F := Ideal)) adm) EP p d)

theorem ownU_split (a : UH) (b : UPipe) (k : Counters) :
    (ownU ((a, (b, k)) : UU) : sProp 𝕄) ⊢ iprop(BI.own (EH (F := Ideal) a) ∗ BI.own (EP (F := Ideal) b)) := by
  have h1 : (ownU ((a, (b, k)) : UU) : sProp 𝕄) ⊢ iprop(BI.own (EH (F := Ideal) a) ∗ ownU ((1, (b, k)) : UU)) :=
    BI.own_op_elim ((uEmb (nD := nD) (sig := sig) (Ix := HIx 1) (Val := Elt Ideal) (Name := ℕ) (U := UU) (Lvl := ℕ)).toEmb.op_of_mem
      (Prod.mk_mem_op (URA.mem_op_one a) (URA.mem_one_op ((b, k) : UPipe × Counters))))
  have h2 : (ownU ((1, (b, k)) : UU) : sProp 𝕄) ⊢ iprop(BI.own (EP (F := Ideal) b) ∗ ownU ((1, (1, k)) : UU)) :=
    BI.own_op_elim ((uEmb (nD := nD) (sig := sig) (Ix := HIx 1) (Val := Elt Ideal) (Name := ℕ) (U := UU) (Lvl := ℕ)).toEmb.op_of_mem
      (Prod.mk_mem_op (URA.mem_op_one (1 : UH)) (Prod.mk_mem_op (URA.mem_op_one b) (URA.mem_one_op k))))
  exact h1.trans (sep_mono_right (h2.trans sep_elim_left))

theorem bigSep_none {I : Type} (s : Finset I) : (bigSep s fun _ => iprop(emp)) = (iprop(emp) : sProp 𝕄) := bigSep_emp_const s

theorem hu₀ (cx ci co) : (ownU u₀ : sProp 𝕄)
    ⊢ |={Set.univ}=> iprop(BI.own (EH (initOf (K (F := Ideal)).hsCells (K (F := Ideal)).hsToks)) ∗ bigSep Finset.univ G
        ∗ bigSep Finset.univ fun thr : Thread nD τ => bigSep Finset.univ fun q : Fin 1 => (P (F := Ideal) cx ci co).x q thr) := by
  unfold u₀
  iintro Hu
  ihave H := (ownU_split _ _ _) $$ Hu
  icases H with ⟨HH, HP⟩
  imod (Pipeline.fund_ghost (Pipeline.pin (pcfgs (F := Ideal)) adm) (EP (F := Ideal)) cellOf_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P (F := Ideal) cx ci co).x q thr)
    = bigSep Finset.univ fun _ => iprop(emp) from bigSep_congr fun _ _ => bigSep_univ_of_subsingleton (0 : Fin 1), bigSep_none]
  iempintro

/-! ## @main on the TensorCore -/

/-- What @main leaves the claims: the unscoped buffers at the last contents. -/
abbrev FIN (d : Dev nD) : sProp 𝕄 := held (SparseCore.T d) SU (Vf m d)

theorem Otc_none (c : Dev nD) (n : ℕ) (g : GSem nD τ sig) : (K (F := Ideal)).Otc c n g none = 0 := by
  by_contra h
  have := (K (F := Ideal)).lev_of_Otc_pos (Nat.pos_of_ne_zero h)
  exact absurd this (by show ¬ (_ + 1 ≤ 0); omega)

/-- Every distance the top-8 computes is below infinity. -/
def Below : Prop := ∀ (c : Dev nD) (R : Fin 4096) (a : ℕ), a < 100352 → DA m c R a < ⊤

variable (hB : Below m)

/-- The regions of the top-8, entered before the one SparseCore call, and of the weighted sum, entered after it. -/
abbrev regA (n₀ n₁ : ℕ) := reg0 (cont (Va m)) (cont (Ve m)) (fun c => (K (F := Ideal)).Otc c 0) (fun c => (K (F := Ideal)).Otc c 1) n₀ n₁
  (cont (Vb m)) (fun c g => Otc_none c 0 g) hB (fun c => Vb_idx m c) (fun c => Vb_wt m c)
  (fun c b h0 h1 => Vb_ne m c _ (fun h => h0 (Proc.devRef_injective _ h)) (fun h => h1 (Proc.devRef_injective _ h)))
abbrev regB (n₀ n₁ : ℕ) := reg1 (cont (Va m)) (cont (Ve m)) (fun c => (K (F := Ideal)).Otc c 0) (fun c => (K (F := Ideal)).Otc c 1) n₀ n₁
  (cont (Vf m)) (fun c g => Otc_none c 1 g) (fun c => Vf_out m c)
  (fun c b hb => Vf_ne m c _ fun h => hb (Proc.devRef_injective _ h))

theorem regA_pre (n₀ n₁ : ℕ) (d : Dev nD) : (regA m hB n₀ n₁).pre d
    = iprop(unscopedBufs d (cont (Va m) d) ∗ owesB (fun c => (K (F := Ideal)).Otc c 0) n₀ d) := rfl
theorem regA_post (n₀ n₁ : ℕ) (d : Dev nD) : (regA m hB n₀ n₁).post d
    = iprop(unscopedBufs d (cont (Vb m) d) ∗ owesB (fun c => (K (F := Ideal)).Otc c 0) n₀ d) := rfl
theorem regB_pre (n₀ n₁ : ℕ) (d : Dev nD) : (regB m n₀ n₁).pre d
    = iprop(unscopedBufs d (cont (Ve m) d) ∗ owesB (fun c => (K (F := Ideal)).Otc c 1) n₁ d) := rfl
theorem regB_post (n₀ n₁ : ℕ) (d : Dev nD) : (regB m n₀ n₁).post d
    = iprop(unscopedBufs d (cont (Vf m) d) ∗ owesB (fun c => (K (F := Ideal)).Otc c 1) n₁ d) := rfl

theorem unscoped_held (d : Dev nD) (W : Dev nD → Valuation τ sig (Elt Ideal)) :
    (unscopedBufs d (cont W d) : sProp 𝕄) = held (SparseCore.T d) SU (W d) := Pipeline.unscopedBufs_held d (W d)

theorem two_cells (Φ : Fin 2 → sProp 𝕄) : bigSep Finset.univ Φ = iprop(Φ 0 ∗ Φ 1) :=
  bigSep_univ_eq_bigSepL [(0 : Fin 2), (1 : Fin 2)] (by decide) (by decide) Φ

set_option maxRecDepth 16384 in
set_option maxHeartbeats 1000000 in
include hB in
/-- @main on the TensorCore, from its buffers to the result. -/
theorem hmain [∀ e, Nonempty (Elt Ideal e)] (κ : GSem nD τ sig → ℕ) (d : Dev nD) :
    iprop((K (F := Ideal)).ctx EH (P (cx0 m) (ci0 m) (co0 m)) κ ∗ (K (F := Ideal)).tcSt EH d 0 ∗ (K (F := Ideal)).tcRes m ρ d ∗ G d)
      ⊢ wp frame (wpE ((K (F := Ideal)).defs (D (F := Ideal))) 𝒱 (SparseCore.T d) none) Set.univ (main d)
          fun _ => iprop((K (F := Ideal)).tcSt EH d 1 ∗ FIN m d ∗ (K (F := Ideal)).tcEnd d) := by
  unfold SparseCore.Cfg.tcRes SparseCore.Cfg.tcEnd G
  rw [show (unscopedBufs d (fun b => m ((SparseCore.T d).loc b)) : sProp 𝕄) = held (SparseCore.T d) SU (V0 m d) from unscoped_held d (V0 m)]
  rw [two_cells, two_cells]
  simp only [main, fn_pad.body, fn_pad_0.body, wp_bind, wp_pure]
  iintro ⟨#Hctx, Hst, ⟨Hb, Hheld, Hts, -⟩, ⟨Hg0, Hg1⟩, Ht0, Ht1⟩
  ihave Hlev := (SparseCore.Cfg.ctx_levAts κ) $$ Hctx
  iapply (wp_hlo_within 𝒱 (SparseCore.T d) none Set.univ (op := opFar) (S := SU) (Pipeline.sub_ucRefs _ (StableHlo.nullary_bufs_sub ..)) (V := V0 m d)) $$ [Hb Hheld]
  · isplitl [Hb] <;> iassumption
  rw [show (opFar).result (V0 m d) = W1 m d from rfl]
  iintro ⟨Hb, Hheld⟩
  rw [wp_ret]; imodintro
  iapply (wp_hlo_within 𝒱 (SparseCore.T d) none Set.univ (op := opFarC) (S := SU) (Pipeline.sub_ucRefs _ (StableHlo.unary_bufs_sub ..)) (V := W1 m d)) $$ [Hb Hheld]
  · isplitl [Hb] <;> iassumption
  rw [show (opFarC).result (W1 m d) = W2 m d from rfl]
  iintro ⟨Hb, Hheld⟩
  rw [wp_ret]; imodintro
  iapply (wp_hlo_within 𝒱 (SparseCore.T d) none Set.univ (op := opPad) (S := SU) (Pipeline.sub_ucRefs _ (StableHlo.binary_bufs_sub ..)) (V := W2 m d)) $$ [Hb Hheld]
  · isplitl [Hb] <;> iassumption
  rw [show (opPad).result (W2 m d) = W3 m d from rfl]
  iintro ⟨Hb, Hheld⟩
  rw [wp_ret]; imodintro
  imodintro
  iapply (wp_hlo_within 𝒱 (SparseCore.T d) none Set.univ (op := opZero) (S := SU) (Pipeline.sub_ucRefs _ (StableHlo.nullary_bufs_sub ..)) (V := W3 m d)) $$ [Hb Hheld]
  · isplitl [Hb] <;> iassumption
  rw [show (opZero).result (W3 m d) = W4 m d from rfl]
  iintro ⟨Hb, Hheld⟩
  rw [wp_ret]; imodintro
  iapply (wp_hlo_within 𝒱 (SparseCore.T d) none Set.univ (op := opZeroC) (S := SU) (Pipeline.sub_ucRefs _ (StableHlo.unary_bufs_sub ..)) (V := W4 m d)) $$ [Hb Hheld]
  · isplitl [Hb] <;> iassumption
  rw [show (opZeroC).result (W4 m d) = W5 m d from rfl]
  iintro ⟨Hb, Hheld⟩
  rw [wp_ret]; imodintro
  iapply (wp_hlo_within 𝒱 (SparseCore.T d) none Set.univ (op := opPadW) (S := SU) (Pipeline.sub_ucRefs _ (StableHlo.binary_bufs_sub ..)) (V := W5 m d)) $$ [Hb Hheld]
  · isplitl [Hb] <;> iassumption
  rw [show (opPadW).result (W5 m d) = W6 m d from rfl]
  iintro ⟨Hb, Hheld⟩
  rw [wp_ret]; imodintro
  imodintro
  iapply (wp_hlo_within 𝒱 (SparseCore.T d) none Set.univ (op := opTr) (S := SU) (Pipeline.sub_ucRefs _ (StableHlo.unary_bufs_sub ..)) (V := W6 m d)) $$ [Hb Hheld]
  · isplitl [Hb] <;> iassumption
  rw [show (opTr).result (W6 m d) = W7 m d from rfl]
  iintro ⟨Hb, Hheld⟩
  rw [wp_ret]; imodintro
  iapply (wp_hlo_within 𝒱 (SparseCore.T d) none Set.univ (op := opRow) (S := SU) (Pipeline.sub_ucRefs _ (StableHlo.unary_bufs_sub ..)) (V := W7 m d)) $$ [Hb Hheld]
  · isplitl [Hb] <;> iassumption
  rw [show (opRow).result (W7 m d) = Va m d from rfl]
  iintro ⟨Hb, Hheld⟩
  rw [wp_ret]; imodintro
  ihave Hu := (Entails.of_eq (unscoped_held d (Va m)).symm) $$ Hheld
  ihave Hst' := (Entails.of_eq (show (K (F := Ideal)).tcSt EH d 0 = _ by unfold SparseCore.Cfg.tcSt; rfl)) $$ Hst
  icases Hst' with ⟨HO, Hst⟩
  iapply ((K (F := Ideal)).wp_liftProg (D (F := Ideal)) 𝒱 (SparseCore.T d) Set.univ none (.op (.customCall (Pipeline.entry 0) ()) .ret) _)
  iapply (Pipeline.RegionSeg.wp (pcfgs (F := Ideal)) adm _ none cellOf_inj EP defs₀ 𝒱₀ (K (F := Ideal)).L (K (F := Ideal)).lev
    (regA m hB (8 * SparseCore.Cfg.Blocks.fst 1 1 0) (8 * SparseCore.Cfg.Blocks.fst 1 1 1)) d none (fun _ h => nomatch h) .ret _)
  isplitl [Hst Hts Hg1 Ht1]
  · rw [regA_post]; iintro ⟨Hb, Hu, HO⟩
    rw [wp_ret]; imodintro
    ihave Hheld := (Entails.of_eq (unscoped_held d (Vb m))) $$ Hu
    iapply (wp_hlo_within 𝒱 (SparseCore.T d) none Set.univ (op := opFlat) (S := SU) (Pipeline.sub_ucRefs _ (StableHlo.reshape_bufs_sub ..)) (V := Vb m d)) $$ [Hb Hheld]
    · isplitl [Hb] <;> iassumption
    rw [show (opFlat).result (Vb m d) = Vc m d from rfl]
    iintro ⟨Hb, Hheld⟩
    rw [wp_ret]; imodintro
    ihave Hh := (Entails.of_eq (held_gather d (Vc m d))) $$ Hheld
    icases Hh with ⟨⟨Hx, Hi, Ho⟩, Hrest⟩
    iapply ((K (F := Ideal)).wp_run (D (F := Ideal)) 𝒱 (EH := EH) (P := P (cx0 m) (ci0 m) (co0 m)) κ d 0) $$ [HO Hst Hx Hi Ho Hrest Hb Hts Hg1 Ht1]
    isplitr; · iexact Hctx
    isplitl [HO Hst]
    · unfold SparseCore.Cfg.tcSt
      isplitl [HO]; · iexact HO
      iexact Hst
    isplitl [Hi Hx Ho]
    · rw [st0_eq]
      isplitl [Hi]; · iexact Hi
      isplitl [Hx]; · iexact Hx
      iexact Ho
    iintro ⟨Hst, Hdn⟩
    ihave Hdn' := (Entails.of_eq (dn0_eq (cx0 m) (ci0 m) (co0 m) d)) $$ Hdn
    icases Hdn' with ⟨Hi, Hx, Ho⟩
    iapply (wp_hlo_within 𝒱 (SparseCore.T d) none Set.univ (op := opShape) (S := SU) (Pipeline.sub_ucRefs _ (StableHlo.reshape_bufs_sub ..)) (V := Vd m d)) $$ [Hb Hx Hi Ho Hrest]
    · isplitl [Hb]; · iexact Hb
      rw [held_gather, ← held_rest, Vd_o, Vd_ne m d (dref main_arg3) (by decide), Vd_ne m d (dref main_v5) (by decide)]
      isplitr [Hrest]
      · isplitl [Hx]; · iexact Hx
        isplitl [Hi]; · iexact Hi
        iexact Ho
      iexact Hrest
    rw [show (opShape).result (Vd m d) = Ve m d from rfl]
    iintro ⟨Hb, Hheld⟩
    rw [wp_ret]; imodintro
    ihave Hu := (Entails.of_eq (unscoped_held d (Ve m)).symm) $$ Hheld
    ihave Hlev := (SparseCore.Cfg.ctx_levAts κ) $$ Hctx
    unfold SparseCore.Cfg.tcSt
    icases Hst with ⟨HO, Hst⟩
    iapply ((K (F := Ideal)).wp_liftProg (D (F := Ideal)) 𝒱 (SparseCore.T d) Set.univ none (.op (.customCall (Pipeline.entry 1) ()) .ret) _)
    iapply (Pipeline.RegionSeg.wp (pcfgs (F := Ideal)) adm _ none cellOf_inj EP defs₀ 𝒱₀ (K (F := Ideal)).L (K (F := Ideal)).lev
      (regB m (8 * SparseCore.Cfg.Blocks.fst 1 1 0) (8 * SparseCore.Cfg.Blocks.fst 1 1 1)) d none (fun _ h => nomatch h) .ret _)
    isplitl [Hst Hts]
    · rw [regB_post]; iintro ⟨Hb, Hu, HO⟩
      rw [wp_ret]; imodintro; imodintro
      isplitl [HO Hst]
      · isplitl [HO]; · iexact HO
        iexact Hst
      isplitl [Hu]
      · iapply (Entails.of_eq (unscoped_held d (Vf m))); iexact Hu
      isplitl [Hb] <;> iassumption
    isplitl [Hb]; · iexact Hb
    isplitl [Hu HO]
    · rw [regB_pre]; isplitl [Hu]; · iexact Hu
      iexact HO
    isplitl [Hlev]; · iexact Hlev
    isplitl [Hg1] <;> iassumption
  isplitl [Hb]; · iexact Hb
  isplitl [Hu HO]
  · rw [regA_pre]; isplitl [Hu]; · iexact Hu
    iexact HO
  isplitl [Hlev]; · iexact Hlev
  isplitl [Hg0] <;> iassumption

/-! ## The program's run -/

/-- Device `d`'s arguments are as they were in `M`. -/
def Kept (d : Dev nD) (M : (ℓ : Loc nD τ sig) → Buf (Elt Ideal) ℓ) : Prop :=
  M ((SparseCore.T d).loc main_arg0) = m ((SparseCore.T d).loc main_arg0) ∧ M ((SparseCore.T d).loc main_arg1) = m ((SparseCore.T d).loc main_arg1)
    ∧ M ((SparseCore.T d).loc main_arg2) = m ((SparseCore.T d).loc main_arg2) ∧ M ((SparseCore.T d).loc main_arg3) = m ((SparseCore.T d).loc main_arg3)

/-- What the claims read of device `d`'s final state. -/
def fq (d : Dev nD) (s' : Phys nD τ sig (Elt Ideal)) : Prop :=
  s'.mem.mem ((SparseCore.T d).loc main_v8) = out m d ∧ Kept m d s'.mem.mem

/-- A buffer held whole is what the state's memory holds. -/
theorem agree (ℓ : Loc nD τ sig) (f : Buf (Elt Ideal) ℓ) (s' : Phys nD τ sig (Elt Ideal)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

/-- The result and the arguments out of the unscoped buffers. -/
theorem held_ends (d : Dev nD) :
    (FIN m d : sProp 𝕄) ⊢ iprop(((SparseCore.T d).loc main_v8 ↦{fullShare} out m d) ∗ ((SparseCore.T d).loc main_arg0 ↦{fullShare} m ((SparseCore.T d).loc main_arg0))
      ∗ ((SparseCore.T d).loc main_arg1 ↦{fullShare} m ((SparseCore.T d).loc main_arg1)) ∗ ((SparseCore.T d).loc main_arg2 ↦{fullShare} m ((SparseCore.T d).loc main_arg2))
      ∗ ((SparseCore.T d).loc main_arg3 ↦{fullShare} m ((SparseCore.T d).loc main_arg3))) := by
  unfold FIN held
  rw [SparseCore.bigSep_sdiff_split' (show ({dref main_v8, dref main_arg0, dref main_arg1, dref main_arg2, dref main_arg3} : Finset (DevRef τ sig)) ⊆ SU by decide)]
  rw [SparseCore.bigSep_insert' (by decide), SparseCore.bigSep_insert' (by decide), SparseCore.bigSep_insert' (by decide), SparseCore.bigSep_insert' (by decide), bigSep_singleton]
  rw [Vf_out, Vf_arg m d main_arg0 (by decide), Vf_arg m d main_arg1 (by decide), Vf_arg m d main_arg2 (by decide), Vf_arg m d main_arg3 (by decide)]
  exact sep_elim_left

theorem hfin (d : Dev nD) (s' : Phys nD τ sig (Elt Ideal)) : iprop(FIN m d ∗ SI s') ⊢ (⌜fq m d s'⌝ : sProp 𝕄) := by
  iintro ⟨H, HSI⟩
  ihave H := (held_ends m d) $$ H
  icases H with ⟨Hr, Hc, Hp, Hw, Hf⟩
  ihave H := (agree _ _ s') $$ [HSI Hr]; · isplitl [Hr] <;> iassumption
  icases H with ⟨%h0, HSI⟩
  ihave H := (agree _ _ s') $$ [HSI Hc]; · isplitl [Hc] <;> iassumption
  icases H with ⟨%h1, HSI⟩
  ihave H := (agree _ _ s') $$ [HSI Hp]; · isplitl [Hp] <;> iassumption
  icases H with ⟨%h2, HSI⟩
  ihave H := (agree _ _ s') $$ [HSI Hw]; · isplitl [Hw] <;> iassumption
  icases H with ⟨%h3, HSI⟩
  ihave H := (agree _ _ s') $$ [HSI Hf]; · isplitl [Hf] <;> iassumption
  icases H with ⟨%h4, HSI⟩
  ipureintro; exact ⟨h0, h1, h2, h3, h4⟩

/-- What every run ends with. -/
def QC : PUnit × MemSt nD τ sig (Elt Ideal) → Prop := fun r =>
  (∀ d : Dev nD, r.2.mem ((SparseCore.T d).loc main_v8) = out m d ∧ Kept m d r.2.mem) ∧ r.2.sem = fun _ => 0

/-- The row numbers the top-8 chooses are below the table's row count. -/
def Near : Prop := ∀ (d : Dev nD) (j : S4096x8.Idx), (idxArr (DA m d) j).toNat < 100000

/-- The row numbers the gather is given are the top-8's, flattened. -/
theorem ci0_eq (d : Dev nD) : ci0 m d = shapeCast S32768 (idxArr (DA m d)) shapeCasts_S4096x8_S32768 := by
  refine (StableHlo.reshape_result main_v4_0 main_v5 rfl shapeCasts_S4096x8_S32768 _ _ (Vb m d)).trans ?_
  rw [show Vb m d (Proc.devRef .tc main_v4_0) = idxArr (DA m d) from Vb_idx m d]
  rfl

theorem idxOK (h : Near m) : IdxOK (F := Ideal) (ci0 m) := by
  intro d j
  rw [ci0_eq]
  exact h d _

/-- Every run ends with the result at the weighted sum of the gathered rows, the arguments unchanged, the semaphores at zero. -/
theorem run_main [∀ e, Nonempty (Elt Ideal e)] (hB : Below m) (hN : Near m) :
    θ_run (Cert.KernelIdeal.defs (F := Ideal)) (Cert.KernelIdeal.threads (F := Ideal)) ⟨m, fun _ => 0, ρ⟩ (QC m) :=
  SparseCore.Cfg.θ_run_sc_quiescent (K := K (F := Ideal)) (D := D (F := Ideal)) (𝒱 := 𝒱) (EH := EH) (P := P (cx0 m) (ci0 m) (co0 m)) (A := ∅) facts v₀
    (fun q hq => match q with | 0 => nomatch hq)
    (fun q _ => match q with | 0 => tileObl (cx0 m) (co0 m) facts (idxOK m hN))
    (fun q _ => match q with | 0 => SparseCore.Cfg.VecSplit.of_plain (vecSplit (cx0 m) (ci0 m) (co0 m)))
    m ρ main G (FIN m) u₀ (sep_elim_left.trans (hu₀ _ _ _)) (hmain m ρ hB) (fq m) (hfin m) (QC m) (fun _ h hz => ⟨h, hz⟩)

end Cert.Proof.KernelIdeal

end
-- ==== Proof.NearMath.lean ====
/-
  The distance to a node and the weights of the eight nearest, on extended reals: with real coordinates every distance is
  a real, the padding's nodes are farther than every other, and the two ways of writing the weights agree.
  No program is mentioned here.
-/
module

public import proofs.«01_k».proof.Proof.KernelPay

@[expose] public section

noncomputable section

namespace Cert.Proof.NearMath

open Idealize.ShloMosaic
open Cert.Proof.KernelPay

/-- The small constant added to a squared weight, and its inverse. -/
abbrev eps : ℝ := 11258999 / 2 ^ 50
theorem eps_pos : 0 < eps := by norm_num [eps]

/-- A node's divisor: its weight squared plus the small constant. -/
abbrev dvs (w : EReal) : EReal := w * w + Ideal.ofBits .f32 0x322BCC77#32

/-- The divisor is above zero, and its inverse a real between zero and the small constant's inverse. -/
theorem dvs_spec (w : EReal) : dvs w ≠ 0 ∧ ∃ t : ℝ, (dvs w)⁻¹ = (t : EReal) ∧ 0 ≤ t ∧ t ≤ eps⁻¹ := by
  unfold dvs
  rw [f_eps]
  induction w with
  | bot =>
    rw [EReal.bot_mul_bot, EReal.top_add_coe]
    exact ⟨EReal.top_ne_zero, 0, by rw [EReal.inv_top]; rfl, le_rfl, inv_nonneg.2 eps_pos.le⟩
  | top =>
    rw [EReal.top_mul_top, EReal.top_add_coe]
    exact ⟨EReal.top_ne_zero, 0, by rw [EReal.inv_top]; rfl, le_rfl, inv_nonneg.2 eps_pos.le⟩
  | coe w =>
    have h0 : eps ≤ w * w + eps := le_add_of_nonneg_left (mul_self_nonneg w)
    have hp : 0 < w * w + eps := lt_of_lt_of_le eps_pos h0
    rw [← EReal.coe_mul, ← EReal.coe_add]
    exact ⟨EReal.coe_ne_zero.2 hp.ne', (w * w + eps)⁻¹, (EReal.coe_inv _).symm, inv_nonneg.2 hp.le, inv_anti₀ eps_pos h0⟩

/-- The divisor of weight zero. -/
theorem dvs_zero : (dvs ((0 : ℝ) : EReal))⁻¹ = ((eps⁻¹ : ℝ) : EReal) := by
  unfold dvs
  rw [f_eps, ← EReal.coe_mul, ← EReal.coe_add, mul_zero, zero_add, EReal.coe_inv]

/-- A squared distance as it is computed. -/
abbrev sqd (C P : Fin 64 → EReal) : EReal :=
  max (∑ x, C x * C x + ∑ x, P x * P x - Ideal.ofBits .f32 0x40000000#32 * ∑ x, C x * P x) 0

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- With real coordinates it is the sum of the squared differences. -/
theorem sqd_coe (c p : Fin 64 → ℝ) : sqd (fun x => (c x : EReal)) (fun x => (p x : EReal)) = ((∑ x, (c x - p x) ^ 2 : ℝ) : EReal) := by
  unfold sqd
  rw [f_two]
  simp only [← EReal.coe_mul, coe_sum, ← EReal.coe_add, ← EReal.coe_sub]
  have e : ∑ x, c x * c x + ∑ x, p x * p x - 2 * ∑ x, c x * p x = ∑ x, (c x - p x) ^ 2 := by
    rw [Finset.mul_sum, ← Finset.sum_add_distrib, ← Finset.sum_sub_distrib]
    exact Finset.sum_congr rfl fun x _ => by ring
  rw [e]
  exact max_eq_left (EReal.coe_nonneg.2 (Finset.sum_nonneg fun x _ => sq_nonneg _))

/-- The distance: the squared distance over the divisor. -/
abbrev dst (C P : Fin 64 → EReal) (w : EReal) : EReal := sqd C P * (dvs w)⁻¹

/-- Divided, or multiplied by the quotient of one: the distance. -/
theorem dst_div (C P : Fin 64 → EReal) (w : EReal) : Ideal.div (sqd C P) (dvs w) = dst C P w := by
  rw [Ideal.div, if_neg (dvs_spec w).1]
theorem dst_mul (C P : Fin 64 → EReal) (w : EReal) : sqd C P * Ideal.div 1 (dvs w) = dst C P w := by
  rw [Ideal.div, if_neg (dvs_spec w).1, one_mul]

/-- With coordinates below 100000 in size, a distance is a real and at most that of 200000 in every coordinate. -/
theorem dst_near (c p : Fin 64 → ℝ) (hc : ∀ x, |c x| < 100000) (hp : ∀ x, |p x| < 100000) (w : EReal) :
    ∃ t : ℝ, dst (fun x => (c x : EReal)) (fun x => (p x : EReal)) w = (t : EReal) ∧ t ≤ 64 * 200000 ^ 2 * eps⁻¹ := by
  obtain ⟨-, t, ht, h0, h1⟩ := dvs_spec w
  refine ⟨(∑ x, (c x - p x) ^ 2) * t, ?_, ?_⟩
  · unfold dst; rw [sqd_coe, ht, ← EReal.coe_mul]
  · have hs : ∑ x, (c x - p x) ^ 2 ≤ 64 * 200000 ^ 2 := by
      refine (Finset.sum_le_card_nsmul Finset.univ _ (200000 ^ 2) fun x _ => ?_).trans (by norm_num)
      have h1 := abs_lt.1 (hc x)
      have h2 := abs_lt.1 (hp x)
      exact sq_le_sq' (by linarith) (by linarith)
    exact mul_le_mul hs h1 h0 (by norm_num)

/-- The padding's nodes, at 1000000 in every coordinate with weight zero, are farther. -/
theorem dst_far (c : Fin 64 → ℝ) (hc : ∀ x, |c x| < 100000) :
    ∃ t : ℝ, dst (fun x => (c x : EReal)) (fun _ => ((1000000 : ℝ) : EReal)) ((0 : ℝ) : EReal) = (t : EReal) ∧ 64 * 200000 ^ 2 * eps⁻¹ < t := by
  refine ⟨(∑ x, (c x - 1000000) ^ 2) * eps⁻¹, ?_, ?_⟩
  · unfold dst
    rw [dvs_zero, EReal.coe_mul, ← sqd_coe c fun _ => 1000000]
  · refine mul_lt_mul_of_pos_right ?_ (inv_pos.2 eps_pos)
    have hs : (64 : ℝ) * 900000 ^ 2 ≤ ∑ x, (c x - 1000000) ^ 2 := by
      refine le_trans (by norm_num) (Finset.card_nsmul_le_sum Finset.univ _ (900000 ^ 2) fun x _ => ?_)
      have h1 := abs_lt.1 (hc x)
      nlinarith
    exact lt_of_lt_of_le (by norm_num) hs

/-! ## The weights -/

/-- The temperature. -/
abbrev tmp : EReal := Ideal.ofBits .f32 0x3BA3D70A#32
theorem f_tmp : ∃ T : ℝ, tmp = (T : EReal) ∧ 0 < T := by
  refine ⟨10737418 / 2 ^ 31, ?_, by norm_num⟩
  simp [tmp, Ideal.ofBits, Ideal.ieee, -EReal.coe_mul]; norm_num

/-- Weighing by the difference to the nearest's distance, and weighing by the quotients less their greatest: the same. -/
theorem weight_eq (D : Fin 8 → EReal) (d : Fin 8 → ℝ) (hD : ∀ k, D k = (d k : EReal)) (h0 : ∀ k, d 0 ≤ d k) (k : Fin 8) :
    Ideal.div (- -(-(D k))) tmp - max ⊥ (Finset.fold max ⊥ (fun x => Ideal.div (- -(-(D x))) tmp) Finset.univ)
      = Ideal.div (0 - (D k - D 0)) tmp := by
  obtain ⟨T, hT, hp⟩ := f_tmp
  have q (x : Fin 8) : Ideal.div (- -(-(D x))) tmp = ((-(d x) * (1 / T) : ℝ) : EReal) := by
    rw [neg_neg, hD, hT, Ideal.div_coe hp.ne', ← EReal.coe_neg, ← EReal.coe_mul]
  have m : Finset.fold max ⊥ (fun x => Ideal.div (- -(-(D x))) tmp) Finset.univ = ((-(d 0) * (1 / T) : ℝ) : EReal) := by
    refine le_antisymm ?_ ?_
    · rw [Finset.fold_max_le]
      refine ⟨bot_le, fun x _ => ?_⟩
      rw [q]
      exact_mod_cast mul_le_mul_of_nonneg_right (neg_le_neg (h0 x)) (by positivity)
    · rw [Finset.le_fold_max]
      exact Or.inr ⟨0, Finset.mem_univ _, (q 0).ge⟩
  rw [m, q, max_eq_right bot_le, hD, hD, hT, Ideal.div_coe hp.ne', ← EReal.coe_sub, ← EReal.coe_sub, ← EReal.coe_zero, ← EReal.coe_sub, ← EReal.coe_mul]
  congr 1
  ring

end Cert.Proof.NearMath

end
-- ==== Proof.SortEight.lean ====
/-
  The host's top-k of a row of distances, taken on their negations: the first eight positions of the stable sort are the
  eight nearest, equal distances in the order of their positions. No program is mentioned here.
-/
module

public import proofs.«01_k».proof.Proof.TopEight
public import Idealize.ShloMosaic.Lib.SortFacts
public import Idealize.ShloMosaic.Lib.ValueIdx

@[expose] public section

noncomputable section

namespace Cert.Proof.SortEight

open Idealize.ShloMosaic
open Cert.Proof.TopEight

/-- A stable sort of positions in rising order reads its relation only from a later position to an earlier one. -/
theorem stableSort_rising {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    unfold stableSort
    rw [ih hl.of_cons]
    refine insertBefore_congr R R' a _ fun b hb => h a b ?_
    exact List.rel_of_pairwise_cons hl ((perm_stableSort R' l).mem_iff.1 hb)

variable (D : ℕ → EReal) (n : ℕ)

/-- "At a smaller distance", and "at a smaller distance, or the same and at a smaller position". -/
def closer (a b : Fin n) : Bool := decide (D a.val < D b.val)
def sooner (a b : Fin n) : Bool := open Classical in decide (nodeKey D a.val < nodeKey D b.val)

theorem sortedFrom_closer : sortedFrom (closer D n) = sortedFrom (sooner D n) := by
  have e : sortPositions n (closer D n) = sortPositions n (sooner D n) := by
    refine stableSort_rising _ _ (fun a b hab => ?_) _ (List.pairwise_lt_finRange n)
    unfold closer sooner
    refine decide_eq_decide.2 ?_
    rw [nodeKey_lt]
    have : a.val < b.val := hab
    constructor
    · exact fun h => Or.inl h
    · rintro (h | ⟨-, h⟩)
      · exact h
      · omega
  funext k
  unfold sortedFrom
  rw [List.get_of_eq e]
  rfl

/-- The sorted positions rise in (distance, position). -/
theorem closer_mono (i j : Fin n) (h : i < j) : nodeKey D (sortedFrom (closer D n) i).val < nodeKey D (sortedFrom (closer D n) j).val := by
  have hn := sortedFrom_noInversion (sooner D n) (sooner D n)
    (fun a b h => by
      unfold sooner at h ⊢
      exact decide_eq_false (not_lt.2 (le_of_lt (of_decide_eq_true h))))
    (fun _ _ h => h)
    (fun a b c h1 h2 => by
      unfold sooner at h1 h2 ⊢
      exact decide_eq_false (not_lt.2 (le_trans (not_lt.1 (of_decide_eq_false h2)) (not_lt.1 (of_decide_eq_false h1))))) i j h
  rw [sortedFrom_closer]
  refine lt_of_le_of_ne (not_lt.1 (of_decide_eq_false hn)) fun e => ?_
  have := sortedFrom_injective _ (Fin.ext (nodeKey_inj D _ _ e))
  exact absurd this (ne_of_lt h)

/-- The first eight sorted positions are the eight nearest. -/
theorem closer_best (hn : 8 ≤ n) : IsBest D (· < n) fun k : Fin 8 => (sortedFrom (closer D n) ⟨k.val, by omega⟩).val where
  mem k := (sortedFrom (closer D n) _).isLt
  mono i j h := closer_mono D n _ _ h
  rest a ha hne := by
    obtain ⟨p, hp⟩ := sortedFrom_surjective (closer D n) ⟨a, ha⟩
    have hp' : (sortedFrom (closer D n) p).val = a := by rw [hp]
    have h8 : 8 ≤ p.val := by
      by_contra hlt
      exact hne ⟨p.val, by omega⟩ hp'
    have := closer_mono D n ⟨7, by omega⟩ p (show 7 < p.val by omega)
    rw [hp'] at this
    exact this

/-! ## The top-k of an array's rows -/

abbrev Dist : Shape := ⟨2, ![4096, 100000]⟩
abbrev Best : Shape := ⟨2, ![4096, 8]⟩

theorem gt_neg (a b : EReal) : (Ideal.cmpTotal .gt (-a) (-b) == 1#1) = decide (a < b) := by
  have h : Ideal.cmpTotal .gt (-a) (-b) = BitVec.ofBool (decide (a < b)) := by
    simp [Ideal.cmpTotal, Ideal.cmp, CmpDirection.ordered]
  rw [h]
  cases decide (a < b) <;> rfl

/-- Row `q`'s sorted positions. -/
abbrev best (x : Dist.Idx → EReal) (q : Fin 4096) (k : Fin 8) : Fin 100000 :=
  sortedFrom (closer (fun a => if h : a < 100000 then x (ix2 q (⟨a, h⟩ : Fin 100000)) else ⊤) 100000) ⟨k.val, by omega⟩

variable (x y : Dist.Idx → EReal) (hy : ∀ j, y j = -x j) (h : Dist.Slices (fun _ => 0) Best)

theorem along_row (j : Dist.Idx) (k : Fin 100000) : j.along (1 : Fin 2) k = ix2 (j 0) k := by
  funext a
  refine Fin.ext ?_
  match a with
  | ⟨0, _⟩ => rfl
  | ⟨1, _⟩ => rfl

include hy in
theorem before_eq (j : Dist.Idx) (k k' : Fin 100000) :
    ((FloatOps.cmpfTotal (F := Ideal) (φ := .f32) .gt (y (j.along (1 : Fin 2) k)) (y (j.along (1 : Fin 2) k'))) == 1#1)
      = closer (fun a => if h : a < 100000 then x (ix2 (j 0) (⟨a, h⟩ : Fin 100000)) else ⊤) 100000 k k' := by
  rw [hy, hy]
  refine (gt_neg _ _).trans ?_
  unfold closer
  simp only [k.isLt, k'.isLt, dif_pos, along_row]
  rfl

/-- The first columns' slice reads the sorted array at its own row and column. -/
theorem slice_apply {α : Type} (f : Dist.Idx → α) (q : Fin 4096) (k : Fin 8) :
    extractStridedSlice Best (fun _ => 0) f h (ix2 q k) = f (ix2 q (⟨k.val, by omega⟩ : Fin 100000)) := by
  unfold extractStridedSlice
  refine congrArg f (funext fun a => Fin.ext ?_)
  match a with
  | ⟨0, _⟩ => exact Nat.zero_add _
  | ⟨1, _⟩ => exact Nat.zero_add _

include hy in
/-- One array carried by the sort of the rows of `y` with another: element `(q, k)` is read at the sorted position. -/
theorem carried {α β : Type} (z : Dist.Idx → α) (w : Dist.Idx → β) (q : Fin 4096) (k : Fin 8) :
    Host.sortBy Dist 1 (fun l r : EReal × β => FloatOps.cmpfTotal (F := Ideal) (φ := .f32) .gt l.1 r.1) (fun j => (y j, w j)) z
      (ix2 q (⟨k.val, by omega⟩ : Fin 100000)) = z (ix2 q (best x q k)) := by
  unfold Host.sortBy
  rw [dif_pos (show 1 < Dist.rank by decide)]
  refine congrArg z ((along_row _ _).trans (congrArg (fun p => ix2 q p) ?_))
  refine congrFun (congrArg sortedFrom (funext fun a => funext fun b => ?_)) _
  exact before_eq x y hy (ix2 q (⟨k.val, by omega⟩ : Fin 100000)) a b

/-- The columns' numbers. -/
def cols : Dist.Idx → BitVec 32 := fun i => if hd : 1 < Dist.rank then iotaInDim Dist 32 ⟨1, hd⟩ i else 0#32

include hy in
/-- The values of the top-8, the negated distances at the sorted positions; and the positions. -/
theorem topK_vals (q : Fin 4096) (k : Fin 8) :
    (Host.topK Best 1 (FloatOps.cmpfTotal (F := Ideal) (φ := .f32) .gt) y h).1 (ix2 q k) = y (ix2 q (best x q k)) := by
  unfold Host.topK
  dsimp only
  refine (slice_apply h _ q k).trans ?_
  rw [Host.sort2_eq_sortBy]
  exact carried x y hy y cols q k

include hy in
theorem topK_idx (q : Fin 4096) (k : Fin 8) :
    (Host.topK Best 1 (FloatOps.cmpfTotal (F := Ideal) (φ := .f32) .gt) y h).2 (ix2 q k) = BitVec.ofNat 32 (best x q k).val := by
  unfold Host.topK
  dsimp only
  refine (slice_apply h _ q k).trans ?_
  rw [Host.sort2_eq_sortBy]
  refine (carried x y hy cols cols q k).trans ?_
  unfold cols
  rw [dif_pos (show 1 < Dist.rank by decide)]
  rfl

end Cert.Proof.SortEight

end
-- ==== Proof.RefParts.lean ====
/-
  The reference's term over the extended reals, named in parts (the distances, the exponentials of the eight nearest,
  their weights, the weighted rows) and each read at an index.
-/
module

public import proofs.«01_k».proof.Proof.NearMath
public import proofs.«01_k».proof.Proof.SortEight
public import proofs.«01_k».proof.Proof.RowGather
public import proofs.«01_k».proof.Proof.Gen.ReferenceIdeal.Run

@[expose] public section

noncomputable section

namespace Cert.Proof.RefParts

open Idealize.ShloMosaic Idealize.ShloMosaic.TcCoe Idealize.SL.Sem
open Cert.ReferenceIdeal Cert.ReferenceIdeal.Gen
open Cert.Proof.NearMath Cert.Proof.KernelPay

/-- Every query's distance to every node. -/
def dists (c : FVec Ideal S4096x64 .f32) (p : FVec Ideal S100000x64 .f32) (w : FVec Ideal S100000 .f32) : FVec Ideal S4096x100000 .f32 :=
  Host.divf (maximumf (subf (addf (broadcastInDim S4096x100000 ![0, 1] bcast_S4096x1_S4096x100000_0_1 (broadcastInDim S4096x1 ![0] bcast_S4096_S4096x1_0 (Host.reduceAdd (mulf c c) (constant S_ .f32 0x00000000#32) reducesTo_S4096x64_S4096_d1 h_S_))) (broadcastInDim S4096x100000 ![0, 1] bcast_S1x100000_S4096x100000_0_1 (broadcastInDim S1x100000 ![1] bcast_S100000_S1x100000_1 (Host.reduceAdd (mulf p p) (constant S_ .f32 0x00000000#32) reducesTo_S100000x64_S100000_d1 h_S_)))) (mulf (broadcastInDim S4096x100000 ![] bcast_S_S4096x100000 (constant S_ .f32 0x40000000#32)) (Host.dotGeneral dot_S4096x64_S64x100000_S4096x100000_1_0_0_1_n_n none c (transpose S64x100000 [1, 0] p transposes_S100000x64_S64x100000_1_0)))) (broadcastInDim S4096x100000 ![] bcast_S_S4096x100000 (constant S_ .f32 0x00000000#32))) (broadcastInDim S4096x100000 ![0, 1] bcast_S1x100000_S4096x100000_0_1 (addf (mulf (broadcastInDim S1x100000 ![1] bcast_S100000_S1x100000_1 w) (broadcastInDim S1x100000 ![1] bcast_S100000_S1x100000_1 w)) (broadcastInDim S1x100000 ![] bcast_S_S1x100000 (constant S_ .f32 0x322BCC77#32))))

/-- The exponents of the weights, from the values of the top-8 (the negated distances). -/
def expo (v : FVec Ideal S4096x8 .f32) : FVec Ideal S4096x8 .f32 :=
  subf (Host.divf (Host.negf (Host.negf v)) (broadcastInDim S4096x8 ![] bcast_S_S4096x8 (constant S_ .f32 0x3BA3D70A#32))) (broadcastInDim S4096x8 ![0, 1] bcast_S4096x1_S4096x8_0_1 (broadcastInDim S4096x1 ![0] bcast_S4096_S4096x1_0 (maximumf (broadcastInDim S4096 ![] bcast_S_S4096 (constant S_ .f32 0xFF800000#32)) (Host.reduce FloatOps.maximumf (Host.divf (Host.negf (Host.negf v)) (broadcastInDim S4096x8 ![] bcast_S_S4096x8 (constant S_ .f32 0x3BA3D70A#32))) (constant S_ .f32 0xFF800000#32) reducesTo_S4096x8_S4096_d1 h_S_))))

/-- Exponentials over their row's sum. -/
def soft (e : FVec Ideal S4096x8 .f32) : FVec Ideal S4096x8 .f32 :=
  Host.divf (Host.exp e) (broadcastInDim S4096x8 ![0, 1] bcast_S4096x1_S4096x8_0_1 (broadcastInDim S4096x1 ![0] bcast_S4096_S4096x1_0 (Host.reduceAdd (Host.exp e) (constant S_ .f32 0x00000000#32) reducesTo_S4096x8_S4096_d1 h_S_)))

/-- The rows numbered `i` of the table `x`, weighed by `u` and summed. -/
def summed (x : FVec Ideal S100000x128 .f32) (i : IVec S4096x8 32) (u : FVec Ideal S4096x8 .f32) : FVec Ideal S4096x128 .f32 :=
  Host.reduceAdd (mulf (broadcastInDim S4096x8x128 ![0, 1, 2] bcast_S4096x8x1_S4096x8x128_0_1_2 (broadcastInDim S4096x8x1 ![0, 1] bcast_S4096x8_S4096x8x1_0_1 u)) (Host.gather gather_S100000x128_S4096x8x1_S4096x8x128_2_0_n_n_0_2_1128 x (broadcastInDim S4096x8x1 ![0, 1] bcast_S4096x8_S4096x8x1_0_1 (select (cmpi .slt i (broadcastInDim S4096x8 ![] bcast_S_S4096x8 (constantI S_ 32 0#32))) (addi i (broadcastInDim S4096x8 ![] bcast_S_S4096x8 (constantI S_ 32 100000#32))) i)))) (constant S_ .f32 0x00000000#32) reducesTo_S4096x8x128_S4096x128_d1 h_S_

/-- The top-8 of the negated distances. -/
abbrev tops (d : FVec Ideal S4096x100000 .f32) : FVec Ideal S4096x8 .f32 × IVec S4096x8 32 :=
  Host.topK S4096x8 1 (FloatOps.cmpfTotal .gt) (Host.negf d) sliceFits_S4096x100000_S4096x8

/-- The reference's term, from its parts. -/
def term (c : FVec Ideal S4096x64 .f32) (p : FVec Ideal S100000x64 .f32) (w : FVec Ideal S100000 .f32) (x : FVec Ideal S100000x128 .f32) :
    FVec Ideal S4096x128 .f32 :=
  summed x (tops (dists c p w)).2 (soft (expo (tops (dists c p w)).1))

theorem res_eq (m : (ℓ : Loc nD τ sig) → Buf (Elt Ideal) ℓ) (c : Dev nD) : Cert.ReferenceIdeal.Value.res_main_v48 m c
    = term (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v48 term tops dists expo soft summed
  rfl

theorem dists_apply (c : FVec Ideal S4096x64 .f32) (p : FVec Ideal S100000x64 .f32) (w : FVec Ideal S100000 .f32) (q : Fin 4096) (a : Fin 100000) :
    dists c p w (ix2 q a) = dst (fun x => c (ix2 q x)) (fun x => p (ix2 a x)) (w (ix1 a)) := by
  rw [← dst_div]
  unfold sqd dvs
  pointwise [dists]
  done

theorem expo_apply (v : FVec Ideal S4096x8 .f32) (q : Fin 4096) (k : Fin 8) :
    expo v (ix2 q k) = Ideal.div (- -(v (ix2 q k))) tmp - max ⊥ (Finset.fold max ⊥ (fun x => Ideal.div (- -(v (ix2 q x))) tmp) Finset.univ) := by
  rw [← f_ninf]
  pointwise [expo]
  done

theorem soft_apply (e : FVec Ideal S4096x8 .f32) (q : Fin 4096) (k : Fin 8) :
    soft e (ix2 q k) = Ideal.div (Ideal.exp (e (ix2 q k))) (∑ x, Ideal.exp (e (ix2 q x))) := by
  pointwise [soft]
  done

/-- The weighted rows at query `q`, lane `l`, the row numbers below the table's row count. -/
theorem summed_apply (x : FVec Ideal S100000x128 .f32) (i : IVec S4096x8 32) (u : FVec Ideal S4096x8 .f32)
    (f : Fin 8 → Fin 100000) (q : Fin 4096) (hi : ∀ k, i (ix2 q k) = BitVec.ofNat 32 (f k).val) (l : Fin 128) :
    summed x i u (ix2 q l) = ∑ k : Fin 8, u (ix2 q k) * x (ix2 (f k) l) := by
  have hg : ∀ j k l, Host.gather gather_S100000x128_S4096x8x1_S4096x8x128_2_0_n_n_0_2_1128 x j (ix3 q k l) = _ :=
    fun j k l => RowGather.gather_apply gather_S100000x128_S4096x8x1_S4096x8x128_2_0_n_n_0_2_1128_wf x j q k l
  pointwise [summed]
  simp only [hg]
  refine Finset.sum_congr rfl fun k _ => congrArg (fun a => u (ix2 q k) * x (ix2 a l)) (Fin.ext ?_)
  show min (BitVec.toInt _).toNat 99999 = (f k).val
  have hn : (BitVec.ofNat 32 (f k).val).toNat = (f k).val := by
    rw [BitVec.toNat_ofNat]; exact Nat.mod_eq_of_lt (by have := (f k).isLt; omega)
  have hk : (i (ix2 q k)).toNat < 100000 := by rw [hi, hn]; exact (f k).isLt
  pointwise
  rw [RowGather.not_slt_zero _ hk]
  exact (RowGather.clamp_of_lt _ hk).trans (by rw [hi, hn])

end Cert.Proof.RefParts

end
-- ==== Proof.KernelEq.lean ====
/-
  The whole kernel at the extended reals: what its run leaves is the reference's term, the coordinates below 100000 in
  size.
-/
module

public import proofs.«01_k».proof.Proof.KernelRun
public import proofs.«01_k».proof.Proof.RefParts
public import proofs.«01_k».proof.Proof.Gen.Pre_coords_in_range
public import Idealize.ShloMosaic.Lib.KernelVsHost
public import Idealize.ShloMosaic.Lib.ReduceAll

@[expose] public section

noncomputable section

namespace Cert.Proof.KernelEq

open Idealize.ShloMosaic Idealize.ShloMosaic.TcCoe Idealize.SL.Sem
open Cert.Proof.KernelIdeal Cert.Proof.NearMath Cert.Proof.TopEight Cert.Proof.KernelPay
open Cert.KernelIdeal Cert.KernelIdeal.Gen

/-! ## The eight nearest of a longer list -/

/-- Entries past `M` that are farther than every entry before it change nothing. -/
theorem best_extend {D E : ℕ → EReal} {M N : ℕ} {f : Fin 8 → ℕ} (h : IsBest E (· < M) f) (hMN : M ≤ N)
    (hE : ∀ a, a < M → D a = E a) (hfar : ∀ a, a < M → ∀ b, M ≤ b → b < N → D a < D b) : IsBest D (· < N) f where
  mem k := lt_of_lt_of_le (h.mem k) hMN
  mono i j hij := by
    have := h.mono i j hij
    unfold nodeKey at this ⊢
    rwa [hE _ (h.mem i), hE _ (h.mem j)]
  rest a ha hne := by
    by_cases hM : a < M
    · have := h.rest a hM hne
      unfold nodeKey at this ⊢
      rwa [hE _ (h.mem 7), hE _ hM]
    · exact (nodeKey_lt D _ _).2 (Or.inl (hfar _ (h.mem 7) a (not_lt.1 hM) ha))

/-! ## The kernel's pieces at an index -/

theorem row_eq (q : Fin 4096) : rowAt (q.val / 512) (by omega) (⟨q.val % 512, Nat.mod_lt _ (by decide)⟩ : Fin 512) = q :=
  Fin.ext (by show 512 * (q.val / 512) + q.val % 512 = q.val; omega)

theorem fptosi_nat (n : ℕ) (h : n < 100000) : FloatOps.fptosi (F := Ideal) (φ := .f32) 32 ((n : ℝ) : EReal) = BitVec.ofNat 32 n := by
  show Ideal.fptosi 32 _ = _
  rw [Ideal.fptosi, Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num
    omega
  rw [e]
  exact BitVec.ofInt_natCast 32 n

variable (D : Fin 4096 → ℕ → EReal)

theorem idx18_apply (v : FVec Ideal S512x8 .f32) (r : Fin 512) (k : Fin 8) : k0_pay18 (F := Ideal) v (ix2 r k) = FloatOps.fptosi 32 (v (ix2 r k)) := by
  pointwise [k0_pay18]

theorem wt17_apply (v : FVec Ideal S512x8 .f32) (r : Fin 512) (k : Fin 8) :
    k0_pay17 (F := Ideal) v (ix2 r k) = Ideal.div (Ideal.exp (Ideal.div (0 - (v (ix2 r k) - v (ix2 r 0))) tmp))
      (∑ x : Fin 8, Ideal.exp (Ideal.div (0 - (v (ix2 r x) - v (ix2 r 0))) tmp)) := by
  pointwise [k0_pay17]
  done

theorem idxArr_apply (q : Fin 4096) (k : Fin 8) (h : near (D q) k < 100000) : idxArr D (ix2 q k) = BitVec.ofNat 32 (near (D q) k) := by
  refine (idx18_apply _ (⟨q.val % 512, Nat.mod_lt _ (by decide)⟩ : Fin 512) k).trans ?_
  refine Eq.trans ?_ (fptosi_nat _ h)
  exact congrArg (fun a => FloatOps.fptosi (F := Ideal) (φ := .f32) 32 ((near (D a) k : ℝ) : EReal)) (row_eq q)

theorem wtArr_apply (q : Fin 4096) (k : Fin 8) :
    wtArr D (ix2 q k) = Ideal.div (Ideal.exp (Ideal.div (0 - (D q (near (D q) k) - D q (near (D q) 0))) tmp))
      (∑ x : Fin 8, Ideal.exp (Ideal.div (0 - (D q (near (D q) x) - D q (near (D q) 0))) tmp)) := by
  refine (wt17_apply _ (⟨q.val % 512, Nat.mod_lt _ (by decide)⟩ : Fin 512) k).trans ?_
  exact congrArg (fun a => Ideal.div (Ideal.exp (Ideal.div (0 - (D a (near (D a) k) - D a (near (D a) 0))) tmp))
      (∑ x : Fin 8, Ideal.exp (Ideal.div (0 - (D a (near (D a) x) - D a (near (D a) 0))) tmp))) (row_eq q)

/-- A block's weighted sum at row `r`, lane `l`: the sum over the eight slots of row times weight. -/
theorem sumBlk_apply (X : FVec Ideal S512x8x128 .f32) (W : FVec Ideal S512x8 .f32) (r : Fin 512) (l : Fin 128) :
    KernelIdeal.sumBlk (F := Ideal) X W (ix2 r l) = ∑ k : Fin 8, X (ix3 r k l) * W (ix2 r k) := by
  pointwise [KernelIdeal.sumBlk, k2_pay1]

theorem sumArr_apply (x : FVec Ideal S4096x8x128 .f32) (w : FVec Ideal S4096x8 .f32) (q : Fin 4096) (l : Fin 128) :
    KernelIdeal.sumArr (F := Ideal) x w (ix2 q l) = ∑ k : Fin 8, x (ix3 q k l) * w (ix2 q k) := by
  refine (sumBlk_apply _ _ (⟨q.val % 512, Nat.mod_lt _ (by decide)⟩ : Fin 512) l).trans ?_
  refine Finset.sum_congr rfl fun k _ => ?_
  exact congrArg₂ (· * ·) (congrArg x (congrArg (fun a => ix3 a k l) (row_eq q))) (congrArg w (congrArg (fun a => ix2 a k) (row_eq q)))

/-! ## The padded arrays -/

variable (m : (ℓ : Loc nD τ sig) → Buf (Elt Ideal) ℓ) (d : Dev nD)

/-- The arguments, at their shapes. -/
abbrev argC : FVec Ideal S4096x64 .f32 := m ((SparseCore.T d).loc main_arg0)
abbrev argP : FVec Ideal S100000x64 .f32 := m ((SparseCore.T d).loc main_arg1)
abbrev argW : FVec Ideal S100000 .f32 := m ((SparseCore.T d).loc main_arg2)
abbrev argX : FVec Ideal S100000x128 .f32 := m ((SparseCore.T d).loc main_arg3)

theorem Va_c : (Va m d (dref main_arg0) : S4096x64.Idx → EReal) = argC m d := Va_ne m d _ (by decide)

theorem skip (op : HloOp τ sig (Elt Ideal)) (r : DevRef τ sig) (hw : op.writes = {r}) (W : Valuation τ sig (Elt Ideal)) (b : DevRef τ sig)
    (hb : b ≠ r) : op.result W b = W b := op.result_of_not_mem _ (by rw [hw]; exact fun h => hb (Finset.mem_singleton.1 h))

/-- The padded and transposed positions, and the padded weights as a row. -/
theorem Va_p : (Va m d (dref main_v2) : S64x100352.Idx → EReal)
    = transpose S64x100352 [1, 0] (pad S100352x64 ![0, 0] ![352, 0] ![0, 0] (argP m d) (constant (F := Ideal) S_ .f32 0x49742400#32) pads_S100000x64_S100352x64_03520_000 h_S_)
        transposes_S100352x64_S64x100352_1_0 := by
  have e1 : (W1 m d (dref main_cst) : S_.Idx → EReal) = constant (F := Ideal) S_ .f32 0x49742400#32 := StableHlo.nullary_result _ _ _ _
  have e2 : (W2 m d (dref main_call0_v0) : S_.Idx → EReal) = W1 m d (dref main_cst) := StableHlo.unary_result main_cst main_call0_v0 _ _ _ _
  have e2' : W2 m d (dref main_arg1) = m ((SparseCore.T d).loc main_arg1) :=
    (skip opFarC (dref main_call0_v0) rfl _ _ (by decide)).trans (skip opFar (dref main_cst) rfl _ _ (by decide))
  have e3 : (W3 m d (dref main_v0) : S100352x64.Idx → EReal)
      = pad S100352x64 ![0, 0] ![352, 0] ![0, 0] (W2 m d (dref main_arg1) : S100000x64.Idx → EReal) (W2 m d (dref main_call0_v0) : S_.Idx → EReal) pads_S100000x64_S100352x64_03520_000 h_S_ :=
    StableHlo.binary_result main_arg1 main_call0_v0 main_v0 _ _ _ _ _
  have e6 : W6 m d (dref main_v0) = W3 m d (dref main_v0) :=
    (skip opPadW (dref main_v1) rfl _ _ (by decide)).trans ((skip opZeroC (dref main_call1_v0) rfl _ _ (by decide)).trans (skip opZero (dref main_c) rfl _ _ (by decide)))
  have e7 : (W7 m d (dref main_v2) : S64x100352.Idx → EReal) = transpose S64x100352 [1, 0] (W6 m d (dref main_v0) : S100352x64.Idx → EReal) transposes_S100352x64_S64x100352_1_0 :=
    StableHlo.unary_result main_v0 main_v2 _ _ _ _
  have e8 : Va m d (dref main_v2) = W7 m d (dref main_v2) := skip opRow (dref main_v3) rfl _ _ (by decide)
  rw [e8, e7, e6, e3, e2', e2, e1]

theorem Va_w : (Va m d (dref main_v3) : S1x100352.Idx → EReal)
    = broadcastInDim S1x100352 ![1] bcast_S100352_S1x100352_1 (pad S100352 ![0] ![352] ![0] (argW m d) (sitofp (F := Ideal) .f32 (constantI S_ 32 0#32)) pads_S100000_S100352_03520 h_S_) := by
  have e4 : (W4 m d (dref main_c) : S_.Idx → BitVec 32) = constantI S_ 32 0#32 := StableHlo.nullary_result _ _ _ _
  have e5 : (W5 m d (dref main_call1_v0) : S_.Idx → EReal) = sitofp (F := Ideal) .f32 (W4 m d (dref main_c) : S_.Idx → BitVec 32) := StableHlo.unary_result main_c main_call1_v0 _ _ _ _
  have e5' : W5 m d (dref main_arg2) = m ((SparseCore.T d).loc main_arg2) :=
    (skip opZeroC (dref main_call1_v0) rfl _ _ (by decide)).trans ((skip opZero (dref main_c) rfl _ _ (by decide)).trans
      ((skip opPad (dref main_v0) rfl _ _ (by decide)).trans ((skip opFarC (dref main_call0_v0) rfl _ _ (by decide)).trans (skip opFar (dref main_cst) rfl _ _ (by decide)))))
  have e6 : (W6 m d (dref main_v1) : S100352.Idx → EReal)
      = pad S100352 ![0] ![352] ![0] (W5 m d (dref main_arg2) : S100000.Idx → EReal) (W5 m d (dref main_call1_v0) : S_.Idx → EReal) pads_S100000_S100352_03520 h_S_ :=
    StableHlo.binary_result main_arg2 main_call1_v0 main_v1 _ _ _ _ _
  have e7 : W7 m d (dref main_v1) = W6 m d (dref main_v1) := skip opTr (dref main_v2) rfl _ _ (by decide)
  have e8 : (Va m d (dref main_v3) : S1x100352.Idx → EReal) = broadcastInDim S1x100352 ![1] bcast_S100352_S1x100352_1 (W7 m d (dref main_v1) : S100352.Idx → EReal) :=
    StableHlo.unary_result main_v1 main_v3 _ _ _ _
  rw [e8, e7, e6, e5', e5, e4]

theorem pos_real (x : Fin 64) (a : Fin 100352) (h : a.val < 100000) :
    (Va m d (dref main_v2) : S64x100352.Idx → EReal) (ix2 x a) = argP m d (ix2 (⟨a.val, h⟩ : Fin 100000) x) := by
  rw [Va_p]
  pointwise
  exact dif_pos h

theorem pos_far (x : Fin 64) (a : Fin 100352) (h : ¬ a.val < 100000) :
    (Va m d (dref main_v2) : S64x100352.Idx → EReal) (ix2 x a) = ((1000000 : ℝ) : EReal) := by
  rw [Va_p]
  pointwise
  exact (dif_neg h).trans f_mil

theorem wt_real (a : Fin 100352) (h : a.val < 100000) :
    (Va m d (dref main_v3) : S1x100352.Idx → EReal) (ix2 (0 : Fin 1) a) = argW m d (ix1 (⟨a.val, h⟩ : Fin 100000)) := by
  rw [Va_w]
  pointwise
  exact dif_pos h

theorem wt_far (a : Fin 100352) (h : ¬ a.val < 100000) :
    (Va m d (dref main_v3) : S1x100352.Idx → EReal) (ix2 (0 : Fin 1) a) = ((0 : ℝ) : EReal) := by
  rw [Va_w]
  pointwise
  refine (dif_neg h).trans ?_
  show (((0#32 : BitVec 32).toInt : ℝ) : EReal) = _
  simp

/-- A padded node's distance: of the node, or of the padding. -/
theorem DA_real (q : Fin 4096) (a : Fin 100000) :
    DA m d q a.val = dst (fun x => argC m d (ix2 q x)) (fun x => argP m d (ix2 a x)) (argW m d (ix1 a)) := by
  have h : a.val < 100352 := by omega
  unfold DA DV distOf
  rw [dif_pos h, ← dst_mul]
  unfold dcell sqd dvs
  have hp (x : Fin 64) := pos_real m d x ⟨a.val, h⟩ a.isLt
  have hw := wt_real m d ⟨a.val, h⟩ a.isLt
  have hc := Va_c m d
  simp only [cont]
  rw [hw, hc]
  simp only [hp]

theorem DA_far (q : Fin 4096) (a : ℕ) (h : a < 100352) (hn : ¬ a < 100000) :
    DA m d q a = dst (fun x => argC m d (ix2 q x)) (fun _ => ((1000000 : ℝ) : EReal)) ((0 : ℝ) : EReal) := by
  unfold DA DV distOf
  rw [dif_pos h, ← dst_mul]
  unfold dcell sqd dvs
  have hp (x : Fin 64) := pos_far m d x ⟨a, h⟩ hn
  have hw := wt_far m d ⟨a, h⟩ hn
  have hc := Va_c m d
  simp only [cont]
  rw [hw, hc]
  simp only [hp]

/-! ## The precondition -/

/-- A value of absolute value below 100000 is a real of absolute value below 100000. -/
theorem small_real (x : EReal) (h : FloatOps.cmpf (F := Ideal) (φ := .f32) .olt (max x (-x)) (Ideal.ofBits .f32 0x47C35000#32) = 1#1) :
    ∃ t : ℝ, x = (t : EReal) ∧ |t| < 100000 := by
  have hlt : max x (-x) < ((100000 : ℝ) : EReal) := by
    rw [f_hun] at h
    by_contra hn
    exact absurd (h.symm.trans (show BitVec.ofBool (decide (max x (-x) < ((100000 : ℝ) : EReal))) = 0#1 by rw [decide_eq_false hn]; rfl)) (by decide)
  obtain ⟨h1, h2⟩ := max_lt_iff.1 hlt
  induction x with
  | bot => exact absurd h2 (by simp)
  | top => exact absurd h1 (by simp)
  | coe t =>
    refine ⟨t, rfl, abs_lt.2 ⟨?_, EReal.coe_lt_coe_iff.1 h1⟩⟩
    rw [← EReal.coe_neg] at h2
    linarith [EReal.coe_lt_coe_iff.1 h2]

/-- The coordinates are reals below 100000 in size. -/
structure Small : Prop where
  c : ∀ (q : Fin 4096) (x : Fin 64), ∃ t : ℝ, argC m d (ix2 q x) = (t : EReal) ∧ |t| < 100000
  p : ∀ (a : Fin 100000) (x : Fin 64), ∃ t : ℝ, argP m d (ix2 a x) = (t : EReal) ∧ |t| < 100000

theorem small_of_pre (h : Cert.Pre_KernelIdeal m) (d : Dev nD) : Small m d := by
  have hand (a b : BitVec 1) : IntOp.andi a b = 1#1 → a = 1#1 ∧ b = 1#1 := by revert a b; decide
  have e := congrFun (h d) (fun a => a.elim0)
  dsimp only [Pre_coords_in_range.fn] at e
  obtain ⟨e1, e2⟩ := hand _ _ e
  haveI : Subsingleton Cert.Pre_coords_in_range.S_.Idx := ⟨fun a b => funext fun i => i.elim0⟩
  exact ⟨fun q x => small_real _ (Host.reduce_andi_all _ _ _ _ _ e1 (ix2 q x)), fun a x => small_real _ (Host.reduce_andi_all _ _ _ _ _ e2 (ix2 a x))⟩

/-! ## The eight nearest -/

/-- The reference's distances, and its sorted positions. -/
abbrev dsR : FVec Ideal Cert.ReferenceIdeal.S4096x100000 .f32 := RefParts.dists (argC m d) (argP m d) (argW m d)
abbrev bst (q : Fin 4096) (k : Fin 8) : Fin 100000 := SortEight.best (dsR m d) q k

variable {m d} (hs : Small m d)

include hs in
theorem near_real (q : Fin 4096) (a : Fin 100000) : ∃ t : ℝ, DA m d q a.val = (t : EReal) ∧ t ≤ 64 * 200000 ^ 2 * eps⁻¹ := by
  choose c hc hc' using hs.c q
  choose p hp hp' using hs.p a
  rw [DA_real]
  simp only [hc, hp]
  exact dst_near c p hc' hp' _

include hs in
theorem far_real (q : Fin 4096) (a : ℕ) (h : a < 100352) (hn : ¬ a < 100000) :
    ∃ t : ℝ, DA m d q a = (t : EReal) ∧ 64 * 200000 ^ 2 * eps⁻¹ < t := by
  choose c hc hc' using hs.c q
  rw [DA_far m d q a h hn]
  simp only [hc]
  exact dst_far c hc'

include hs in
theorem best_is (q : Fin 4096) : IsBest (DA m d q) (· < 100352) fun k => (bst m d q k).val := by
  have h := SortEight.closer_best (fun a => if h : a < 100000 then dsR m d (ix2 q (⟨a, h⟩ : Fin 100000)) else ⊤) 100000 (by norm_num)
  refine best_extend h (by norm_num) (fun a ha => ?_) fun a ha b hb hb' => ?_
  · rw [dif_pos ha]
    exact (DA_real m d q ⟨a, ha⟩).trans (RefParts.dists_apply _ _ _ q ⟨a, ha⟩).symm
  · obtain ⟨t, ht, ht'⟩ := near_real hs q ⟨a, ha⟩
    obtain ⟨u, hu, hu'⟩ := far_real hs q b hb' (not_lt.2 hb)
    rw [show DA m d q a = (t : EReal) from ht, hu]
    exact EReal.coe_lt_coe_iff.2 (lt_of_le_of_lt ht' hu')

include hs in
theorem near_is (q : Fin 4096) (k : Fin 8) : near (DA m d q) k = (bst m d q k).val := congrFun (near_eq _ _ (best_is hs q)) k

include hs in
theorem below_top (q : Fin 4096) (a : ℕ) (h : a < 100352) : DA m d q a < ⊤ := by
  by_cases hn : a < 100000
  · obtain ⟨t, ht, -⟩ := near_real hs q ⟨a, hn⟩
    rw [show DA m d q a = (t : EReal) from ht]
    exact EReal.coe_lt_top t
  · obtain ⟨t, ht, -⟩ := far_real hs q a h hn
    rw [ht]
    exact EReal.coe_lt_top t

include hs in
theorem idx_is (q : Fin 4096) (k : Fin 8) : idxArr (DA m d) (ix2 q k) = BitVec.ofNat 32 (bst m d q k).val := by
  rw [idxArr_apply _ _ _ (by rw [near_is hs]; exact (bst m d q k).isLt), near_is hs]

theorem nat_word (a : Fin 100000) : (BitVec.ofNat 32 a.val).toNat = a.val := by
  rw [BitVec.toNat_ofNat]; exact Nat.mod_eq_of_lt (by have := a.isLt; omega)

theorem row_word (a : Fin 100000) : KernelIdeal.rowOfWord (BitVec.ofNat 32 a.val) = a := by
  unfold KernelIdeal.rowOfWord
  rw [dif_pos (by rw [nat_word]; exact a.isLt)]
  exact Fin.ext (nat_word a)

include hs in
theorem near_rows (j : S4096x8.Idx) : (idxArr (DA m d) j).toNat < 100000 := by
  obtain ⟨q, k, rfl⟩ : ∃ (q : Fin 4096) (k : Fin 8), j = ix2 q k := ⟨j 0, j 1, (ValueIdx.eq_ix2 j)⟩
  rw [idx_is hs, nat_word]
  exact (bst m d q k).isLt

/-! ## The result -/

variable (m d) in
/-- The rows the SparseCore call leaves, shaped by query and slot. -/
theorem rows_apply (q : Fin 4096) (k : Fin 8) (l : Fin 128) :
    (Ve m d (dref main_v7) : S4096x8x128.Idx → EReal) (ix3 q k l) = argX m d (ix2 (KernelIdeal.rowOfWord (idxArr (DA m d) (ix2 q k))) l) := by
  have e3 : (Ve m d (dref main_v7) : S4096x8x128.Idx → EReal)
      = shapeCast S4096x8x128 (Vd m d (dref main_v6) : S32768x128.Idx → EReal) shapeCasts_S32768x128_S4096x8x128 :=
    StableHlo.reshape_result main_v6 main_v7 rfl shapeCasts_S32768x128_S4096x8x128 _ _ (Vd m d)
  have e2 : (Vd m d (dref main_v6) : S32768x128.Idx → EReal)
      = KernelIdeal.gath (Vc m d (dref main_arg3) : S100000x128.Idx → EReal) (ci0 m d : S32768.Idx → BitVec 32) := Vd_o m d
  have e0 : (Vc m d (dref main_arg3) : S100000x128.Idx → EReal) = argX m d :=
    (Vc_ne m d _ (by decide)).trans ((Vb_ne m d _ (by decide) (by decide)).trans (Va_ne m d _ (by decide)))
  rw [e3, e2, e0, ci0_eq]
  refine (RowGather.shape_rows _ shapeCasts_S32768x128_S4096x8x128 q k l).trans ?_
  exact congrArg (fun a => argX m d (ix2 (KernelIdeal.rowOfWord a) l)) (RowGather.flat_nums _ shapeCasts_S4096x8_S32768 q k)

variable (m d) in
theorem wts_is : (Ve m d (dref main_v4_1) : S4096x8.Idx → EReal) = wtArr (DA m d) :=
  (Ve_ne m d _ (by decide)).trans ((Vd_ne m d _ (by decide)).trans ((Vc_ne m d _ (by decide)).trans (Vb_wt m d)))

include hs in
/-- The weights are the reference's. -/
theorem weights_eq (q : Fin 4096) (k : Fin 8) :
    wtArr (DA m d) (ix2 q k) = RefParts.soft (RefParts.expo (RefParts.tops (dsR m d)).1) (ix2 q k) := by
  have hv (x : Fin 8) : (RefParts.tops (dsR m d)).1 (ix2 q x) = -(DA m d q (bst m d q x).val) := by
    refine (SortEight.topK_vals (dsR m d) (Host.negf (dsR m d)) (fun _ => rfl) _ q x).trans ?_
    show -(dsR m d (ix2 q (bst m d q x))) = _
    exact congrArg Neg.neg ((RefParts.dists_apply _ _ _ q _).trans (DA_real m d q _).symm)
  choose t ht _ using fun x : Fin 8 => near_real hs q (bst m d q x)
  have h0 (x : Fin 8) : t 0 ≤ t x := by
    rcases Fin.eq_zero_or_eq_succ x with rfl | ⟨y, rfl⟩
    · exact le_rfl
    · have := (nodeKey_lt _ _ _).1 ((best_is hs q).mono 0 y.succ (Fin.succ_pos y))
      rw [ht, ht] at this
      rcases this with h | h
      · exact (EReal.coe_lt_coe_iff.1 h).le
      · exact (EReal.coe_eq_coe_iff.1 h.1).le
  have he (x : Fin 8) : RefParts.expo (RefParts.tops (dsR m d)).1 (ix2 q x)
      = Ideal.div (0 - (DA m d q (bst m d q x).val - DA m d q (bst m d q 0).val)) tmp := by
    rw [RefParts.expo_apply]
    simp only [hv]
    exact weight_eq (fun x => DA m d q (bst m d q x).val) t ht h0 x
  rw [wtArr_apply, RefParts.soft_apply]
  simp only [he, near_is hs]

include hs in
/-- The kernel's result is the reference's term. -/
theorem out_eq : out m d = RefParts.term (argC m d) (argP m d) (argW m d) (argX m d) := by
  funext j
  obtain ⟨q, l, rfl⟩ : ∃ (q : Fin 4096) (l : Fin 128), j = ix2 q l := ⟨j 0, j 1, (ValueIdx.eq_ix2 j)⟩
  unfold RefParts.term
  rw [RefParts.summed_apply _ _ _ (bst m d q) q (fun k => SortEight.topK_idx (dsR m d) (Host.negf (dsR m d)) (fun _ => rfl) _ q k)]
  refine (sumArr_apply _ _ q l).trans ?_
  refine Finset.sum_congr rfl fun k _ => ?_
  rw [rows_apply, wts_is, weights_eq hs, idx_is hs, row_word, mul_comm]

/-! ## The claims -/

theorem run_of_pre (m : (ℓ : Loc nD τ sig) → Buf (Elt Ideal) ℓ) (ρ : Dev nD → PrngReg) (h : Cert.Pre_KernelIdeal m) :
    θ_run (Cert.KernelIdeal.defs (F := Ideal)) (Cert.KernelIdeal.threads (F := Ideal)) ⟨m, fun _ => 0, ρ⟩ (QC m) :=
  run_main m ρ (fun d q a ha => below_top (small_of_pre m h d) q a ha) (fun d j => near_rows (small_of_pre m h d) j)

/-- The whole kernel ends on every run, its arguments as they were and every semaphore at zero. -/
theorem frame : Cert.quiescent_KernelIdeal := fun m ρ hpre =>
  (θ_run Cert.KernelIdeal.defs _ _).mono (fun _ h => ⟨fun c => (h.1 c).2, h.2⟩) (run_of_pre m ρ hpre)

/-- The whole kernel and the reference, from the same arguments, end with the same result, their arguments unchanged. -/
theorem agree : Cert.algebraic_KernelIdeal_ReferenceIdeal := by
  intro m ρ m' ρ' hpre hargs
  refine ⟨out m, ?_, ?_⟩
  · exact (θ_run Cert.KernelIdeal.defs _ _).mono (fun _ h c => h.1 c) (run_of_pre m ρ hpre)
  · refine (θ_run Cert.ReferenceIdeal.defs _ _).mono (fun _ h c => ⟨(h c).1.trans ?_, (h c).2⟩) (Cert.ReferenceIdeal.Value.run (F := Ideal) m' ρ')
    rw [out_eq (small_of_pre m hpre c)]
    obtain ⟨h0, h1, h2, h3⟩ := hargs c
    refine (RefParts.res_eq m' c).trans ?_
    rw [h0, h1, h2, h3]

/-- The reference ends on every run, its arguments as they were; it has no semaphore. -/
theorem ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.KernelEq

end
-- ==== Proof.lean ====
/-
  The claims. The whole kernel, at the extended reals with the coordinates below 100000 in size, ends on every run with
  its arguments unchanged and every semaphore at zero; so does its reference; and they leave the same result. The gathered
  rows' weighted sum, at the machine's floats and at the extended reals, ends likewise, as does its reference; its two
  programs denote the same operations; and at the extended reals it and its reference leave the same result.
-/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherRefIdeal
public import proofs.«01_k».proof.Proof.Gen.GatherRefIdeal.Run
public import proofs.«01_k».proof.Proof.Gen.Pre_idx_in_rows
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_coords_in_range
public import proofs.«01_k».proof.Proof.GatherRun
public import proofs.«01_k».proof.Proof.GatherEq
public import proofs.«01_k».proof.Proof.KernelEq
public import Idealize.ShloMosaic.Adequacy
public import Idealize.ShloMosaic.Init

@[expose] public section

noncomputable section

namespace Cert.Proof

open Idealize.ShloMosaic Idealize.SL.Sem Cert.Gather

/-- Every claim, from the programs' side conditions. -/
theorem claim : Cert.Claim := ⟨Cert.Gather.Gen.facts, Cert.GatherIdeal.Gen.facts, Cert.GatherRefIdeal.Gen.facts, Cert.KernelIdeal.Gen.facts,
  Cert.ReferenceIdeal.Gen.facts, Cert.Pre_idx_in_rows.Gen.facts, Cert.Pre_coords_in_range.Gen.facts, Gather.frame, GatherIdeal.frame,
  GatherEq.ref_frame, KernelEq.frame, KernelEq.ref_frame, trivial, GatherEq.agree, KernelEq.agree⟩

end Cert.Proof

end
